-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Fox [hPre_causal_finite : Cert.Pre_causal_finite.Facts] (m : (ℓ : Loc Cert.Fox.nD Cert.Fox.τ Cert.Fox.sig) → Buf (Elt Bits) ℓ) : Prop :=
  ∀ c : Dev Cert.Fox.nD,
    (Cert.Pre_causal_finite.fn (F := Bits) (m ((c.tc : Thread Cert.Fox.nD Cert.Fox.τ).loc Cert.Fox.main_arg0)) (m ((c.tc : Thread Cert.Fox.nD Cert.Fox.τ).loc Cert.Fox.main_arg1)) (m ((c.tc : Thread Cert.Fox.nD Cert.Fox.τ).loc Cert.Fox.main_arg2)) (m ((c.tc : Thread Cert.Fox.nD Cert.Fox.τ).loc Cert.Fox.main_arg3)) (m ((c.tc : Thread Cert.Fox.nD Cert.Fox.τ).loc Cert.Fox.main_arg4))) = (fun _ => 1#1)

def Pre_FoxIdeal [hPre_causal_finite : Cert.Pre_causal_finite.Facts] (m : (ℓ : Loc Cert.FoxIdeal.nD Cert.FoxIdeal.τ Cert.FoxIdeal.sig) → Buf (Elt Ideal) ℓ) : Prop :=
  ∀ c : Dev Cert.FoxIdeal.nD,
    (Cert.Pre_causal_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_causal_finite [hPre_causal_finite : Cert.Pre_causal_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_causal_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def quiescent_Fox [hFox : Cert.Fox.Facts] [hPre_causal_finite : Cert.Pre_causal_finite.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] [hPre_causal_finite : Cert.Pre_causal_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_causal_finite [hFoxRefIdeal : Cert.FoxRefIdeal.Facts] [hPre_causal_finite : Cert.Pre_causal_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_causal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v22_3)) (v1 : (c : Dev Cert.InprojIdeal.nD) → Buf (Elt Ideal) ((c.tc : Thread Cert.InprojIdeal.nD Cert.InprojIdeal.τ).loc Cert.InprojIdeal.main_v22_4)) (v2 : (c : Dev Cert.InprojIdeal.nD) → Buf (Elt Ideal) ((c.tc : Thread Cert.InprojIdeal.nD Cert.InprojIdeal.τ).loc Cert.InprojIdeal.main_v22_8)) (v3 : (c : Dev Cert.InprojIdeal.nD) → Buf (Elt Ideal) ((c.tc : Thread Cert.InprojIdeal.nD Cert.InprojIdeal.τ).loc Cert.InprojIdeal.main_v22_9)) (v4 : (c : Dev Cert.InprojIdeal.nD) → Buf (Elt Ideal) ((c.tc : Thread Cert.InprojIdeal.nD Cert.InprojIdeal.τ).loc Cert.InprojIdeal.main_v22_11)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v22_3) = v0 c
          ∧ r.2.mem ((c.tc : Thread Cert.InprojIdeal.nD Cert.InprojIdeal.τ).loc Cert.InprojIdeal.main_v22_4) = v1 c
          ∧ r.2.mem ((c.tc : Thread Cert.InprojIdeal.nD Cert.InprojIdeal.τ).loc Cert.InprojIdeal.main_v22_8) = v2 c
          ∧ r.2.mem ((c.tc : Thread Cert.InprojIdeal.nD Cert.InprojIdeal.τ).loc Cert.InprojIdeal.main_v22_9) = v3 c
          ∧ r.2.mem ((c.tc : Thread Cert.InprojIdeal.nD Cert.InprojIdeal.τ).loc Cert.InprojIdeal.main_v22_11) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v55) = v0 c
          ∧ r.2.mem ((c.tc : Thread Cert.InprojRefIdeal.nD Cert.InprojRefIdeal.τ).loc Cert.InprojRefIdeal.main_v58) = v1 c
          ∧ r.2.mem ((c.tc : Thread Cert.InprojRefIdeal.nD Cert.InprojRefIdeal.τ).loc Cert.InprojRefIdeal.main_v46) = v2 c
          ∧ r.2.mem ((c.tc : Thread Cert.InprojRefIdeal.nD Cert.InprojRefIdeal.τ).loc Cert.InprojRefIdeal.main_v47) = v3 c
          ∧ r.2.mem ((c.tc : Thread Cert.InprojRefIdeal.nD Cert.InprojRefIdeal.τ).loc Cert.InprojRefIdeal.main_v52) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7))

def preserves_Fox_FoxIdeal : Prop :=
  IdealRules.named_const.Statement Cert.FoxIdeal.κ "mask" .f32 0xF149F2CA#32 ⊥

def algebraic_FoxIdeal_FoxRefIdeal [hFoxIdeal : Cert.FoxIdeal.Facts] [hFoxRefIdeal : Cert.FoxRefIdeal.Facts] [hPre_causal_finite : Cert.Pre_causal_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v70) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hFox : Cert.Fox.Facts) (hFoxIdeal : Cert.FoxIdeal.Facts) (hFoxRefIdeal : Cert.FoxRefIdeal.Facts) (hPre_finite_router : Cert.Pre_finite_router.Facts) (hPre_causal_finite : Cert.Pre_causal_finite.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Fox (hFox := hFox) (hPre_causal_finite := hPre_causal_finite)
    ∧ quiescent_FoxIdeal (hFoxIdeal := hFoxIdeal) (hPre_causal_finite := hPre_causal_finite)
    ∧ quiescent_FoxRefIdeal (hFoxRefIdeal := hFoxRefIdeal)
    ∧ quiescent_FoxRefIdeal_pre_causal_finite (hFoxRefIdeal := hFoxRefIdeal) (hPre_causal_finite := hPre_causal_finite)
    ∧ preserves_Kernel_KernelIdeal
    ∧ algebraic_KernelIdeal_ReferenceIdeal_pre_finite_router (hKernelIdeal := hKernelIdeal) (hReferenceIdeal := hReferenceIdeal) (hPre_finite_router := hPre_finite_router)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_Fox_FoxIdeal
    ∧ algebraic_FoxIdeal_FoxRefIdeal (hFoxIdeal := hFoxIdeal) (hFoxRefIdeal := hFoxRefIdeal) (hPre_causal_finite := hPre_causal_finite)
-- ==== Pre_causal_finite.lean ====
abbrev S136 : Shape := ⟨1, ![136]⟩
abbrev S2x4x8192x256 : Shape := ⟨4, ![2, 4, 8192, 256]⟩
abbrev S16384x512 : Shape := ⟨2, ![16384, 512]⟩
abbrev S_ : Shape := ⟨0, ![]⟩

class Facts : Prop where
  reducesTo_S136_S_d0 : S136.ReducesTo [0] S_
  h_S_ : 0 < S_.numel
  bitsLt_bf16_f32 : FTy.bits .bf16 < FTy.bits .f32
  bcast_S_S2x4x8192x256 : S_.BroadcastsInDim S2x4x8192x256 (![] : Fin 0 → Fin S2x4x8192x256.rank)
  reducesTo_S2x4x8192x256_S_d0_1_2_3 : S2x4x8192x256.ReducesTo [0, 1, 2, 3] S_

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn_part1 {F : FTy → Type} [FloatOps F] (main_v10 : IVec S_ 1) (main_v15 : IVec S_ 1) : IVec S_ 1 :=
  let main_v16 : IVec S_ 1 := andi main_v10 main_v15
  main_v16

def fn {F : FTy → Type} [FloatOps F] (main_arg0 : IVec S136 32) (main_arg1 : IVec S136 32) (main_arg2 : FVec F S2x4x8192x256 .bf16) (main_arg3 : FVec F S2x4x8192x256 .bf16) (main_arg4 : FVec F S16384x512 .bf16) : IVec S_ 1 :=
  let main_c : IVec S136 32 := fun i => lit0 (S136.rowMajor i)
  let main_c_0 : IVec S136 32 := fun i => lit1 (S136.rowMajor i)
  let main_v0 : IVec S136 1 := cmpi .eq main_arg0 main_c
  let main_c_1 : IVec S_ 1 := constantI S_ 1 1#1
  let main_v1 : IVec S_ 1 := (fun x v => Host.reduce IntOp.andi x v reducesTo_S136_S_d0 h_S_) main_v0 main_c_1
  let main_v2 : IVec S136 1 := cmpi .eq main_arg1 main_c_0
  let main_c_2 : IVec S_ 1 := constantI S_ 1 1#1
  let main_v3 : IVec S_ 1 := (fun x v => Host.reduce IntOp.andi x v reducesTo_S136_S_d0 h_S_) main_v2 main_c_2
  let main_v4 : IVec S_ 1 := andi main_v1 main_v3
  let main_v5 : FVec F S2x4x8192x256 .f32 := (extf .f32 · bitsLt_bf16_f32) main_arg2
  let main_v6 : FVec F S2x4x8192x256 .f32 := Host.absf main_v5
  let main_cst : FVec F S_ .f32 := constant S_ .f32 0x7F800000#32
  let main_v7 : FVec F S2x4x8192x256 .f32 := broadcastInDim S2x4x8192x256 ![] bcast_S_S2x4x8192x256 main_cst
  let main_v8 : IVec S2x4x8192x256 1 := cmpf .olt main_v6 main_v7
  let main_c_3 : IVec S_ 1 := constantI S_ 1 1#1
  let main_v9 : IVec S_ 1 := (fun x v => Host.reduce IntOp.andi x v reducesTo_S2x4x8192x256_S_d0_1_2_3 h_S_) main_v8 main_c_3
  let main_v10 : IVec S_ 1 := andi main_v4 main_v9
  let main_v11 : FVec F S2x4x8192x256 .f32 := (extf .f32 · bitsLt_bf16_f32) main_arg3
  let main_v12 : FVec F S2x4x8192x256 .f32 := Host.absf main_v11
  let main_cst_4 : FVec F S_ .f32 := constant S_ .f32 0x7F800000#32
  let main_v13 : FVec F S2x4x8192x256 .f32 := broadcastInDim S2x4x8192x256 ![] bcast_S_S2x4x8192x256 main_cst_4
  let main_v14 : IVec S2x4x8192x256 1 := cmpf .olt main_v12 main_v13
  let main_c_5 : IVec S_ 1 := constantI S_ 1 1#1
  let main_v15 : IVec S_ 1 := (fun x v => Host.reduce IntOp.andi x v reducesTo_S2x4x8192x256_S_d0_1_2_3 h_S_) main_v14 main_c_5
  fn_part1 (F := F) main_v10 main_v15
-- ==== Pre_finite_router.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x128 : Shape := ⟨3, ![32, 1024, 128]⟩
abbrev S32x128x1024 : Shape := ⟨3, ![32, 128, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S4x1024x8 : S_.BroadcastsInDim S4x1024x8 (![] : Fin 0 → Fin S4x1024x8.rank)
  reducesTo_S4x1024x8_S_d0_1_2 : S4x1024x8.ReducesTo [0, 1, 2] S_
  bcast_S_S4x8 : S_.BroadcastsInDim S4x8 (![] : Fin 0 → Fin S4x8.rank)
  reducesTo_S4x8_S_d0_1 : S4x8.ReducesTo [0, 1] S_

variable [Facts]

def fn_part1 {F : FTy → Type} [FloatOps F] (main_arg4 : FVec F S4x1024x8 .f32) (main_arg5 : FVec F S4x8 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x1024x8 .f32 := Host.absf main_arg4
  let main_cst_6 : FVec F S_ .f32 := constant S_ .f32 0x7F800000#32
  let main_v20 : FVec F S4x1024x8 .f32 := broadcastInDim S4x1024x8 ![] bcast_S_S4x1024x8 main_cst_6
  let main_v21 : IVec S4x1024x8 1 := cmpf .olt main_v19 main_v20
  let main_c_7 : IVec S_ 1 := constantI S_ 1 1#1
  let main_v22 : IVec S_ 1 := (fun x v => Host.reduce IntOp.andi x v reducesTo_S4x1024x8_S_d0_1_2 h_S_) main_v21 main_c_7
  let main_v23 : IVec S_ 1 := andi main_v18 main_v22
  let main_v24 : FVec F S4x8 .f32 := Host.absf main_arg5
  let main_cst_8 : FVec F S_ .f32 := constant S_ .f32 0x7F800000#32
  let main_v25 : FVec F S4x8 .f32 := broadcastInDim S4x8 ![] bcast_S_S4x8 main_cst_8
  let main_v26 : IVec S4x8 1 := cmpf .olt main_v24 main_v25
  let main_c_9 : IVec S_ 1 := constantI S_ 1 1#1
  let main_v27 : IVec S_ 1 := (fun x v => Host.reduce IntOp.andi x v reducesTo_S4x8_S_d0_1 h_S_) main_v26 main_c_9
  let main_v28 : IVec S_ 1 := andi main_v23 main_v27
  main_v28

def fn {F : FTy → Type} [FloatOps F] (main_arg0 : FVec F S16384x1024 .f32) (main_arg1 : FVec F S1024 .f32) (main_arg2 : FVec F S1024x4 .f32) (main_arg3 : FVec F S4 .f32) (main_arg4 : FVec F S4x1024x8 .f32) (main_arg5 : FVec F S4x8 .f32) (main_arg6 : FVec F S32x1024x128 .f32) (main_arg7 : FVec F S32x1024x128 .f32) (main_arg8 : FVec F S32x128x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_v13 main_v16
-- ==== Kernel.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x128 : Shape := ⟨3, ![32, 1024, 128]⟩
abbrev S32x128x1024 : Shape := ⟨3, ![32, 128, 1024]⟩
abbrev S1024x4x8 : Shape := ⟨3, ![1024, 4, 8]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S1024x32x128 : Shape := ⟨3, ![1024, 32, 128]⟩
abbrev S1024x4096 : Shape := ⟨2, ![1024, 4096]⟩
abbrev S4096x1024 : Shape := ⟨2, ![4096, 1024]⟩
abbrev S512x1024 : Shape := ⟨2, ![512, 1024]⟩
abbrev S1024x512 : Shape := ⟨2, ![1024, 512]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 29
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S4x1024x8, .f32⟩
  | .hbm, ⟨5, _⟩ => ⟨S4x8, .f32⟩
  | .hbm, ⟨6, _⟩ => ⟨S32x1024x128, .f32⟩
  | .hbm, ⟨7, _⟩ => ⟨S32x1024x128, .f32⟩
  | .hbm, ⟨8, _⟩ => ⟨S32x128x1024, .f32⟩
  | .hbm, ⟨9, _⟩ => ⟨S1024x4x8, .f32⟩
  | .hbm, ⟨10, _⟩ => ⟨S1024x32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S32, .f32⟩
  | .hbm, ⟨15, _⟩ => ⟨S_, .f32⟩
  | .hbm, ⟨16, _⟩ => ⟨S92, .f32⟩
  | .hbm, ⟨17, _⟩ => ⟨S128, .f32⟩
  | .hbm, ⟨18, _⟩ => ⟨S1x128, .f32⟩
  | .hbm, ⟨19, _⟩ => ⟨S1x1024, .f32⟩
  | .hbm, ⟨20, _⟩ => ⟨S1024x32x128, .f32⟩
  | .hbm, ⟨21, _⟩ => ⟨S1024x4096, .f32⟩
  | .hbm, ⟨22, _⟩ => ⟨S1024x4096, .bf16⟩
  | .hbm, ⟨23, _⟩ => ⟨S1024x32x128, .f32⟩
  | .hbm, ⟨24, _⟩ => ⟨S1024x4096, .f32⟩
  | .hbm, ⟨25, _⟩ => ⟨S1024x4096, .bf16⟩
  | .hbm, ⟨26, _⟩ => ⟨S4096x1024, .f32⟩
  | .hbm, ⟨27, _⟩ => ⟨S4096x1024, .bf16⟩
  | .hbm, ⟨28, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x128 : Shape := ⟨3, ![32, 1024, 128]⟩
abbrev S32x128x1024 : Shape := ⟨3, ![32, 128, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4 : Shape := ⟨2, ![16384, 4]⟩
abbrev S1x4 : Shape := ⟨2, ![1, 4]⟩
abbrev S16384x1x1 : Shape := ⟨3, ![16384, 1, 1]⟩
abbrev S1 : Shape := ⟨1, ![1]⟩
abbrev S1x1x1 : Shape := ⟨3, ![1, 1, 1]⟩
abbrev S16384x4x8 : Shape := ⟨3, ![16384, 4, 8]⟩
abbrev S1x4x8 : Shape := ⟨3, ![1, 4, 8]⟩
abbrev S16384x1x8 : Shape := ⟨3, ![16384, 1, 8]⟩
abbrev S16384x8 : Shape := ⟨2, ![16384, 8]⟩
abbrev S16384x2 : Shape := ⟨2, ![16384, 2]⟩
abbrev S16384x2x1 : Shape := ⟨3, ![16384, 2, 1]⟩
abbrev S1x1x32 : Shape := ⟨3, ![1, 1, 32]⟩
abbrev S16384x2x32 : Shape := ⟨3, ![16384, 2, 32]⟩
abbrev S16384x32 : Shape := ⟨2, ![16384, 32]⟩
abbrev S16384x32x128 : Shape := ⟨3, ![16384, 32, 128]⟩
abbrev S16384x32x1 : Shape := ⟨3, ![16384, 32, 1]⟩

abbrev nBuf : Space → Nat
  | .hbm => 156
  | .vmem => 0
  | .smem => 0
  | _ => 0

abbrev hbmTy0_0 (i : Nat) : BufTy := match i % 128 with
  | 0 => ⟨S16384x1024, .f32⟩
  | 1 => ⟨S1024, .f32⟩
  | 2 => ⟨S1024x4, .f32⟩
  | 3 => ⟨S4, .f32⟩
  | 4 => ⟨S4x1024x8, .f32⟩
  | 5 => ⟨S4x8, .f32⟩
  | 6 => ⟨S32x1024x128, .f32⟩
  | 7 => ⟨S32x1024x128, .f32⟩
  | 8 => ⟨S32x128x1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S16384x4, .f32⟩
  | 26 => ⟨S1x4, .f32⟩
  | 27 => ⟨S16384x4, .f32⟩
  | 28 => ⟨S16384x4, .f32⟩
  | 29 => ⟨S_, .f32⟩
  | 30 => ⟨S16384, .f32⟩
  | 31 => ⟨S_, .f32⟩
  | 32 => ⟨S16384, .f32⟩
  | 33 => ⟨S16384, .f32⟩
  | 34 => ⟨S16384x1, .f32⟩
  | 35 => ⟨S16384x4, .f32⟩
  | 36 => ⟨S16384x4, .f32⟩
  | 37 => ⟨S16384x4, .f32⟩
  | 38 => ⟨S_, .f32⟩
  | 39 => ⟨S16384, .f32⟩
  | 40 => ⟨S16384x1, .f32⟩
  | 41 => ⟨S16384x4, .f32⟩
  | 42 => ⟨S16384x4, .f32⟩
  | 43 => ⟨S16384x4, .i32⟩
  | 44 => ⟨S_, .f32⟩
  | 45 => ⟨S_, .i32⟩
  | 46 => ⟨S16384, .f32⟩
  | 47 => ⟨S16384, .i32⟩
  | 48 => ⟨S16384x1, .i32⟩
  | 49 => ⟨S_, .i32⟩
  | 50 => ⟨S16384x1, .i32⟩
  | 51 => ⟨S16384x1, .i1⟩
  | 52 => ⟨S_, .i32⟩
  | 53 => ⟨S16384x1, .i32⟩
  | 54 => ⟨S16384x1, .i32⟩
  | 55 => ⟨S16384x1, .i32⟩
  | 56 => ⟨S16384x1x1, .i32⟩
  | 57 => ⟨S1, .i32⟩
  | 58 => ⟨S_, .i32⟩
  | 59 => ⟨S16384x1x1, .i32⟩
  | 60 => ⟨S16384x1x1, .i1⟩
  | 61 => ⟨S1x1x1, .i32⟩
  | 62 => ⟨S16384x1x1, .i32⟩
  | 63 => ⟨S16384x1x1, .i1⟩
  | 64 => ⟨S16384x1x1, .i1⟩
  | 65 => ⟨S_, .i1⟩
  | 66 => ⟨S16384x1, .i1⟩
  | 67 => ⟨S16384x1, .f32⟩
  | 68 => ⟨S_, .f32⟩
  | 69 => ⟨S16384x1, .f32⟩
  | 70 => ⟨S16384x1, .f32⟩
  | 71 => ⟨S16384x4x8, .f32⟩
  | 72 => ⟨S1x4x8, .f32⟩
  | 73 => ⟨S16384x4x8, .f32⟩
  | 74 => ⟨S16384x4x8, .f32⟩
  | 75 => ⟨S16384x1x1, .i32⟩
  | 76 => ⟨S_, .i32⟩
  | 77 => ⟨S16384x1x1, .i32⟩
  | 78 => ⟨S16384x1x1, .i1⟩
  | 79 => ⟨S_, .i32⟩
  | 80 => ⟨S16384x1x1, .i32⟩
  | 81 => ⟨S16384x1x1, .i32⟩
  | 82 => ⟨S16384x1x1, .i32⟩
  | 83 => ⟨S1, .i32⟩
  | 84 => ⟨S_, .i32⟩
  | 85 => ⟨S16384x1x1, .i32⟩
  | 86 => ⟨S16384x1x1, .i1⟩
  | 87 => ⟨S1x1x1, .i32⟩
  | 88 => ⟨S16384x1x1, .i32⟩
  | 89 => ⟨S16384x1x1, .i1⟩
  | 90 => ⟨S16384x1x1, .i1⟩
  | 91 => ⟨S_, .i1⟩
  | 92 => ⟨S16384x1, .i1⟩
  | 93 => ⟨S16384x1x8, .f32⟩
  | 94 => ⟨S16384x1x8, .i1⟩
  | 95 => ⟨S_, .f32⟩
  | 96 => ⟨S16384x1x8, .f32⟩
  | 97 => ⟨S16384x1x8, .f32⟩
  | 98 => ⟨S16384x8, .f32⟩
  | 99 => ⟨S_, .f32⟩
  | 100 => ⟨S16384, .f32⟩
  | 101 => ⟨S_, .f32⟩
  | 102 => ⟨S16384, .f32⟩
  | 103 => ⟨S16384, .f32⟩
  | 104 => ⟨S16384x1, .f32⟩
  | 105 => ⟨S16384x8, .f32⟩
  | 106 => ⟨S16384x8, .f32⟩
  | 107 => ⟨S16384x8, .f32⟩
  | 108 => ⟨S_, .f32⟩
  | 109 => ⟨S16384, .f32⟩
  | 110 => ⟨S16384x1, .f32⟩
  | 111 => ⟨S16384x8, .f32⟩
  | 112 => ⟨S16384x8, .f32⟩
  | 113 => ⟨S16384x2, .f32⟩
  | 114 => ⟨S16384x2, .i32⟩
  | 115 => ⟨S_, .f32⟩
  | 116 => ⟨S16384, .f32⟩
  | 117 => ⟨S16384x1, .f32⟩
  | 118 => ⟨S16384x2, .f32⟩
  | 119 => ⟨S16384x2, .f32⟩
  | 120 => ⟨S16384x1, .i32⟩
  | 121 => ⟨S_, .i32⟩
  | 122 => ⟨S16384x1, .i32⟩
  | 123 => ⟨S16384x1, .i32⟩
  | 124 => ⟨S16384x2, .i32⟩
  | 125 => ⟨S16384x2, .i32⟩
  | 126 => ⟨S16384x2x1, .i32⟩
  | 127 => ⟨S1x1x32, .i32⟩
  | _ => ⟨S16384x1024, .f32⟩

abbrev hbmTy0_1 (i : Nat) : BufTy := match i % 128 with
  | 0 => ⟨S16384x2x32, .i32⟩
  | 1 => ⟨S16384x2x32, .i32⟩
  | 2 => ⟨S16384x2x32, .i1⟩
  | 3 => ⟨S16384x2x32, .f32⟩
  | 4 => ⟨S16384x2, .f32⟩
  | 5 => ⟨S16384x2, .f32⟩
  | 6 => ⟨S16384x2x1, .f32⟩
  | 7 => ⟨S16384x2x32, .f32⟩
  | 8 => ⟨S16384x2x32, .f32⟩
  | 9 => ⟨S_, .f32⟩
  | 10 => ⟨S16384x32, .f32⟩
  | 11 => ⟨S16384x32x128, .f32⟩
  | 12 => ⟨S16384x32x128, .f32⟩
  | 13 => ⟨S16384x32x128, .f32⟩
  | 14 => ⟨S_, .f32⟩
  | 15 => ⟨S16384x32x128, .f32⟩
  | 16 => ⟨S16384x32x128, .f32⟩
  | 17 => ⟨S_, .f32⟩
  | 18 => ⟨S16384x32x128, .f32⟩
  | 19 => ⟨S16384x32x128, .f32⟩
  | 20 => ⟨S16384x32x128, .f32⟩
  | 21 => ⟨S16384x32x128, .f32⟩
  | 22 => ⟨S16384x32x128, .f32⟩
  | 23 => ⟨S16384x32x1, .f32⟩
  | 24 => ⟨S16384x32x128, .f32⟩
  | 25 => ⟨S16384x32x128, .f32⟩
  | 26 => ⟨S16384x1024, .f32⟩
  | 27 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_cst : Ref sig .tc := ⟨.hbm, 44, rfl⟩
abbrev main_call0_c : Ref sig .tc := ⟨.hbm, 45, rfl⟩
abbrev main_call0_v1_0 : Ref sig .tc := ⟨.hbm, 46, rfl⟩
abbrev main_v28 : Ref sig .tc := ⟨.hbm, 47, rfl⟩
abbrev main_v29 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_c_2 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_c_3 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_cst : Ref sig .tc := ⟨.hbm, 95, rfl⟩
abbrev main_call2_v14 : Ref sig .tc := ⟨.hbm, 96, rfl⟩
abbrev main_v36 : Ref sig .tc := ⟨.hbm, 97, rfl⟩
abbrev main_v37 : Ref sig .tc := ⟨.hbm, 98, rfl⟩
abbrev main_cst_5 : Ref sig .tc := ⟨.hbm, 99, rfl⟩
abbrev main_v38 : Ref sig .tc := ⟨.hbm, 100, rfl⟩
abbrev main_cst_6 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_7 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_values : Ref sig .tc := ⟨.hbm, 113, rfl⟩
abbrev main_indices : Ref sig .tc := ⟨.hbm, 114, rfl⟩
abbrev main_cst_8 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_c : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_cst_9 : Ref sig .tc := ⟨.hbm, 137, rfl⟩
abbrev main_v64 : Ref sig .tc := ⟨.hbm, 138, rfl⟩
abbrev main_v65 : Ref sig .tc := ⟨.hbm, 139, rfl⟩
abbrev main_call4_v0 : Ref sig .tc := ⟨.hbm, 140, rfl⟩
abbrev main_call4_v1 : Ref sig .tc := ⟨.hbm, 141, rfl⟩
abbrev main_call4_cst : Ref sig .tc := ⟨.hbm, 142, rfl⟩
abbrev main_call4_v2 : Ref sig .tc := ⟨.hbm, 143, rfl⟩
abbrev main_call4_v3 : Ref sig .tc := ⟨.hbm, 144, rfl⟩
abbrev main_call4_cst_0 : Ref sig .tc := ⟨.hbm, 145, rfl⟩
abbrev main_call4_v4 : Ref sig .tc := ⟨.hbm, 146, rfl⟩
abbrev main_call4_v5 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024 : Shape := ⟨1, ![1024]⟩
abbrev S1024x5128 : Shape := ⟨2, ![1024, 5128]⟩
abbrev S512x1024 : Shape := ⟨2, ![512, 1024]⟩
abbrev S1024x1024 : Shape := ⟨2, ![1024, 1024]⟩
abbrev S1x1024 : Shape := ⟨2, ![1, 1024]⟩
abbrev S1024x2048 : Shape := ⟨2, ![1024, 2048]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024, .f32⟩
  | .hbm, ⟨4, _⟩ => ⟨S1024x5128, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1024x2048, .f32⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x1024 : Shape := ⟨2, ![16384, 1024]⟩
abbrev S16384x512 : Shape := ⟨2, ![16384, 512]⟩
abbrev S1024 : Shape := ⟨1, ![1024]⟩
abbrev S1024x5128 : Shape := ⟨2, ![1024, 5128]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5128 : Shape := ⟨2, ![16384, 5128]⟩
abbrev S16384x2048 : Shape := ⟨2, ![16384, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024, .f32⟩
  | .hbm, ⟨4, _⟩ => ⟨S1024x5128, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x5128, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x1024, .f32⟩
  | .hbm, ⟨35, _⟩ => ⟨S16384x1024, .f32⟩
  | .hbm, ⟨36, _⟩ => ⟨S16384x512, .f32⟩
  | .hbm, ⟨37, _⟩ => ⟨S16384x1024, .f32⟩
  | .hbm, ⟨38, _⟩ => ⟨S16384x1024, .f32⟩
  | .hbm, ⟨39, _⟩ => ⟨S16384x512, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x5128 : Shape := ⟨2, ![1024, 5128]⟩
abbrev S8 : Shape := ⟨1, ![8]⟩
abbrev S64 : Shape := ⟨1, ![64]⟩
abbrev S8x1x8x1 : Shape := ⟨4, ![8, 1, 8, 1]⟩
abbrev S384x128 : Shape := ⟨2, ![384, 128]⟩
abbrev S1x128 : Shape := ⟨2, ![1, 128]⟩
abbrev S1x1024 : Shape := ⟨2, ![1, 1024]⟩
abbrev S1024x3072 : Shape := ⟨2, ![1024, 3072]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x64 : Shape := ⟨2, ![1, 64]⟩
abbrev S4x64 : Shape := ⟨2, ![4, 64]⟩
abbrev S1x4x1x64 : Shape := ⟨4, ![1, 4, 1, 64]⟩
abbrev S1x4x8x64 : Shape := ⟨4, ![1, 4, 8, 64]⟩
abbrev S4x512 : Shape := ⟨2, ![4, 512]⟩
abbrev S8x64x8x64 : Shape := ⟨4, ![8, 64, 8, 64]⟩
abbrev S512x512 : Shape := ⟨2, ![512, 512]⟩
abbrev S16384x512 : Shape := ⟨2, ![16384, 512]⟩
abbrev S1024x512 : Shape := ⟨2, ![1024, 512]⟩
abbrev S2x4x8192x256 : Shape := ⟨4, ![2, 4, 8192, 256]⟩
abbrev S16384x128 : Shape := ⟨2, ![16384, 128]⟩
abbrev S16384x8 : Shape := ⟨2, ![16384, 8]⟩
abbrev S512x1024 : Shape := ⟨2, ![512, 1024]⟩
abbrev S1x4x512x256 : Shape := ⟨4, ![1, 4, 512, 256]⟩
abbrev S512x128 : Shape := ⟨2, ![512, 128]⟩
abbrev S512x8 : Shape := ⟨2, ![512, 8]⟩
abbrev S8x128 : Shape := ⟨2, ![8, 128]⟩
abbrev S512 : Shape := ⟨1, ![512]⟩
abbrev S512x1 : Shape := ⟨2, ![512, 1]⟩
abbrev S1x512 : Shape := ⟨2, ![1, 512]⟩
abbrev S512x384 : Shape := ⟨2, ![512, 384]⟩
abbrev S1x1x512x128 : Shape := ⟨4, ![1, 1, 512, 128]⟩

abbrev nBuf : Space → Nat
  | .hbm => 51
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5128, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S8x1x8x1, .bf16⟩
  | .hbm, ⟨9, _⟩ => ⟨S384x128, .bf16⟩
  | .hbm, ⟨10, _⟩ => ⟨S384x128, .bf16⟩
  | .hbm, ⟨11, _⟩ => ⟨S1x128, .f32⟩
  | .hbm, ⟨12, _⟩ => ⟨S1x128, .f32⟩
  | .hbm, ⟨13, _⟩ => ⟨S1x1024, .f32⟩
  | .hbm, ⟨14, _⟩ => ⟨S1024x3072, .f32⟩
  | .hbm, ⟨15, _⟩ => ⟨S1024x3072, .bf16⟩
  | .hbm, ⟨16, _⟩ => ⟨S1024x8, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S4x64, .f32⟩
  | .hbm, ⟨30, _⟩ => ⟨S1x4x1x64, .f32⟩
  | .hbm, ⟨31, _⟩ => ⟨S1x4x8x64, .f32⟩
  | .hbm, ⟨32, _⟩ => ⟨S4x512, .f32⟩
  | .hbm, ⟨33, _⟩ => ⟨S8x64x8x64, .bf16⟩
  | .hbm, ⟨34, _⟩ => ⟨S512x512, .bf16⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S512x512, .bf16⟩
  | .hbm, ⟨39, _⟩ => ⟨S16384x512, .bf16⟩
  | .hbm, ⟨40, _⟩ => ⟨S16384x512, .bf16⟩
  | .hbm, ⟨41, _⟩ => ⟨S16384x512, .bf16⟩
  | .hbm, ⟨42, _⟩ => ⟨S1024x512, .f32⟩
  | .hbm, ⟨43, _⟩ => ⟨S1024x512, .f32⟩
  | .hbm, ⟨44, _⟩ => ⟨S2x4x8192x256, .bf16⟩
  | .hbm, ⟨45, _⟩ => ⟨S2x4x8192x256, .bf16⟩
  | .hbm, ⟨46, _⟩ => ⟨S16384x512, .bf16⟩
  | .hbm, ⟨47, _⟩ => ⟨S16384x512, .f32⟩
  | .hbm, ⟨48, _⟩ => ⟨S16384x512, .f32⟩
  | .hbm, ⟨49, _⟩ => ⟨S16384x128, .f32⟩
  | .hbm, ⟨50, _⟩ => ⟨S16384x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S4x512, .f32⟩
  | .local _ .vmem, ⟨7, _⟩ => ⟨S512x512, .bf16⟩
  | .local _ .vmem, ⟨8, _⟩ => ⟨S512x512, .bf16⟩
  | .local _ .vmem, ⟨9, _⟩ => ⟨S384x128, .bf16⟩
  | .local _ .vmem, ⟨10, _⟩ => ⟨S384x128, .bf16⟩
  | .local _ .vmem, ⟨11, _⟩ => ⟨S1x128, .f32⟩
  | .local _ .vmem, ⟨12, _⟩ => ⟨S1x128, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S1x4x512x256, .bf16⟩
  | .local _ .vmem, ⟨24, _⟩ => ⟨S1x4x512x256, .bf16⟩
  | .local _ .vmem, ⟨25, _⟩ => ⟨S1x4x512x256, .bf16⟩
  | .local _ .vmem, ⟨26, _⟩ => ⟨S1x4x512x256, .bf16⟩
  | .local _ .vmem, ⟨27, _⟩ => ⟨S512x512, .bf16⟩
  | .local _ .vmem, ⟨28, _⟩ => ⟨S512x512, .bf16⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x128, .f32⟩
  | .local _ .vmem, ⟨34, _⟩ => ⟨S512x128, .f32⟩
  | .local _ .vmem, ⟨35, _⟩ => ⟨S512x8, .f32⟩
  | .local _ .vmem, ⟨36, _⟩ => ⟨S512x8, .f32⟩
  | .local _ .vmem, ⟨37, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_cst_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_c_4 : Ref sig .tc := ⟨.hbm, 21, rfl⟩
abbrev main_call1_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v22_3 : Ref sig .tc := ⟨.hbm, 42, rfl⟩
abbrev main_v22_4 : Ref sig .tc := ⟨.hbm, 43, rfl⟩
abbrev main_v22_5 : Ref sig .tc := ⟨.hbm, 44, rfl⟩
abbrev main_v22_6 : Ref sig .tc := ⟨.hbm, 45, rfl⟩
abbrev main_v22_7 : Ref sig .tc := ⟨.hbm, 46, rfl⟩
abbrev main_v22_8 : Ref sig .tc := ⟨.hbm, 47, rfl⟩
abbrev main_v22_9 : Ref sig .tc := ⟨.hbm, 48, rfl⟩
abbrev main_v22_10 : Ref sig .tc := ⟨.hbm, 49, rfl⟩
abbrev main_v22_11 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_16 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_17 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x8 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== InprojRefIdeal.lean ====
abbrev S16384x1024 : Shape := ⟨2, ![16384, 1024]⟩
abbrev S1024 : Shape := ⟨1, ![1024]⟩
abbrev S1024x5128 : Shape := ⟨2, ![1024, 5128]⟩
abbrev S8 : Shape := ⟨1, ![8]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5128 : Shape := ⟨2, ![16384, 5128]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S1x8 : Shape := ⟨2, ![1, 8]⟩
abbrev S2x8192x512 : Shape := ⟨3, ![2, 8192, 512]⟩
abbrev S2x512x512 : Shape := ⟨3, ![2, 512, 512]⟩
abbrev S1024x512 : Shape := ⟨2, ![1024, 512]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5128, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x5128, .f32⟩
  | .hbm, ⟨25, _⟩ => ⟨S16384x512, .f32⟩
  | .hbm, ⟨26, _⟩ => ⟨S16384x8x64, .f32⟩
  | .hbm, ⟨27, _⟩ => ⟨S16384x8x64, .f32⟩
  | .hbm, ⟨28, _⟩ => ⟨S_, .f32⟩
  | .hbm, ⟨29, _⟩ => ⟨S16384x8, .f32⟩
  | .hbm, ⟨30, _⟩ => ⟨S16384x8x1, .f32⟩
  | .hbm, ⟨31, _⟩ => ⟨S_, .f32⟩
  | .hbm, ⟨32, _⟩ => ⟨S16384x8x1, .f32⟩
  | .hbm, ⟨33, _⟩ => ⟨S16384x8x1, .f32⟩
  | .hbm, ⟨34, _⟩ => ⟨S_, .f32⟩
  | .hbm, ⟨35, _⟩ => ⟨S16384x8x1, .f32⟩
  | .hbm, ⟨36, _⟩ => ⟨S16384x8x1, .f32⟩
  | .hbm, ⟨37, _⟩ => ⟨S16384x8x1, .f32⟩
  | .hbm, ⟨38, _⟩ => ⟨S16384x8x64, .f32⟩
  | .hbm, ⟨39, _⟩ => ⟨S16384x8x64, .f32⟩
  | .hbm, ⟨40, _⟩ => ⟨S1x1x64, .f32⟩
  | .hbm, ⟨41, _⟩ => ⟨S16384x8x64, .f32⟩
  | .hbm, ⟨42, _⟩ => ⟨S16384x8x64, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x8x64, .f32⟩
  | .hbm, ⟨47, _⟩ => ⟨S16384x8x64, .f32⟩
  | .hbm, ⟨48, _⟩ => ⟨S_, .f32⟩
  | .hbm, ⟨49, _⟩ => ⟨S16384x8, .f32⟩
  | .hbm, ⟨50, _⟩ => ⟨S16384x8x1, .f32⟩
  | .hbm, ⟨51, _⟩ => ⟨S_, .f32⟩
  | .hbm, ⟨52, _⟩ => ⟨S16384x8x1, .f32⟩
  | .hbm, ⟨53, _⟩ => ⟨S16384x8x1, .f32⟩
  | .hbm, ⟨54, _⟩ => ⟨S_, .f32⟩
  | .hbm, ⟨55, _⟩ => ⟨S16384x8x1, .f32⟩
  | .hbm, ⟨56, _⟩ => ⟨S16384x8x1, .f32⟩
  | .hbm, ⟨57, _⟩ => ⟨S16384x8x1, .f32⟩
  | .hbm, ⟨58, _⟩ => ⟨S16384x8x64, .f32⟩
  | .hbm, ⟨59, _⟩ => ⟨S16384x8x64, .f32⟩
  | .hbm, ⟨60, _⟩ => ⟨S1x1x64, .f32⟩
  | .hbm, ⟨61, _⟩ => ⟨S16384x8x64, .f32⟩
  | .hbm, ⟨62, _⟩ => ⟨S16384x8x64, .f32⟩
  | .hbm, ⟨63, _⟩ => ⟨S16384x512, .f32⟩
  | .hbm, ⟨64, _⟩ => ⟨S16384x512, .f32⟩
  | .hbm, ⟨65, _⟩ => ⟨S16384x8, .f32⟩
  | .hbm, ⟨66, _⟩ => ⟨S1x8, .f32⟩
  | .hbm, ⟨67, _⟩ => ⟨S16384x8, .f32⟩
  | .hbm, ⟨68, _⟩ => ⟨S16384x8, .f32⟩
  | .hbm, ⟨69, _⟩ => ⟨S16384x8, .f32⟩
  | .hbm, ⟨70, _⟩ => ⟨S_, .f32⟩
  | .hbm, ⟨71, _⟩ => ⟨S16384x8, .f32⟩
  | .hbm, ⟨72, _⟩ => ⟨S16384x8, .f32⟩
  | .hbm, ⟨73, _⟩ => ⟨S16384x8, .f32⟩
  | .hbm, ⟨74, _⟩ => ⟨S16384x8, .f32⟩
  | .hbm, ⟨75, _⟩ => ⟨S16384x8, .i1⟩
  | .hbm, ⟨76, _⟩ => ⟨S16384x8, .f32⟩
  | .hbm, ⟨77, _⟩ => ⟨S16384x8, .f32⟩
  | .hbm, ⟨78, _⟩ => ⟨S16384x8, .f32⟩
  | .hbm, ⟨79, _⟩ => ⟨S16384x8, .f32⟩
  | .hbm, ⟨80, _⟩ => ⟨S16384x8, .f32⟩
  | .hbm, ⟨81, _⟩ => ⟨S16384x8, .f32⟩
  | .hbm, ⟨82, _⟩ => ⟨S16384x8, .f32⟩
  | .hbm, ⟨83, _⟩ => ⟨S16384x8, .f32⟩
  | .hbm, ⟨84, _⟩ => ⟨S16384x8, .f32⟩
  | .hbm, ⟨85, _⟩ => ⟨S2x8192x512, .f32⟩
  | .hbm, ⟨86, _⟩ => ⟨S2x512x512, .f32⟩
  | .hbm, ⟨87, _⟩ => ⟨S1024x512, .f32⟩
  | .hbm, ⟨88, _⟩ => ⟨S2x8192x512, .f32⟩
  | .hbm, ⟨89, _⟩ => ⟨S2x512x512, .f32⟩
  | .hbm, ⟨90, _⟩ => ⟨S1024x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call0_v0 : Ref sig .tc := ⟨.hbm, 69, rfl⟩
abbrev main_call0_call0_cst : Ref sig .tc := ⟨.hbm, 70, rfl⟩
abbrev main_call0_call0_v0 : Ref sig .tc := ⟨.hbm, 71, rfl⟩
abbrev main_call0_call0_v1 : Ref sig .tc := ⟨.hbm, 72, rfl⟩
abbrev main_call0_call0_v2 : Ref sig .tc := ⟨.hbm, 73, rfl⟩
abbrev main_call0_call0_v3 : Ref sig .tc := ⟨.hbm, 74, rfl⟩
abbrev main_call0_call0_v4 : Ref sig .tc := ⟨.hbm, 75, rfl⟩
abbrev main_call0_call0_v5 : Ref sig .tc := ⟨.hbm, 76, rfl⟩
abbrev main_call0_call0_v6 : Ref sig .tc := ⟨.hbm, 77, rfl⟩
abbrev main_call0_call0_v7 : Ref sig .tc := ⟨.hbm, 78, rfl⟩
abbrev main_call0_call0_v8 : Ref sig .tc := ⟨.hbm, 79, rfl⟩
abbrev main_call0_call0_v9 : Ref sig .tc := ⟨.hbm, 80, rfl⟩
abbrev main_call0_call0_v10 : Ref sig .tc := ⟨.hbm, 81, rfl⟩
abbrev main_call0_call0_v11 : Ref sig .tc := ⟨.hbm, 82, rfl⟩
abbrev main_call0_v1 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== Fox.lean ====
abbrev S136 : Shape := ⟨1, ![136]⟩
abbrev S2x4x8192x256 : Shape := ⟨4, ![2, 4, 8192, 256]⟩
abbrev S16384x512 : Shape := ⟨2, ![16384, 512]⟩
abbrev S1x1x512x256 : Shape := ⟨4, ![1, 1, 512, 256]⟩
abbrev S1 : Shape := ⟨1, ![1]⟩
abbrev S512x128 : Shape := ⟨2, ![512, 128]⟩
abbrev S2x512x256 : Shape := ⟨3, ![2, 512, 256]⟩
abbrev S2x512x1 : Shape := ⟨3, ![2, 512, 1]⟩
abbrev S2x512x128 : Shape := ⟨3, ![2, 512, 128]⟩
abbrev S512x256 : Shape := ⟨2, ![512, 256]⟩
abbrev S1x256 : Shape := ⟨2, ![1, 256]⟩
abbrev S1x512x256 : Shape := ⟨3, ![1, 512, 256]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S1x128 : Shape := ⟨2, ![1, 128]⟩

abbrev nBuf : Space → Nat
  | .hbm => 4
  | .vmem => 12
  | .smem => 2
  | _ => 0

abbrev bufTy : (tb : Table) → Fin (tcTables nBuf tb) → BufTy
  | .hbm, ⟨0, _⟩ => ⟨S2x4x8192x256, .bf16⟩
  | .hbm, ⟨1, _⟩ => ⟨S2x4x8192x256, .bf16⟩
  | .hbm, ⟨2, _⟩ => ⟨S16384x512, .bf16⟩
  | .hbm, ⟨3, _⟩ => ⟨S16384x512, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S2x512x256, .bf16⟩
  | .local _ .vmem, ⟨9, _⟩ => ⟨S2x512x1, .f32⟩
  | .local _ .vmem, ⟨10, _⟩ => ⟨S2x512x1, .f32⟩
  | .local _ .vmem, ⟨11, _⟩ => ⟨S2x512x128, .f32⟩
  | .local _ .smem, ⟨0, _⟩ => ⟨S136, .i32⟩
  | .local _ .smem, ⟨1, _⟩ => ⟨S136, .i32⟩
  | _, _ => ⟨S2x4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 136], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  let c0_i32_0 : BitVec 32 := 0#32
  ![arg0.toNat, arg1.toNat, v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S136) ![v0.toNat] S1.size (k0_off1_inb i)) numel1_S1
  let c0_i32 : BitVec 32 := 0#32
  let c0_i32_0 : BitVec 32 := 0#32
  ![arg0.toNat, arg1.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 1 (Rect.unit (s := S136) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 0 (Rect.unit (s := S136) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S136 : Shape := ⟨1, ![136]⟩
abbrev S2x4x8192x256 : Shape := ⟨4, ![2, 4, 8192, 256]⟩
abbrev S16384x512 : Shape := ⟨2, ![16384, 512]⟩
abbrev S2x4x8192x128 : Shape := ⟨4, ![2, 4, 8192, 128]⟩
abbrev S2x4x8192x2x64 : Shape := ⟨5, ![2, 4, 8192, 2, 64]⟩
abbrev S2x4x8192x64 : Shape := ⟨4, ![2, 4, 8192, 64]⟩
abbrev S2x4x8192x8x8 : Shape := ⟨5, ![2, 4, 8192, 8, 8]⟩
abbrev S2x1x8192x2x8 : Shape := ⟨5, ![2, 1, 8192, 2, 8]⟩
abbrev S2x8192x2x8 : Shape := ⟨4, ![2, 8192, 2, 8]⟩
abbrev S2x4x8192x2x8 : Shape := ⟨5, ![2, 4, 8192, 2, 8]⟩
abbrev S2x4x2x8192x64 : Shape := ⟨5, ![2, 4, 2, 8192, 64]⟩
abbrev S2x8x8192x64 : Shape := ⟨4, ![2, 8, 8192, 64]⟩
abbrev S2x4x2x8192x8 : Shape := ⟨5, ![2, 4, 2, 8192, 8]⟩
abbrev S2x8x8192x8 : Shape := ⟨4, ![2, 8, 8192, 8]⟩
abbrev S2x8192x8x64 : Shape := ⟨4, ![2, 8192, 8, 64]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩

abbrev nBuf : Space → Nat
  | .hbm => 83
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S2x4x8192x256, .bf16⟩
  | .hbm, ⟨3, _⟩ => ⟨S2x4x8192x256, .bf16⟩
  | .hbm, ⟨4, _⟩ => ⟨S16384x512, .bf16⟩
  | .hbm, ⟨5, _⟩ => ⟨S2x4x8192x256, .f32⟩
  | .hbm, ⟨6, _⟩ => ⟨S2x4x8192x128, .f32⟩
  | .hbm, ⟨7, _⟩ => ⟨S2x4x8192x2x64, .f32⟩
  | .hbm, ⟨8, _⟩ => ⟨S2x4x8192x64, .f32⟩
  | .hbm, ⟨9, _⟩ => ⟨S2x4x8192x8x8, .f32⟩
  | .hbm, ⟨10, _⟩ => ⟨S2x1x8192x2x8, .f32⟩
  | .hbm, ⟨11, _⟩ => ⟨S2x8192x2x8, .f32⟩
  | .hbm, ⟨12, _⟩ => ⟨S2x1x8192x2x8, .f32⟩
  | .hbm, ⟨13, _⟩ => ⟨S2x8192x2x8, .f32⟩
  | .hbm, ⟨14, _⟩ => ⟨S2x1x8192x2x8, .f32⟩
  | .hbm, ⟨15, _⟩ => ⟨S2x8192x2x8, .f32⟩
  | .hbm, ⟨16, _⟩ => ⟨S2x1x8192x2x8, .f32⟩
  | .hbm, ⟨17, _⟩ => ⟨S2x8192x2x8, .f32⟩
  | .hbm, ⟨18, _⟩ => ⟨S2x1x8192x2x8, .f32⟩
  | .hbm, ⟨19, _⟩ => ⟨S2x1x8192x2x8, .f32⟩
  | .hbm, ⟨20, _⟩ => ⟨S2x1x8192x2x8, .f32⟩
  | .hbm, ⟨21, _⟩ => ⟨S2x1x8192x2x8, .f32⟩
  | .hbm, ⟨22, _⟩ => ⟨S2x4x8192x2x8, .f32⟩
  | .hbm, ⟨23, _⟩ => ⟨S2x4x2x8192x64, .f32⟩
  | .hbm, ⟨24, _⟩ => ⟨S2x8x8192x64, .f32⟩
  | .hbm, ⟨25, _⟩ => ⟨S2x4x2x8192x8, .f32⟩
  | .hbm, ⟨26, _⟩ => ⟨S2x8x8192x8, .f32⟩
  | .hbm, ⟨27, _⟩ => ⟨S2x4x8192x256, .f32⟩
  | .hbm, ⟨28, _⟩ => ⟨S2x4x8192x128, .f32⟩
  | .hbm, ⟨29, _⟩ => ⟨S2x4x8192x2x64, .f32⟩
  | .hbm, ⟨30, _⟩ => ⟨S2x4x8192x64, .f32⟩
  | .hbm, ⟨31, _⟩ => ⟨S2x4x8192x8x8, .f32⟩
  | .hbm, ⟨32, _⟩ => ⟨S2x1x8192x2x8, .f32⟩
  | .hbm, ⟨33, _⟩ => ⟨S2x8192x2x8, .f32⟩
  | .hbm, ⟨34, _⟩ => ⟨S2x1x8192x2x8, .f32⟩
  | .hbm, ⟨35, _⟩ => ⟨S2x8192x2x8, .f32⟩
  | .hbm, ⟨36, _⟩ => ⟨S2x1x8192x2x8, .f32⟩
  | .hbm, ⟨37, _⟩ => ⟨S2x8192x2x8, .f32⟩
  | .hbm, ⟨38, _⟩ => ⟨S2x1x8192x2x8, .f32⟩
  | .hbm, ⟨39, _⟩ => ⟨S2x8192x2x8, .f32⟩
  | .hbm, ⟨40, _⟩ => ⟨S2x1x8192x2x8, .f32⟩
  | .hbm, ⟨41, _⟩ => ⟨S2x1x8192x2x8, .f32⟩
  | .hbm, ⟨42, _⟩ => ⟨S2x1x8192x2x8, .f32⟩
  | .hbm, ⟨43, _⟩ => ⟨S2x1x8192x2x8, .f32⟩
  | .hbm, ⟨44, _⟩ => ⟨S2x4x8192x2x8, .f32⟩
  | .hbm, ⟨45, _⟩ => ⟨S2x4x2x8192x64, .f32⟩
  | .hbm, ⟨46, _⟩ => ⟨S2x8x8192x64, .f32⟩
  | .hbm, ⟨47, _⟩ => ⟨S2x4x2x8192x8, .f32⟩
  | .hbm, ⟨48, _⟩ => ⟨S2x8x8192x8, .f32⟩
  | .hbm, ⟨49, _⟩ => ⟨S16384x512, .f32⟩
  | .hbm, ⟨50, _⟩ => ⟨S2x8192x8x64, .f32⟩
  | .hbm, ⟨51, _⟩ => ⟨S2x8x8192x8192, .f32⟩
  | .hbm, ⟨52, _⟩ => ⟨S2x8x8192x8192, .f32⟩
  | .hbm, ⟨53, _⟩ => ⟨S2x8x8192x8192, .f32⟩
  | .hbm, ⟨54, _⟩ => ⟨S8192, .i32⟩
  | .hbm, ⟨55, _⟩ => ⟨S1x8192, .i32⟩
  | .hbm, ⟨56, _⟩ => ⟨S8192x1, .i32⟩
  | .hbm, ⟨57, _⟩ => ⟨S8192x8192, .i32⟩
  | .hbm, ⟨58, _⟩ => ⟨S8192x8192, .i32⟩
  | .hbm, ⟨59, _⟩ => ⟨S8192x8192, .i1⟩
  | .hbm, ⟨60, _⟩ => ⟨S_, .f32⟩
  | .hbm, ⟨61, _⟩ => ⟨S_, .f32⟩
  | .hbm, ⟨62, _⟩ => ⟨S2x8x8192x8192, .i1⟩
  | .hbm, ⟨63, _⟩ => ⟨S2x8x8192x8192, .f32⟩
  | .hbm, ⟨64, _⟩ => ⟨S2x8x8192x8192, .f32⟩
  | .hbm, ⟨65, _⟩ => ⟨S_, .f32⟩
  | .hbm, ⟨66, _⟩ => ⟨S2x8x8192, .f32⟩
  | .hbm, ⟨67, _⟩ => ⟨S_, .f32⟩
  | .hbm, ⟨68, _⟩ => ⟨S2x8x8192, .f32⟩
  | .hbm, ⟨69, _⟩ => ⟨S2x8x8192, .f32⟩
  | .hbm, ⟨70, _⟩ => ⟨S2x8x8192x1, .f32⟩
  | .hbm, ⟨71, _⟩ => ⟨S2x8x8192x8192, .f32⟩
  | .hbm, ⟨72, _⟩ => ⟨S2x8x8192x8192, .f32⟩
  | .hbm, ⟨73, _⟩ => ⟨S2x8x8192x8192, .f32⟩
  | .hbm, ⟨74, _⟩ => ⟨S_, .f32⟩
  | .hbm, ⟨75, _⟩ => ⟨S2x8x8192, .f32⟩
  | .hbm, ⟨76, _⟩ => ⟨S2x8x8192x1, .f32⟩
  | .hbm, ⟨77, _⟩ => ⟨S2x8x8192x8192, .f32⟩
  | .hbm, ⟨78, _⟩ => ⟨S2x8x8192x8192, .f32⟩
  | .hbm, ⟨79, _⟩ => ⟨S2x8x64x8192, .f32⟩
  | .hbm, ⟨80, _⟩ => ⟨S2x8192x8x64, .f32⟩
  | .hbm, ⟨81, _⟩ => ⟨S16384x512, .f32⟩
  | .hbm, ⟨82, _⟩ => ⟨S16384x512, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v55 : Ref sig .tc := ⟨.hbm, 64, rfl⟩
abbrev main_cst_0 : Ref sig .tc := ⟨.hbm, 65, rfl⟩
abbrev main_v56 : Ref sig .tc := ⟨.hbm, 66, rfl⟩
abbrev main_cst_1 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_2 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩

abbrev nD : Nat := 1
abbrev τ : Topo := Topo.v7x

variable {F : FTy → Type} [FloatOps F]
-- ==== Proof.Spec.lean ====
/-
The mathematics of the layer's pieces as plain functions of rows of extended reals, which the value claims
compare both programs with.
-/
module

public import Idealize.ShloMosaic.Lib.Pointwise

@[expose] public section

noncomputable section

namespace Cert.LayerMath

open Idealize.ShloMosaic

/-- The root mean square norm of a row of 1024 tokens' entries with its gain: `x · (mean x² + ε)^(-1/2) · g`. -/
def rms (x g : Fin 1024 → EReal) (k : Fin 1024) : EReal :=
  x k * Ideal.rsqrt (Ideal.div (∑ j, x j * x j) (Ideal.ofBits FTy.f32 1149239296#32) + Ideal.ofBits FTy.f32 897988541#32) * g k

/-- One hidden unit of a gated expert on a row: `silu (h · w1) · (h · w3)`. -/
def hidden (h w1 w3 : Fin 1024 → EReal) : EReal :=
  (∑ k, h k * w1 k) * Ideal.logistic (∑ k, h k * w1 k) * ∑ k, h k * w3 k

/-- One row of the gated merge: the two attentions' outputs projected to the model's width, each times its gate
(the logistic function of a projection of the normalised row), added, projected by `wo` and added to the row. -/
def merge (x g : Fin 1024 → EReal) (oa ob : Fin 512 → EReal) (wg : Fin 1024 → Fin 2048 → EReal)
    (wa wb : Fin 512 → Fin 1024 → EReal) (wo : Fin 1024 → Fin 1024 → EReal) (l : Fin 1024) : EReal :=
  x l + ∑ c : Fin 1024,
    (Ideal.logistic (∑ k, rms x g k * wg k ⟨c.val, by omega⟩) * ∑ k, oa k * wa k c
      + Ideal.logistic (∑ k, rms x g k * wg k ⟨1024 + c.val, by omega⟩) * ∑ k, ob k * wb k c) * wo c l

end Cert.LayerMath

end
-- ==== Proof.MergeValue.lean ====
/-
The gated merge of the two attentions: what the kernel and the reference leave in their result arrays, and that the
two are equal.
-/
module

public import proofs.«01_k».proof.Proof.Gen.MergeIdeal.Value
public import proofs.«01_k».proof.Proof.Gen.MergeRefIdeal.Run
public import proofs.«01_k».proof.Proof.Spec
public import Idealize.ShloMosaic.Lib.Pointwise
public import Idealize.ShloMosaic.Lib.Pipeline.ValueKit

@[expose] public section

set_option maxRecDepth 16384

noncomputable section

namespace Cert.MergeIdeal.Math

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's stored value at a row and a column is the merge of that row. -/
theorem pay_apply (x0 : Vec Ideal S512x1024 .f32) (x1 : Vec Ideal S512x512 .bf16) (x2 : Vec Ideal S512x512 .bf16) (x3 : Vec Ideal S1x1024 .f32) (x4 : Vec Ideal S1024x2048 .bf16) (x5 : Vec Ideal S512x1024 .bf16) (x6 : Vec Ideal S512x1024 .bf16) (x7 : Vec Ideal S1024x1024 .bf16) (r : Fin 512) (l : Fin 1024) :
    k0_pay1 x0 (k0_pay2 x0 x3 x4 x1 x5 x2 x6) (k0_pay3 x7) (constant S512x1024 .f32 0x00000000#32) (ix2 r l)
      = LayerMath.merge (fun k => x0 (ix2 r k)) (fun k => x3 (ix2 0 k)) (fun k => x1 (ix2 r k)) (fun k => x2 (ix2 r k))
          (fun k c => x4 (ix2 k c)) (fun k c => x5 (ix2 k c)) (fun k c => x6 (ix2 k c)) (fun k c => x7 (ix2 k c)) l := by
  pointwise [k0_pay1, k0_pay2, k0_pay3]
  rfl

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val, 0] := (by decide +kernel : ∀ t : Fin grid0.N, win0_8.index t = ![t.val, 0])

/-- Row `r` of point `t`'s block, in the whole array. -/
abbrev row (t : Fin cfg0.N) (r : Fin 512) : Fin 16384 := ⟨t.val * 512 + r.val, by have := t.isLt; have : cfg0.N = 32 := N_0; omega⟩

theorem V_main_v0 (c : Dev nD) : V m c main_v0 = broadcastInDim S1x1024 ![1] bcast_S1024_S1x1024_1 (m ((c : Thread nD τ).loc main_arg3)) := by
  show StableHlo.after hostOps0 _ (Proc.devRef .tc main_v0) = _
  after_results_simp
theorem V_main_v2 (c : Dev nD) : @Eq (FVec Ideal S1024x2048 .bf16) (V m c main_v2) (truncf (F := Ideal) (φ := .f32) .bf16 (extractStridedSlice S1024x2048 ![0, 3080] (m ((c : Thread nD τ).loc main_arg4)) slices_S1024x5128_S1024x2048_0_3080) bitsLt_bf16_f32) := by
  show StableHlo.after hostOps0 _ (Proc.devRef .tc main_v2) = _
  after_results_simp
theorem V_main_v3 (c : Dev nD) : @Eq (FVec Ideal S512x1024 .bf16) (V m c main_v3) (truncf (F := Ideal) (φ := .f32) .bf16 (m ((c : Thread nD τ).loc main_arg5)) bitsLt_bf16_f32) := by
  show StableHlo.after hostOps0 _ (Proc.devRef .tc main_v3) = _
  after_results_simp
theorem V_main_v4 (c : Dev nD) : @Eq (FVec Ideal S512x1024 .bf16) (V m c main_v4) (truncf (F := Ideal) (φ := .f32) .bf16 (m ((c : Thread nD τ).loc main_arg6)) bitsLt_bf16_f32) := by
  show StableHlo.after hostOps0 _ (Proc.devRef .tc main_v4) = _
  after_results_simp
theorem V_main_v5 (c : Dev nD) : @Eq (FVec Ideal S1024x1024 .bf16) (V m c main_v5) (truncf (F := Ideal) (φ := .f32) .bf16 (m ((c : Thread nD τ).loc main_arg7)) bitsLt_bf16_f32) := by
  show StableHlo.after hostOps0 _ (Proc.devRef .tc main_v5) = _
  after_results_simp

theorem blk0 (c : Dev nD) (t : Fin cfg0.N) (r : Fin 512) (k : Fin 1024) :
    iblk m c 0 t (ix2 r k) = m ((c : Thread nD τ).loc main_arg0) (ix2 (row t r) k) := by
  blk_simp [iblk]
  rw [V_main_arg0]
  exact congrArg _ (by blk_ext [idx0])
theorem blk1 (c : Dev nD) (t : Fin cfg0.N) (r : Fin 512) (k : Fin 512) :
    iblk m c 1 t (ix2 r k) = m ((c : Thread nD τ).loc main_arg1) (ix2 (row t r) k) := by
  blk_simp [iblk]
  rw [V_main_arg1]
  exact congrArg _ (by blk_ext [idx1])
theorem blk2 (c : Dev nD) (t : Fin cfg0.N) (r : Fin 512) (k : Fin 512) :
    iblk m c 2 t (ix2 r k) = m ((c : Thread nD τ).loc main_arg2) (ix2 (row t r) k) := by
  blk_simp [iblk]
  rw [V_main_arg2]
  exact congrArg _ (by blk_ext [idx2])
theorem blk3 (c : Dev nD) (t : Fin cfg0.N) (k : Fin 1024) :
    iblk m c 3 t (ix2 0 k) = m ((c : Thread nD τ).loc main_arg3) (ix1 k) := by
  blk_simp [iblk]
  rw [V_main_v0, show (win0_3.blk t).view.emb (ix2 0 k) = ix2 0 k by blk_ext [idx3]]
  pointwise []
theorem blk4 (c : Dev nD) (t : Fin cfg0.N) (k : Fin 1024) (l : Fin 2048) :
    iblk m c 4 t (ix2 k l) = m ((c : Thread nD τ).loc main_arg4) (ix2 k ⟨3080 + l.val, by omega⟩) := by
  blk_simp [iblk]
  rw [V_main_v2, show (win0_4.blk t).view.emb (ix2 k l) = ix2 k l by blk_ext [idx4]]
  pointwise []
theorem blk5 (c : Dev nD) (t : Fin cfg0.N) (k : Fin 512) (l : Fin 1024) :
    iblk m c 5 t (ix2 k l) = m ((c : Thread nD τ).loc main_arg5) (ix2 k l) := by
  blk_simp [iblk]
  rw [V_main_v3, show (win0_5.blk t).view.emb (ix2 k l) = ix2 k l by blk_ext [idx5]]
  rfl
theorem blk6 (c : Dev nD) (t : Fin cfg0.N) (k : Fin 512) (l : Fin 1024) :
    iblk m c 6 t (ix2 k l) = m ((c : Thread nD τ).loc main_arg6) (ix2 k l) := by
  blk_simp [iblk]
  rw [V_main_v4, show (win0_6.blk t).view.emb (ix2 k l) = ix2 k l by blk_ext [idx6]]
  rfl
theorem blk7 (c : Dev nD) (t : Fin cfg0.N) (k : Fin 1024) (l : Fin 1024) :
    iblk m c 7 t (ix2 k l) = m ((c : Thread nD τ).loc main_arg7) (ix2 k l) := by
  blk_simp [iblk]
  rw [V_main_v5, show (win0_7.blk t).view.emb (ix2 k l) = ix2 k l by blk_ext [idx7]]
  rfl

/-- The merge of every row of the arguments. -/
def G (a0 : S16384x1024.Idx → EReal) (a1 a2 : S16384x512.Idx → EReal) (a3 : S1024.Idx → EReal) (a4 : S1024x5128.Idx → EReal)
    (a5 a6 : S512x1024.Idx → EReal) (a7 : S1024x1024.Idx → EReal) (i : S16384x1024.Idx) : EReal :=
  LayerMath.merge (fun k => a0 (ix2 (i 0) k)) (fun k => a3 (ix1 k)) (fun k => a1 (ix2 (i 0) k)) (fun k => a2 (ix2 (i 0) k))
    (fun k l => a4 (ix2 k ⟨3080 + l.val, by omega⟩)) (fun k l => a5 (ix2 k l)) (fun k l => a6 (ix2 k l)) (fun k l => a7 (ix2 k l)) (i 1)

/-- The kernel's result array after its run: the merge of every row. -/
theorem final (c : Dev nD) : (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  frame_out
  idx_vars y
  rw [show ((View.whole main_v6).slice (win0_8.rect t)).emb (ix2 y0 y1) = ix2 (row t y0) y1 by blk_ext [idx8]]
  refine (pay_apply _ _ _ _ _ _ _ _ y0 y1).trans ?_
  simp only [blk0, blk1, blk2, blk3, blk4, blk5, blk6, blk7]
  rfl

/-- The kernel's run leaves the merge of every row of its arguments in its result array. -/
theorem run : θ_run defs (onTc (τ := τ) (main (F := Ideal))) ⟨m, fun _ => 0, ρ⟩ fun r => ∀ c : Dev nD,
      r.2.mem ((c.tc : Thread nD τ).loc main_v6) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
    :=
  (θ_run defs _ _).mono (fun _ h c => ⟨(h c).1.trans (final m c), (h c).2⟩) (Value.run_blocks m ρ)

end Cert.MergeIdeal.Math

namespace Cert.MergeRefIdeal.Math

open Cert.MergeRefIdeal Cert.MergeRefIdeal.Gen Idealize.ShloMosaic Idealize.ShloMosaic.TcCoe Idealize.SL.Sem

variable (m : (ℓ : Loc nD τ sig) → Buf (Elt Ideal) ℓ) (ρ : Dev nD → PrngReg)

/-- The reference's run leaves the merge of every row of its arguments in its result array. -/
theorem run : θ_run defs (onTc (τ := τ) (main (F := Ideal))) ⟨m, fun _ => 0, ρ⟩ fun r => ∀ c : Dev nD,
      r.2.mem ((c.tc : Thread nD τ).loc main_v31) = MergeIdeal.Math.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
    := by
  refine (θ_run defs _ _).mono (fun _ h c => ⟨(h c).1.trans ?_, (h c).2⟩) (Value.run m ρ)
  funext i
  idx_vars i
  pointwise []
  unfold MergeIdeal.Math.G LayerMath.merge LayerMath.rms Ideal.logistic
  rfl

end Cert.MergeRefIdeal.Math

end
-- ==== Proof.InprojSpec.lean ====
/-
The mathematics of the input projection as functions of rows of extended reals.
-/
module

public import proofs.«01_k».proof.Proof.Spec

@[expose] public section

noncomputable section

namespace Cert.LayerMath

open Idealize.ShloMosaic

/-- The norm of one head's 64 lanes inside a row of 8 heads, with its gain: `y · (mean y² + ε)^(-1/2) · g`. -/
def headNorm (y : Fin 512 → EReal) (g : Fin 64 → EReal) (l : Fin 512) : EReal :=
  y l * Ideal.rsqrt (Ideal.div (∑ j : Fin 64, y ⟨l.val / 64 * 64 + j.val, by omega⟩ * y ⟨l.val / 64 * 64 + j.val, by omega⟩)
    (Ideal.ofBits FTy.f32 1115684864#32) + Ideal.ofBits FTy.f32 897988541#32) * g ⟨l.val % 64, by omega⟩

/-- The logarithm of the logistic function: `min z 0 - log (1 + exp (-|z|))`. -/
def logSigmoid (z : EReal) : EReal := min z 0 - Ideal.log (1 + Ideal.exp (-(max z (-z))))

/-- One element of the normalised rows' product with 512 columns of the projection's weights, from column `o`. -/
def seg (x g : Fin 1024 → EReal) (w : Fin 1024 → Fin 5128 → EReal) (o : ℕ) (ho : o + 512 ≤ 5128) (l : Fin 512) : EReal :=
  ∑ k, rms x g k * w k ⟨o + l.val, by omega⟩

/-- The forget gate's logit of one head. -/
def forget (x g : Fin 1024 → EReal) (w : Fin 1024 → Fin 5128 → EReal) (b : Fin 8 → EReal) (h : Fin 8) : EReal :=
  (∑ k, rms x g k * w k ⟨3072 + h.val, by omega⟩) + b h

/-- The logarithm of a positive real is real. -/
theorem log_ne_bot {r : ℝ} (h : 0 < r) : Ideal.log (r : EReal) ≠ ⊥ := by
  have h' : Ideal.log (r : EReal) = if r ≤ 0 then ⊥ else (Real.log r : EReal) := rfl
  rw [h', if_neg (not_le.mpr h)]
  exact EReal.coe_ne_bot _

/-- The logarithm of one plus an exponential is not `-∞`. -/
theorem log_exp_ne_bot (x : EReal) : Ideal.log (1 + Ideal.exp x) ≠ ⊥ := by
  induction x with
  | bot =>
    rw [show (1 : EReal) + Ideal.exp ⊥ = ((1 : ℝ) : EReal) from add_zero _]
    exact log_ne_bot one_pos
  | top =>
    rw [show (1 : EReal) + Ideal.exp ⊤ = ⊤ from rfl]
    exact (by simp : (⊤ : EReal) ≠ ⊥)
  | coe r =>
    rw [show (1 : EReal) + Ideal.exp (r : EReal) = ((1 + Real.exp r : ℝ) : EReal) from rfl]
    exact log_ne_bot (by positivity)

/-- The host's spelling of the logarithm of the logistic function, `-(max (-z) 0 + log (1 + exp (-|-z|)))`, is the same. -/
theorem neg_softplus (z : EReal) :
    -(max (-z) 0 + Ideal.log (1 + Ideal.exp (-(max (-z) (- -z))))) = logSigmoid z := by
  have hm : max (-z) 0 ≠ ⊥ := fun h => absurd (le_max_right (-z) 0) (by rw [h]; simp)
  rw [EReal.neg_add (Or.inl hm) (Or.inr (log_exp_ne_bot _)), neg_neg, max_comm (-z) z]
  unfold logSigmoid
  congr 1
  rcases le_total z 0 with h | h
  · rw [min_eq_left h, max_eq_left (by simpa using h), neg_neg]
  · rw [min_eq_right h, max_eq_right (by simpa using h), neg_zero]

/-- The kernel's spelling of a head's norm: the squares' sum over the head's lanes as a product with a matrix's column
`bd`, its mean by a multiplication by 1/64. -/
def headNormBy (y bd : Fin 512 → EReal) (g : EReal) (l : Fin 512) : EReal :=
  y l * Ideal.rsqrt ((∑ j, y j * y j * bd j) * Ideal.ofBits FTy.f32 1015021568#32 + Ideal.ofBits FTy.f32 897988541#32) * g

theorem lit64 : Ideal.ofBits FTy.f32 1115684864#32 = ((64 : ℝ) : EReal) := by
  simp [Ideal.ofBits, Ideal.ieee, -EReal.coe_mul]; norm_num

theorem lit64th : Ideal.ofBits FTy.f32 1015021568#32 = ((1 / 64 : ℝ) : EReal) := by
  simp [Ideal.ofBits, Ideal.ieee, -EReal.coe_mul]; norm_num

/-- A sum over the row's lanes weighted by a head's indicator is the sum over that head's lanes. -/
theorem sum_head (f : Fin 512 → EReal) (l : Fin 512) :
    ∑ j : Fin 512, f j * (if j.val / 64 = l.val / 64 then 1 else 0) = ∑ j : Fin 64, f ⟨l.val / 64 * 64 + j.val, by omega⟩ := by
  simp only [mul_ite, mul_one, mul_zero]
  rw [← Finset.sum_filter]
  refine Finset.sum_bij' (fun j _ => ⟨j.val % 64, by omega⟩) (fun j _ => ⟨l.val / 64 * 64 + j.val, by omega⟩) ?_ ?_ ?_ ?_ ?_
  · intro a _; exact Finset.mem_univ _
  · intro a _; rw [Finset.mem_filter]; exact ⟨Finset.mem_univ _, by dsimp only; omega⟩
  · intro a ha; have := (Finset.mem_filter.mp ha).2; exact Fin.ext (by dsimp only; omega)
  · intro a _; exact Fin.ext (by dsimp only; omega)
  · intro a ha; have := (Finset.mem_filter.mp ha).2; exact congrArg f (Fin.ext (by dsimp only; omega))

/-- With the heads' indicator for its matrix, the kernel's spelling is the head's norm. -/
theorem headNormBy_eq (y bd : Fin 512 → EReal) (g : Fin 64 → EReal) (l : Fin 512)
    (h : ∀ j : Fin 512, bd j = if j.val / 64 = l.val / 64 then 1 else 0) :
    headNormBy y bd (g ⟨l.val % 64, by omega⟩) l = headNorm y g l := by
  unfold headNormBy headNorm
  simp only [h]
  rw [sum_head (fun j => y j * y j), lit64, lit64th, Ideal.div_coe (by norm_num : (64 : ℝ) ≠ 0)]

end Cert.LayerMath

end
-- ==== Proof.InprojRef.lean ====
/-
The input projection: the arrays both programs are shown to leave, and that the reference leaves them.
-/
module

public import proofs.«01_k».proof.Proof.Gen.InprojRefIdeal.Run
public import proofs.«01_k».proof.Proof.InprojSpec
public import Idealize.ShloMosaic.Lib.Pointwise

@[expose] public section

set_option maxRecDepth 16384

noncomputable section

namespace Cert.InprojRefIdeal.Math

open Cert.InprojRefIdeal Cert.InprojRefIdeal.Gen Idealize.ShloMosaic Idealize.ShloMosaic.TcCoe Idealize.SL.Sem

/-- The arguments' arrays: the tokens, the norm's gain, the weights, the forget gate's offsets and the heads' gains. -/
structure Args where
  x : S16384x1024.Idx → EReal
  g : S1024.Idx → EReal
  w : S1024x5128.Idx → EReal
  b : S8.Idx → EReal
  qa : S64.Idx → EReal
  ka : S64.Idx → EReal
  qb : S64.Idx → EReal
  kb : S64.Idx → EReal

namespace Args

variable (A : Args)

/-- Token `r`'s 512 projected entries from column `o` on. -/
def seg (r : Fin 16384) (o : ℕ) (ho : o + 512 ≤ 5128) : Fin 512 → EReal :=
  LayerMath.seg (fun k => A.x (ix2 r k)) (fun k => A.g (ix1 k)) (fun k l => A.w (ix2 k l)) o ho

/-- The token kept at row `r` of the band's cache: the last 512 tokens of each of the two sequences. -/
abbrev newest (r : Fin 1024) : Fin 16384 := ⟨r.val / 512 * 8192 + (7680 + r.val % 512), by omega⟩

/-- The band attention's new keys. -/
def keysA (i : S1024x512.Idx) : EReal :=
  LayerMath.headNorm (A.seg (newest (i 0)) 512 (by norm_num)) (fun j => A.ka (ix1 j)) (i 1)

/-- The band attention's new values. -/
def valuesA (i : S1024x512.Idx) : EReal := A.seg (newest (i 0)) 1024 (by norm_num) (i 1)

/-- The forgetting attention's new keys. -/
def keysB (i : S16384x512.Idx) : EReal :=
  LayerMath.headNorm (A.seg (i 0) 2048 (by norm_num)) (fun j => A.kb (ix1 j)) (i 1)

/-- The forgetting attention's new values. -/
def valuesB (i : S16384x512.Idx) : EReal := A.seg (i 0) 2560 (by norm_num) (i 1)

/-- The logarithms of the forget gates. -/
def logf (i : S16384x8.Idx) : EReal :=
  LayerMath.logSigmoid (LayerMath.forget (fun k => A.x (ix2 (i 0) k)) (fun k => A.g (ix1 k)) (fun k l => A.w (ix2 k l))
    (fun h => A.b (ix1 h)) (i 1))

end Args

variable (m : (ℓ : Loc nD τ sig) → Buf (Elt Ideal) ℓ) (ρ : Dev nD → PrngReg)

/-- The reference's arguments on one device. -/
abbrev args (c : Dev nD) : Args := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7)⟩

/-- The reference's run leaves the new keys, values and forget gates of every token in its result arrays. -/
theorem run : θ_run defs (onTc (τ := τ) (main (F := Ideal))) ⟨m, fun _ => 0, ρ⟩ fun r => ∀ c : Dev nD,
      r.2.mem ((c.tc : Thread nD τ).loc main_v55) = (args m c).keysA
      ∧ r.2.mem ((c.tc : Thread nD τ).loc main_v58) = (args m c).valuesA
      ∧ r.2.mem ((c.tc : Thread nD τ).loc main_v46) = (args m c).keysB
      ∧ r.2.mem ((c.tc : Thread nD τ).loc main_v47) = (args m c).valuesB
      ∧ r.2.mem ((c.tc : Thread nD τ).loc main_v52) = (args m c).logf
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
    := by
  refine (θ_run defs _ _).mono (fun r h c => ⟨(h c).1.trans ?_, (h c).2.1.trans ?_, (h c).2.2.1.trans ?_, (h c).2.2.2.1.trans ?_,
    (h c).2.2.2.2.1.trans ?_, (h c).2.2.2.2.2⟩) (Value.run m ρ) <;> clear h
  · funext i
    idx_vars i
    pointwise []
    rfl
  · funext i
    idx_vars i
    pointwise []
    rfl
  · funext i
    idx_vars i
    pointwise []
    rfl
  · funext i
    idx_vars i
    pointwise []
    rfl
  · funext i
    idx_vars i
    unfold Value.res_main_v52
    pointwise []
    refine Eq.trans ?_ (LayerMath.neg_softplus _)
    rw [if_neg (fun h => h rfl)]
    rfl

end Cert.InprojRefIdeal.Math

end
-- ==== Proof.InprojPays.lean ====
/-
The input projection's kernel: what its body computes for one block of tokens, element by element.
-/
module

public import proofs.«01_k».proof.Proof.Gen.InprojIdeal.Skeleton
public import proofs.«01_k».proof.Proof.InprojSpec
public import Idealize.ShloMosaic.Lib.Pointwise

@[expose] public section

set_option maxRecDepth 16384

noncomputable section

namespace Cert.InprojIdeal.Math

open Cert.InprojIdeal Cert.InprojIdeal.Gen Idealize.ShloMosaic Idealize.ShloMosaic.TcCoe

variable (x0 : Vec Ideal S512x1024 .f32) (x1 : Vec Ideal S1x1024 .f32) (w : Vec Ideal S1024x512 .bf16) (bd : Vec Ideal S512x512 .bf16)
  (gn : Vec Ideal S1x512 .f32) (wf : Vec Ideal S1024x128 .bf16) (bf : Vec Ideal S1x128 .f32) (r : Fin 512)

/-- A block's normalised tokens. -/
theorem hidden_apply (k : Fin 1024) :
    k0_pay6 (F := Ideal) x0 x1 (ix2 r k) = LayerMath.rms (fun k => x0 (ix2 r k)) (fun k => x1 (ix2 0 k)) k := by
  pointwise [k0_pay6]
  rfl

/-- The band attention's values. -/
theorem valuesA_apply (l : Fin 512) :
    k0_pay12 (F := Ideal) (k0_pay6 x0 x1) w (ix2 r l)
      = ∑ k, LayerMath.rms (fun k => x0 (ix2 r k)) (fun k => x1 (ix2 0 k)) k * w (ix2 k l) := by
  pointwise [k0_pay12]
  simp only [hidden_apply]

/-- The forgetting attention's values. -/
theorem valuesB_apply (l : Fin 512) :
    k0_pay32 (F := Ideal) (k0_pay6 x0 x1) (k0_pay31 w) (ix2 r l)
      = ∑ k, LayerMath.rms (fun k => x0 (ix2 r k)) (fun k => x1 (ix2 0 k)) k * w (ix2 k l) := by
  pointwise [k0_pay32, k0_pay31]
  simp only [hidden_apply]

/-- The band attention's keys. -/
theorem keysA_apply (l : Fin 512) :
    k0_pay10 (F := Ideal) (k0_pay6 x0 x1) w bd gn (ix2 r l)
      = LayerMath.headNormBy (fun l => ∑ k, LayerMath.rms (fun k => x0 (ix2 r k)) (fun k => x1 (ix2 0 k)) k * w (ix2 k l))
          (fun j => bd (ix2 j l)) (gn (ix2 0 l)) l := by
  pointwise [k0_pay10]
  simp only [hidden_apply]
  rfl

/-- The forgetting attention's keys. -/
theorem keysB_apply (l : Fin 512) :
    k0_pay29 (F := Ideal) (k0_pay6 x0 x1) w bd gn (ix2 r l)
      = LayerMath.headNormBy (fun l => ∑ k, LayerMath.rms (fun k => x0 (ix2 r k)) (fun k => x1 (ix2 0 k)) k * w (ix2 k l))
          (fun j => bd (ix2 j l)) (gn (ix2 0 l)) l := by
  pointwise [k0_pay29]
  simp only [hidden_apply]
  rfl

/-- The logarithms of the forget gates. -/
theorem logf_apply (h : Fin 8) :
    k0_pay15 (F := Ideal) (k0_pay6 x0 x1) wf bf (ix2 r h)
      = LayerMath.logSigmoid ((∑ k, LayerMath.rms (fun k => x0 (ix2 r k)) (fun k => x1 (ix2 0 k)) k * wf (ix2 k ⟨h.val, by omega⟩))
          + bf (ix2 0 ⟨h.val, by omega⟩)) := by
  pointwise [k0_pay15, k0_pay14]
  simp only [hidden_apply]
  rw [zero_sub]
  rfl

end Cert.InprojIdeal.Math

end
-- ==== Proof.InprojValue.lean ====
/-
The input projection: what the kernel's run leaves in the result arrays, the new keys and values of both attentions
and the logarithms of the forget gates.
-/
module

public import proofs.«01_k».proof.Proof.Gen.InprojIdeal.Value
public import proofs.«01_k».proof.Proof.InprojRef
public import proofs.«01_k».proof.Proof.InprojPays
public import Idealize.ShloMosaic.Lib.Pointwise
public import Idealize.ShloMosaic.Lib.StableHlo.RunClose
public import Idealize.ShloMosaic.Lib.Pipeline.ValueKit

@[expose] public section

set_option maxRecDepth 16384

noncomputable section

namespace Cert.InprojIdeal.Math

open Cert.InprojIdeal Cert.InprojIdeal.Gen Idealize.ShloMosaic Idealize.ShloMosaic.TcCoe Idealize.SL.Sem
open Idealize.ShloMosaic.Pipeline (Dat)
open Cert.InprojRefIdeal.Math (Args)

variable (m : (ℓ : Loc nD τ sig) → Buf (Elt Ideal) ℓ) (ρ : Dev nD → PrngReg)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx15 : ∀ t : Fin cfg0.N, win0_15.index t = ![t.val / 16, 0] := (by decide +kernel : ∀ t : Fin grid0.N, win0_15.index t = ![t.val / 16, 0])
theorem idx16 : ∀ t : Fin cfg0.N, win0_16.index t = ![t.val / 16, 0] := (by decide +kernel : ∀ t : Fin grid0.N, win0_16.index t = ![t.val / 16, 0])
theorem idx20 : ∀ t : Fin cfg0.N, win0_20.index t = ![t.val, 0] := (by decide +kernel : ∀ t : Fin grid0.N, win0_20.index t = ![t.val, 0])
theorem idx21 : ∀ t : Fin cfg0.N, win0_21.index t = ![t.val, 0] := (by decide +kernel : ∀ t : Fin grid0.N, win0_21.index t = ![t.val, 0])
theorem idx23 : ∀ t : Fin cfg0.N, win0_23.index t = ![t.val, 0] := (by decide +kernel : ∀ t : Fin grid0.N, win0_23.index t = ![t.val, 0])

/-- Row `r` of point `t`'s block, in the whole array. -/
abbrev row (t : Fin cfg0.N) (r : Fin 512) : Fin 16384 := ⟨t.val * 512 + r.val, by have := t.isLt; have : cfg0.N = 32 := N_0; omega⟩

/-- The kernel's arguments on one device. -/
abbrev args (c : Dev nD) : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7)⟩

/-- The host's lines before the call. -/
abbrev hostLines : List (List (HloOp τ sig (Elt Ideal))) := [hostOps0, hostOps0_1, hostOps0_2, hostOps0_3, hostOps0_4]

/-- What an array the host lays out holds when the call is entered, at an index. -/
theorem V_v0 (c : Dev nD) : @Eq (FVec Ideal S1x1024 .f32) (V m c main_v0) (broadcastInDim S1x1024 ![1] bcast_S1024_S1x1024_1 (m ((c : Thread nD τ).loc main_arg1))) := by
  show StableHlo.after (List.flatten hostLines) _ (Proc.devRef .tc main_v0) = _
  simp only [hostLines, List.flatten_cons, List.flatten_nil, List.append_nil, List.cons_append, List.nil_append]
  after_results_simp
theorem V_v2 (c : Dev nD) : @Eq (FVec Ideal S1024x3072 .bf16) (V m c main_v2) (truncf (F := Ideal) (φ := .f32) .bf16 (extractStridedSlice S1024x3072 ![0, 0] (m ((c : Thread nD τ).loc main_arg2)) slices_S1024x5128_S1024x3072_0_0) bitsLt_bf16_f32) := by
  show StableHlo.after (List.flatten hostLines) _ (Proc.devRef .tc main_v2) = _
  simp only [hostLines, List.flatten_cons, List.flatten_nil, List.append_nil, List.cons_append, List.nil_append]
  after_results_simp
theorem V_v5 (c : Dev nD) : @Eq (FVec Ideal S1024x128 .bf16) (V m c main_v5) (truncf (F := Ideal) (φ := .f32) .bf16 (pad S1024x128 ![0, 0] ![0, 120] ![0, 0] (extractStridedSlice S1024x8 ![0, 3072] (m ((c : Thread nD τ).loc main_arg2)) slices_S1024x5128_S1024x8_0_3072) (sitofp (F := Ideal) .f32 (constantI S_ 32 0#32)) pads_S1024x8_S1024x128_000_01200 h_S_) bitsLt_bf16_f32) := by
  show StableHlo.after (List.flatten hostLines) _ (Proc.devRef .tc main_v5) = _
  simp only [hostLines, List.flatten_cons, List.flatten_nil, List.append_nil, List.cons_append, List.nil_append]
  after_results_simp
  rfl
theorem V_v7 (c : Dev nD) : @Eq (FVec Ideal S1x128 .f32) (V m c main_v7) (broadcastInDim S1x128 ![1] bcast_S128_S1x128_1 (pad S128 ![0] ![120] ![0] (m ((c : Thread nD τ).loc main_arg3)) (sitofp (F := Ideal) .f32 (constantI S_ 32 0#32)) pads_S8_S128_01200 h_S_)) := by
  show StableHlo.after (List.flatten hostLines) _ (Proc.devRef .tc main_v7) = _
  simp only [hostLines, List.flatten_cons, List.flatten_nil, List.append_nil, List.cons_append, List.nil_append]
  after_results_simp
  rfl
/-- The head-sum matrix as the host builds it: the 8 by 8 identity, every entry repeated 64 times along both axes. -/
abbrev headSum : FVec Ideal S512x512 .bf16 :=
  shapeCast S512x512 (broadcastInDim S8x64x8x64 ![0, 1, 2, 3] bcast_S8x1x8x1_S8x64x8x64_0_1_2_3 (fun i => FloatOps.ofBits (F := Ideal) .bf16 (lit0 (S8x1x8x1.rowMajor i)))) shapeCasts_S8x64x8x64_S512x512
/-- The four gains of 64 channels, one row each, every row repeated for the eight heads. -/
abbrev lanes (g4 g5 g6 g7 : S64.Idx → EReal) : S4x512.Idx → EReal :=
  shapeCast S4x512 (broadcastInDim S1x4x8x64 ![0, 1, 2, 3] bcast_S1x4x1x64_S1x4x8x64_0_1_2_3 (shapeCast S1x4x1x64 (concatenate S4x64 0 [⟨S1x64, broadcastInDim S1x64 ![1] bcast_S64_S1x64_1 g4⟩, ⟨S1x64, broadcastInDim S1x64 ![1] bcast_S64_S1x64_1 g5⟩, ⟨S1x64, broadcastInDim S1x64 ![1] bcast_S64_S1x64_1 g6⟩, ⟨S1x64, broadcastInDim S1x64 ![1] bcast_S64_S1x64_1 g7⟩] concatenates_S1x64_S1x64_S1x64_S1x64_S4x64_d0) shapeCasts_S4x64_S1x4x1x64)) shapeCasts_S1x4x8x64_S4x512
theorem after_v15 (W : Valuation τ sig (Elt Ideal)) : @Eq (FVec Ideal S4x512 .f32) (StableHlo.after hostOps0_4 W (Proc.devRef .tc main_v15)) (lanes (W (Proc.devRef .tc main_arg4)) (W (Proc.devRef .tc main_arg5)) (W (Proc.devRef .tc main_arg6)) (W (Proc.devRef .tc main_arg7))) := by
  after_results_entrywise (rounds := 1) []
theorem after_v17 (W : Valuation τ sig (Elt Ideal)) : @Eq (FVec Ideal S512x512 .bf16) (StableHlo.after hostOps0_4 W (Proc.devRef .tc main_v17)) (shapeCast S512x512 (broadcastInDim S8x64x8x64 ![0, 1, 2, 3] bcast_S8x1x8x1_S8x64x8x64_0_1_2_3 (W (Proc.devRef .tc main_cst))) shapeCasts_S8x64x8x64_S512x512) := by
  after_results_simp
  rfl
/-- The host's lines before the gains are stacked. -/
abbrev opsBefore : List (HloOp τ sig (Elt Ideal)) := List.flatten [hostOps0, hostOps0_1, hostOps0_2, hostOps0_3]
theorem V_v15 (c : Dev nD) : @Eq (FVec Ideal S4x512 .f32) (V m c main_v15) (lanes (m ((c : Thread nD τ).loc main_arg4)) (m ((c : Thread nD τ).loc main_arg5)) (m ((c : Thread nD τ).loc main_arg6)) (m ((c : Thread nD τ).loc main_arg7))) := by
  have e : V m c main_v15 = StableHlo.after hostOps0_4 (StableHlo.after opsBefore fun b => m (c, b)) (Proc.devRef .tc main_v15) := by
    show StableHlo.after (List.flatten hostLines) _ _ = _
    rfl
  have h4 : StableHlo.after opsBefore (fun b => m (c, b)) (Proc.devRef .tc main_arg4) = m ((c : Thread nD τ).loc main_arg4) := by
    simp only [opsBefore, List.flatten_cons, List.flatten_nil, List.append_nil, List.cons_append, List.nil_append]
    after_results_simp
  have h5 : StableHlo.after opsBefore (fun b => m (c, b)) (Proc.devRef .tc main_arg5) = m ((c : Thread nD τ).loc main_arg5) := by
    simp only [opsBefore, List.flatten_cons, List.flatten_nil, List.append_nil, List.cons_append, List.nil_append]
    after_results_simp
  have h6 : StableHlo.after opsBefore (fun b => m (c, b)) (Proc.devRef .tc main_arg6) = m ((c : Thread nD τ).loc main_arg6) := by
    simp only [opsBefore, List.flatten_cons, List.flatten_nil, List.append_nil, List.cons_append, List.nil_append]
    after_results_simp
  have h7 : StableHlo.after opsBefore (fun b => m (c, b)) (Proc.devRef .tc main_arg7) = m ((c : Thread nD τ).loc main_arg7) := by
    simp only [opsBefore, List.flatten_cons, List.flatten_nil, List.append_nil, List.cons_append, List.nil_append]
    after_results_simp
  rw [e, after_v15, h4, h5, h6, h7]

theorem V_v17 (c : Dev nD) : @Eq (FVec Ideal S512x512 .bf16) (V m c main_v17) headSum := by
  have e : V m c main_v17 = StableHlo.after hostOps0_4 (StableHlo.after opsBefore fun b => m (c, b)) (Proc.devRef .tc main_v17) := by
    show StableHlo.after (List.flatten [hostOps0, hostOps0_1, hostOps0_2, hostOps0_3, hostOps0_4]) _ _ = _
    rfl
  have h : @Eq (FVec Ideal S8x1x8x1 .bf16) (StableHlo.after opsBefore (fun b => m (c, b)) (Proc.devRef .tc main_cst)) (fun i => FloatOps.ofBits (F := Ideal) .bf16 (lit0 (S8x1x8x1.rowMajor i))) := by
    simp only [opsBefore, List.flatten_cons, List.flatten_nil, List.append_nil, List.cons_append, List.nil_append]
    after_results_simp
    rfl
  rw [e, after_v17, h]

theorem blk0 (c : Dev nD) (t : Fin cfg0.N) (r : Fin 512) (k : Fin 1024) :
    iblk m c 0 t (ix2 r k) = m ((c : Thread nD τ).loc main_arg0) (ix2 (row t r) k) := by
  blk_simp [iblk]
  rw [V_main_arg0]
  exact congrArg _ (by blk_ext [idx0])
theorem blk1 (c : Dev nD) (t : Fin cfg0.N) (k : Fin 1024) :
    iblk m c 1 t (ix2 0 k) = m ((c : Thread nD τ).loc main_arg1) (ix1 k) := by
  blk_simp [iblk]
  rw [V_v0, show (win0_1.blk t).view.emb (ix2 0 k) = ix2 0 k by blk_ext [idx1]]
  pointwise []
theorem blk2 (c : Dev nD) (t : Fin cfg0.N) (k : Fin 1024) (l : Fin 3072) :
    iblk m c 2 t (ix2 k l) = m ((c : Thread nD τ).loc main_arg2) (ix2 k ⟨l.val, by omega⟩) := by
  blk_simp [iblk]
  rw [V_v2, show (win0_2.blk t).view.emb (ix2 k l) = ix2 k l by blk_ext [idx2]]
  pointwise []
theorem blk3 (c : Dev nD) (t : Fin cfg0.N) (k : Fin 1024) (h : Fin 8) :
    iblk m c 3 t (ix2 k ⟨h.val, by omega⟩) = m ((c : Thread nD τ).loc main_arg2) (ix2 k ⟨3072 + h.val, by omega⟩) := by
  blk_simp [iblk]
  rw [V_v5, show (win0_3.blk t).view.emb (ix2 k ⟨h.val, by omega⟩) = ix2 k ⟨h.val, by omega⟩ by blk_ext [idx3]]
  pointwise []
theorem blk4 (c : Dev nD) (t : Fin cfg0.N) (h : Fin 8) :
    iblk m c 4 t (ix2 0 ⟨h.val, by omega⟩) = m ((c : Thread nD τ).loc main_arg3) (ix1 h) := by
  blk_simp [iblk]
  rw [V_v7, show (win0_4.blk t).view.emb (ix2 0 ⟨h.val, by omega⟩) = ix2 0 ⟨h.val, by omega⟩ by blk_ext [idx4]]
  pointwise []
  exact dif_pos (Fin.cases h.isLt fun i => i.elim0)
theorem blk5_1 (c : Dev nD) (t : Fin cfg0.N) (l : Fin 512) :
    iblk m c 5 t (ix2 1 l) = m ((c : Thread nD τ).loc main_arg5) (ix1 ⟨l.val % 64, by omega⟩) := by
  blk_simp [iblk]
  rw [V_v15, show (win0_5.blk t).view.emb (ix2 1 l) = ix2 1 l by blk_ext [idx5]]
  pointwise []
theorem blk5_3 (c : Dev nD) (t : Fin cfg0.N) (l : Fin 512) :
    iblk m c 5 t (ix2 3 l) = m ((c : Thread nD τ).loc main_arg7) (ix1 ⟨l.val % 64, by omega⟩) := by
  blk_simp [iblk]
  rw [V_v15, show (win0_5.blk t).view.emb (ix2 3 l) = ix2 3 l by blk_ext [idx5]]
  pointwise []
/-- The identity's bits. -/
theorem eye_bits : ∀ a b : Fin 8, lit0 (S8x1x8x1.rowMajor (ix4 a 0 b 0)) = if a = b then 0x3F80#16 else 0#16 := by
  decide +kernel
/-- One entry of the head-sum matrix: 1 where the two lanes are of one head. -/
theorem headSum_apply (j l : Fin 512) : @Eq EReal (headSum (ix2 j l)) (if j.val / 64 = l.val / 64 then 1 else 0) := by
  refine Eq.trans (b := (FloatOps.ofBits (F := Ideal) .bf16 (lit0 (S8x1x8x1.rowMajor (ix4 ⟨j.val / 64, by omega⟩ 0 ⟨l.val / 64, by omega⟩ 0))) : EReal)) (by pointwise []) ?_
  rw [eye_bits]
  simp only [Fin.mk.injEq]
  split_ifs
  · show Ideal.ofBits .bf16 0x3F80#16 = 1
    simp [Ideal.ofBits, Ideal.ieee, -EReal.coe_mul]
    try norm_num
  · show Ideal.ofBits .bf16 0#16 = 0
    simp [Ideal.ofBits, Ideal.ieee, -EReal.coe_mul]
theorem blk6 (c : Dev nD) (t : Fin cfg0.N) (j l : Fin 512) :
    @Eq EReal (iblk m c 6 t (ix2 j l)) (if j.val / 64 = l.val / 64 then 1 else 0) := by
  blk_simp [iblk]
  rw [V_v17, show (win0_6.blk t).view.emb (ix2 j l) = ix2 j l by blk_ext [idx6]]
  exact headSum_apply j l

/-- The projection's columns and the gains that a group of results uses. -/
theorem w_512 (c : Dev nD) (t : Fin cfg0.N) (k : Fin 1024) (l : Fin 512) :
    View.ld (iblk m c 2 t) (Rect.unit ![0, 512] ![1024, 512] inb_S1024x3072_S1024x512_0_512) (ix2 k l)
      = m ((c : Thread nD τ).loc main_arg2) (ix2 k ⟨512 + l.val, by omega⟩) := by
  refine Eq.trans ?_ (blk2 m c t k ⟨512 + l.val, by omega⟩)
  pointwise []
theorem w_1024 (c : Dev nD) (t : Fin cfg0.N) (k : Fin 1024) (l : Fin 512) :
    View.ld (iblk m c 2 t) (Rect.unit ![0, 1024] ![1024, 512] inb_S1024x3072_S1024x512_0_1024) (ix2 k l)
      = m ((c : Thread nD τ).loc main_arg2) (ix2 k ⟨1024 + l.val, by omega⟩) := by
  refine Eq.trans ?_ (blk2 m c t k ⟨1024 + l.val, by omega⟩)
  pointwise []
theorem w_2048 (c : Dev nD) (t : Fin cfg0.N) (k : Fin 1024) (l : Fin 512) :
    View.ld (iblk m c 2 t) (Rect.unit ![0, 2048] ![1024, 512] inb_S1024x3072_S1024x512_0_2048) (ix2 k l)
      = m ((c : Thread nD τ).loc main_arg2) (ix2 k ⟨2048 + l.val, by omega⟩) := by
  refine Eq.trans ?_ (blk2 m c t k ⟨2048 + l.val, by omega⟩)
  pointwise []
theorem w_2560 (c : Dev nD) (t : Fin cfg0.N) (k : Fin 1024) (l : Fin 512) :
    View.ld (iblk m c 2 t) (Rect.unit ![0, 2560] ![1024, 512] inb_S1024x3072_S1024x512_0_2560) (ix2 k l)
      = m ((c : Thread nD τ).loc main_arg2) (ix2 k ⟨2560 + l.val, by omega⟩) := by
  refine Eq.trans ?_ (blk2 m c t k ⟨2560 + l.val, by omega⟩)
  pointwise []
theorem gain_1 (c : Dev nD) (t : Fin cfg0.N) (l : Fin 512) :
    View.ld (iblk m c 5 t) (Rect.unit ![1, 0] ![1, 512] inb_S4x512_S1x512_1_0) (ix2 0 l)
      = m ((c : Thread nD τ).loc main_arg5) (ix1 ⟨l.val % 64, by omega⟩) := by
  refine Eq.trans ?_ (blk5_1 m c t l)
  pointwise []
theorem gain_3 (c : Dev nD) (t : Fin cfg0.N) (l : Fin 512) :
    View.ld (iblk m c 5 t) (Rect.unit ![3, 0] ![1, 512] inb_S4x512_S1x512_3_0) (ix2 0 l)
      = m ((c : Thread nD τ).loc main_arg7) (ix1 ⟨l.val % 64, by omega⟩) := by
  refine Eq.trans ?_ (blk5_3 m c t l)
  pointwise []

/-- The band attention's new keys. -/
theorem final15 (c : Dev nD) : (dats m 0 c).arrAt 15 cfg0.N = (args m c).keysA := by
  refine (dats m 0 c).arrAt_eq_of_covers 15 _ (by decide +kernel) fun t hf y => ?_
  have h15 : t.val % 16 = 15 := (by decide +kernel : ∀ t : Fin cfg0.N, (cfg0.win 15).flush t = true → t.val % 16 = 15) t hf
  have hN : cfg0.N = 32 := N_0
  have ht : t.val < cfg0.N := t.isLt
  blk_simp
  rw [after0_15, outsAt0_B m c t (by omega)]
  dsimp only
  frame_out
  idx_vars y
  rw [show ((View.whole main_v22_3).slice (win0_15.rect t)).emb (ix2 y0 y1) = ix2 ⟨t.val / 16 * 512 + y0.val, by omega⟩ y1 by blk_ext [idx15]]
  refine (keysA_apply _ _ _ _ _ _ _).trans ?_
  simp only [w_512, gain_1, blk0, blk1]
  rw [LayerMath.headNormBy_eq _ _ (fun j => m ((c : Thread nD τ).loc main_arg5) (ix1 j)) _ (fun j => blk6 m c t j y1)]
  show _ = LayerMath.headNorm ((args m c).seg (Args.newest ⟨t.val / 16 * 512 + y0.val, by omega⟩) 512 (by norm_num)) (fun j => m ((c : Thread nD τ).loc main_arg5) (ix1 j)) y1
  rw [show Args.newest ⟨t.val / 16 * 512 + y0.val, by omega⟩ = row t y0 from Fin.ext (by show (t.val / 16 * 512 + y0.val) / 512 * 8192 + (7680 + (t.val / 16 * 512 + y0.val) % 512) = t.val * 512 + y0.val; omega)]
  rfl

/-- The band attention's new values. -/
theorem final16 (c : Dev nD) : (dats m 0 c).arrAt 16 cfg0.N = (args m c).valuesA := by
  refine (dats m 0 c).arrAt_eq_of_covers 16 _ (by decide +kernel) fun t hf y => ?_
  have h15 : t.val % 16 = 15 := (by decide +kernel : ∀ t : Fin cfg0.N, (cfg0.win 16).flush t = true → t.val % 16 = 15) t hf
  have hN : cfg0.N = 32 := N_0
  have ht : t.val < cfg0.N := t.isLt
  blk_simp
  rw [after0_16, outsAt0_B m c t (by omega)]
  dsimp only
  frame_out
  idx_vars y
  rw [show ((View.whole main_v22_4).slice (win0_16.rect t)).emb (ix2 y0 y1) = ix2 ⟨t.val / 16 * 512 + y0.val, by omega⟩ y1 by blk_ext [idx16]]
  refine (valuesA_apply _ _ _ _ _).trans ?_
  simp only [w_1024, blk0, blk1]
  show _ = (args m c).seg (Args.newest ⟨t.val / 16 * 512 + y0.val, by omega⟩) 1024 (by norm_num) y1
  rw [show Args.newest ⟨t.val / 16 * 512 + y0.val, by omega⟩ = row t y0 from Fin.ext (by show (t.val / 16 * 512 + y0.val) / 512 * 8192 + (7680 + (t.val / 16 * 512 + y0.val) % 512) = t.val * 512 + y0.val; omega)]
  rfl

/-- What one grid point stores of the forgetting attention's keys, its values and its forget gates. -/
theorem tok20 (c : Dev nD) (t : Fin cfg0.N) (y0 : Fin 512) (y1 : Fin 512) :
    k0_pay29 (k0_pay6 (iblk m c 0 t) (iblk m c 1 t)) (View.ld (iblk m c 2 t) (Rect.unit ![0, 2048] ![1024, 512] inb_S1024x3072_S1024x512_0_2048)) (iblk m c 6 t) (View.ld (iblk m c 5 t) (Rect.unit ![3, 0] ![1, 512] inb_S4x512_S1x512_3_0)) (ix2 y0 y1) = (args m c).keysB (ix2 (row t y0) y1) := by
  refine (keysB_apply _ _ _ _ _ _ _).trans ?_
  simp only [w_2048, gain_3, blk0, blk1]
  rw [LayerMath.headNormBy_eq _ _ (fun j => m ((c : Thread nD τ).loc main_arg7) (ix1 j)) _ (fun j => blk6 m c t j y1)]
  rfl
theorem tok21 (c : Dev nD) (t : Fin cfg0.N) (y0 : Fin 512) (y1 : Fin 512) :
    k0_pay32 (k0_pay6 (iblk m c 0 t) (iblk m c 1 t)) (k0_pay31 (View.ld (iblk m c 2 t) (Rect.unit ![0, 2560] ![1024, 512] inb_S1024x3072_S1024x512_0_2560))) (ix2 y0 y1) = (args m c).valuesB (ix2 (row t y0) y1) := by
  refine (valuesB_apply _ _ _ _ _).trans ?_
  simp only [w_2560, blk0, blk1]
  rfl
theorem tok23 (c : Dev nD) (t : Fin cfg0.N) (y0 : Fin 512) (y1 : Fin 8) :
    k0_pay15 (k0_pay6 (iblk m c 0 t) (iblk m c 1 t)) (iblk m c 3 t) (iblk m c 4 t) (ix2 y0 y1) = (args m c).logf (ix2 (row t y0) y1) := by
  refine (logf_apply _ _ _ _ _ _).trans ?_
  simp only [blk3, blk4, blk0, blk1]
  rfl

/-- The forgetting attention's new keys. -/
theorem final20 (c : Dev nD) : (dats m 0 c).arrAt 20 cfg0.N = (args m c).keysB := by
  refine (dats m 0 c).arrAt_eq_of_covers 20 _ (by decide +kernel) fun t hf y => ?_
  blk_simp
  rw [after0_20]
  by_cases h0 : t.val % 16 = 0
  · rw [outsAt0_A m c t h0]
    dsimp only
    frame_out
    idx_vars y
    rw [show ((View.whole main_v22_8).slice (win0_20.rect t)).emb (ix2 y0 y1) = ix2 (row t y0) y1 by blk_ext [idx20]]
    exact tok20 m c t y0 y1
  · rw [outsAt0_B m c t h0]
    dsimp only
    frame_out
    idx_vars y
    rw [show ((View.whole main_v22_8).slice (win0_20.rect t)).emb (ix2 y0 y1) = ix2 (row t y0) y1 by blk_ext [idx20]]
    exact tok20 m c t y0 y1

/-- The forgetting attention's new values. -/
theorem final21 (c : Dev nD) : (dats m 0 c).arrAt 21 cfg0.N = (args m c).valuesB := by
  refine (dats m 0 c).arrAt_eq_of_covers 21 _ (by decide +kernel) fun t hf y => ?_
  blk_simp
  rw [after0_21]
  by_cases h0 : t.val % 16 = 0
  · rw [outsAt0_A m c t h0]
    dsimp only
    frame_out
    idx_vars y
    rw [show ((View.whole main_v22_9).slice (win0_21.rect t)).emb (ix2 y0 y1) = ix2 (row t y0) y1 by blk_ext [idx21]]
    exact tok21 m c t y0 y1
  · rw [outsAt0_B m c t h0]
    dsimp only
    frame_out
    idx_vars y
    rw [show ((View.whole main_v22_9).slice (win0_21.rect t)).emb (ix2 y0 y1) = ix2 (row t y0) y1 by blk_ext [idx21]]
    exact tok21 m c t y0 y1

/-- The logarithms of the forget gates. -/
theorem final23 (c : Dev nD) : (dats m 0 c).arrAt 23 cfg0.N = (args m c).logf := by
  refine (dats m 0 c).arrAt_eq_of_covers 23 _ (by decide +kernel) fun t hf y => ?_
  blk_simp
  rw [after0_23]
  by_cases h0 : t.val % 16 = 0
  · rw [outsAt0_A m c t h0]
    dsimp only
    frame_out
    idx_vars y
    rw [show ((View.whole main_v22_11).slice (win0_23.rect t)).emb (ix2 y0 y1) = ix2 (row t y0) y1 by blk_ext [idx23]]
    exact tok23 m c t y0 y1
  · rw [outsAt0_B m c t h0]
    dsimp only
    frame_out
    idx_vars y
    rw [show ((View.whole main_v22_11).slice (win0_23.rect t)).emb (ix2 y0 y1) = ix2 (row t y0) y1 by blk_ext [idx23]]
    exact tok23 m c t y0 y1

/-- The kernel's run leaves the new keys, values and forget gates of every token in its result arrays and its arguments as
they were. -/
theorem run : θ_run defs (onTc (τ := τ) (main (F := Ideal))) ⟨m, fun _ => 0, ρ⟩ fun r => ∀ c : Dev nD,
    r.2.mem ((c : Thread nD τ).loc main_v22_3) = (args m c).keysA
    ∧ r.2.mem ((c : Thread nD τ).loc main_v22_4) = (args m c).valuesA
    ∧ r.2.mem ((c : Thread nD τ).loc main_v22_8) = (args m c).keysB
    ∧ r.2.mem ((c : Thread nD τ).loc main_v22_9) = (args m c).valuesB
    ∧ r.2.mem ((c : Thread nD τ).loc main_v22_11) = (args m c).logf
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) :=
  (θ_run defs _ _).mono (fun _ h c => by
    obtain ⟨-, -, -, h3, h4, -, -, -, h8, h9, -, h11, hk⟩ := h c
    exact ⟨h3.trans (final15 m c), h4.trans (final16 m c), h8.trans (final20 m c), h9.trans (final21 m c), h11.trans (final23 m c), hk⟩)
    (Value.run_blocks m ρ)

end Cert.InprojIdeal.Math

end
-- ==== Proof.RefRun.lean ====
/-
The reference of the mixture-of-experts feed-forward, run: its host operations as a list, cut where the
mathematics has a name (normalised tokens, coarse logits, chosen group, …), each piece read as one function of
the pieces before it, and the whole program's result as the composition of these functions.
-/
module

public import proofs.«01_k».proof.Proof.Gen.ReferenceIdeal
public import Idealize.ShloMosaic.Lib.StableHlo.Run
public import Idealize.ShloMosaic.Lib.Pipeline.Frame

@[expose] public section

set_option maxRecDepth 8192

noncomputable section

namespace Cert.ReferenceIdeal.Moe

open Cert.ReferenceIdeal Cert.ReferenceIdeal.Gen Idealize.ShloMosaic Idealize.ShloMosaic.TcCoe Idealize.SL.Sem Idealize.ShloMosaic.StableHlo

variable {F : FTy → Type} [FloatOps F]

/-- The operations that compute the normalised tokens: each row of the tokens times the reciprocal root of its mean square, times the gain. -/
abbrev opsA : List (HloOp τ sig (Elt F)) :=
  [ binary main_arg0 main_arg0 main_v0 (mulf : (⟨S16384x1024, .f32⟩ : BufTy).Contents (Elt F) → (⟨S16384x1024, .f32⟩ : BufTy).Contents (Elt F) → (⟨S16384x1024, .f32⟩ : BufTy).Contents (Elt F)),
    nullary main_cst (constant S_ .f32 0x00000000#32),
    binary main_v0 main_cst main_v1 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    nullary main_cst_0 (constant S_ .f32 0x44800000#32),
    unary main_cst_0 main_v3 (broadcastInDim S16384x1 ![] bcast_S_S16384x1 : (⟨S_, .f32⟩ : BufTy).Contents (Elt F) → (⟨S16384x1, .f32⟩ : BufTy).Contents (Elt F)),
    binary main_v2 main_v3 main_v4 (Host.divf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x358637BD#32),
    unary main_cst_1 main_v5 (broadcastInDim S16384x1 ![] bcast_S_S16384x1 : (⟨S_, .f32⟩ : BufTy).Contents (Elt F) → (⟨S16384x1, .f32⟩ : BufTy).Contents (Elt F)),
    binary main_v4 main_v5 main_v6 (addf : (⟨S16384x1, .f32⟩ : BufTy).Contents (Elt F) → (⟨S16384x1, .f32⟩ : BufTy).Contents (Elt F) → (⟨S16384x1, .f32⟩ : BufTy).Contents (Elt F)),
    unary main_v6 main_v7 (Host.rsqrt : (⟨S16384x1, .f32⟩ : BufTy).Contents (Elt F) → (⟨S16384x1, .f32⟩ : BufTy).Contents (Elt F)),
    unary main_v7 main_v8 (broadcastInDim S16384x1024 ![0, 1] bcast_S16384x1_S16384x1024_0_1 : (⟨S16384x1, .f32⟩ : BufTy).Contents (Elt F) → (⟨S16384x1024, .f32⟩ : BufTy).Contents (Elt F)),
    binary main_arg0 main_v8 main_v9 (mulf : (⟨S16384x1024, .f32⟩ : BufTy).Contents (Elt F) → (⟨S16384x1024, .f32⟩ : BufTy).Contents (Elt F) → (⟨S16384x1024, .f32⟩ : BufTy).Contents (Elt F)),
    unary main_arg1 main_v10 (broadcastInDim S1x1024 ![1] bcast_S1024_S1x1024_1 : (⟨S1024, .f32⟩ : BufTy).Contents (Elt F) → (⟨S1x1024, .f32⟩ : BufTy).Contents (Elt F)),
    unary main_v10 main_v11 (broadcastInDim S16384x1024 ![0, 1] bcast_S1x1024_S16384x1024_0_1 : (⟨S1x1024, .f32⟩ : BufTy).Contents (Elt F) → (⟨S16384x1024, .f32⟩ : BufTy).Contents (Elt F)),
    binary main_v9 main_v11 main_v12 (mulf : (⟨S16384x1024, .f32⟩ : BufTy).Contents (Elt F) → (⟨S16384x1024, .f32⟩ : BufTy).Contents (Elt F) → (⟨S16384x1024, .f32⟩ : BufTy).Contents (Elt F)) ]
/-- The normalised tokens: each row of the tokens times the reciprocal root of its mean square, times the gain. -/
def hxOf (arg0 : (⟨S16384x1024, .f32⟩ : BufTy).Contents (Elt F)) (arg1 : (⟨S1024, .f32⟩ : BufTy).Contents (Elt F)) : (⟨S16384x1024, .f32⟩ : BufTy).Contents (Elt F) :=
  let v0 : (⟨S16384x1024, .f32⟩ : BufTy).Contents (Elt F) := (mulf : (⟨S16384x1024, .f32⟩ : BufTy).Contents (Elt F) → (⟨S16384x1024, .f32⟩ : BufTy).Contents (Elt F) → (⟨S16384x1024, .f32⟩ : BufTy).Contents (Elt F)) arg0 arg0
  let cst : (⟨S_, .f32⟩ : BufTy).Contents (Elt F) := (constant S_ .f32 0x00000000#32)
  let v1 : (⟨S16384, .f32⟩ : BufTy).Contents (Elt F) := ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)) v0 cst
  let v2 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) v1
  let cst_0 : (⟨S_, .f32⟩ : BufTy).Contents (Elt F) := (constant S_ .f32 0x44800000#32)
  let v3 : (⟨S16384x1, .f32⟩ : BufTy).Contents (Elt F) := (broadcastInDim S16384x1 ![] bcast_S_S16384x1 : (⟨S_, .f32⟩ : BufTy).Contents (Elt F) → (⟨S16384x1, .f32⟩ : BufTy).Contents (Elt F)) cst_0
  let v4 : (⟨S16384x1, .f32⟩ : BufTy).Contents (Elt F) := (Host.divf : (⟨S16384x1, .f32⟩ : BufTy).Contents (Elt F) → (⟨S16384x1, .f32⟩ : BufTy).Contents (Elt F) → (⟨S16384x1, .f32⟩ : BufTy).Contents (Elt F)) v2 v3
  let cst_1 : (⟨S_, .f32⟩ : BufTy).Contents (Elt F) := (constant S_ .f32 0x358637BD#32)
  let v5 : (⟨S16384x1, .f32⟩ : BufTy).Contents (Elt F) := (broadcastInDim S16384x1 ![] bcast_S_S16384x1 : (⟨S_, .f32⟩ : BufTy).Contents (Elt F) → (⟨S16384x1, .f32⟩ : BufTy).Contents (Elt F)) cst_1
  let v6 : (⟨S16384x1, .f32⟩ : BufTy).Contents (Elt F) := (addf : (⟨S16384x1, .f32⟩ : BufTy).Contents (Elt F) → (⟨S16384x1, .f32⟩ : BufTy).Contents (Elt F) → (⟨S16384x1, .f32⟩ : BufTy).Contents (Elt F)) v4 v5
  let v7 : (⟨S16384x1, .f32⟩ : BufTy).Contents (Elt F) := (Host.rsqrt : (⟨S16384x1, .f32⟩ : BufTy).Contents (Elt F) → (⟨S16384x1, .f32⟩ : BufTy).Contents (Elt F)) v6
  let v8 : (⟨S16384x1024, .f32⟩ : BufTy).Contents (Elt F) := (broadcastInDim S16384x1024 ![0, 1] bcast_S16384x1_S16384x1024_0_1 : (⟨S16384x1, .f32⟩ : BufTy).Contents (Elt F) → (⟨S16384x1024, .f32⟩ : BufTy).Contents (Elt F)) v7
  let v9 : (⟨S16384x1024, .f32⟩ : BufTy).Contents (Elt F) := (mulf : (⟨S16384x1024, .f32⟩ : BufTy).Contents (Elt F) → (⟨S16384x1024, .f32⟩ : BufTy).Contents (Elt F) → (⟨S16384x1024, .f32⟩ : BufTy).Contents (Elt F)) arg0 v8
  let v10 : (⟨S1x1024, .f32⟩ : BufTy).Contents (Elt F) := (broadcastInDim S1x1024 ![1] bcast_S1024_S1x1024_1 : (⟨S1024, .f32⟩ : BufTy).Contents (Elt F) → (⟨S1x1024, .f32⟩ : BufTy).Contents (Elt F)) arg1
  let v11 : (⟨S16384x1024, .f32⟩ : BufTy).Contents (Elt F) := (broadcastInDim S16384x1024 ![0, 1] bcast_S1x1024_S16384x1024_0_1 : (⟨S1x1024, .f32⟩ : BufTy).Contents (Elt F) → (⟨S16384x1024, .f32⟩ : BufTy).Contents (Elt F)) v10
  let v12 : (⟨S16384x1024, .f32⟩ : BufTy).Contents (Elt F) := (mulf : (⟨S16384x1024, .f32⟩ : BufTy).Contents (Elt F) → (⟨S16384x1024, .f32⟩ : BufTy).Contents (Elt F) → (⟨S16384x1024, .f32⟩ : BufTy).Contents (Elt F)) v9 v11
  v12
/-- The operations that compute the coarse logits: one per group of experts. -/
abbrev opsB : List (HloOp τ sig (Elt F)) :=
  [ binary main_v12 main_arg2 main_v13 ((fun l r => Host.dotGeneral dot_S16384x1024_S1024x4_S16384x4_1_0_0_1_n_n none l r) : (⟨S16384x1024, .f32⟩ : BufTy).Contents (Elt F) → (⟨S1024x4, .f32⟩ : BufTy).Contents (Elt F) → (⟨S16384x4, .f32⟩ : BufTy).Contents (Elt F)),
    unary main_arg3 main_v14 (broadcastInDim S1x4 ![1] bcast_S4_S1x4_1 : (⟨S4, .f32⟩ : BufTy).Contents (Elt F) → (⟨S1x4, .f32⟩ : BufTy).Contents (Elt F)),
    unary main_v14 main_v15 (broadcastInDim S16384x4 ![0, 1] bcast_S1x4_S16384x4_0_1 : (⟨S1x4, .f32⟩ : BufTy).Contents (Elt F) → (⟨S16384x4, .f32⟩ : BufTy).Contents (Elt F)),
    binary main_v13 main_v15 main_v16 (addf : (⟨S16384x4, .f32⟩ : BufTy).Contents (Elt F) → (⟨S16384x4, .f32⟩ : BufTy).Contents (Elt F) → (⟨S16384x4, .f32⟩ : BufTy).Contents (Elt F)) ]
/-- The coarse logits: one per group of experts. -/
def coarseOf (v12 : (⟨S16384x1024, .f32⟩ : BufTy).Contents (Elt F)) (arg2 : (⟨S1024x4, .f32⟩ : BufTy).Contents (Elt F)) (arg3 : (⟨S4, .f32⟩ : BufTy).Contents (Elt F)) : (⟨S16384x4, .f32⟩ : BufTy).Contents (Elt F) :=
  let v13 : (⟨S16384x4, .f32⟩ : BufTy).Contents (Elt F) := ((fun l r => Host.dotGeneral dot_S16384x1024_S1024x4_S16384x4_1_0_0_1_n_n none l r) : (⟨S16384x1024, .f32⟩ : BufTy).Contents (Elt F) → (⟨S1024x4, .f32⟩ : BufTy).Contents (Elt F) → (⟨S16384x4, .f32⟩ : BufTy).Contents (Elt F)) v12 arg2
  let v14 : (⟨S1x4, .f32⟩ : BufTy).Contents (Elt F) := (broadcastInDim S1x4 ![1] bcast_S4_S1x4_1 : (⟨S4, .f32⟩ : BufTy).Contents (Elt F) → (⟨S1x4, .f32⟩ : BufTy).Contents (Elt F)) arg3
  let v15 : (⟨S16384x4, .f32⟩ : BufTy).Contents (Elt F) := (broadcastInDim S16384x4 ![0, 1] bcast_S1x4_S16384x4_0_1 : (⟨S1x4, .f32⟩ : BufTy).Contents (Elt F) → (⟨S16384x4, .f32⟩ : BufTy).Contents (Elt F)) v14
  let v16 : (⟨S16384x4, .f32⟩ : BufTy).Contents (Elt F) := (addf : (⟨S16384x4, .f32⟩ : BufTy).Contents (Elt F) → (⟨S16384x4, .f32⟩ : BufTy).Contents (Elt F) → (⟨S16384x4, .f32⟩ : BufTy).Contents (Elt F)) v13 v15
  v16
/-- The operations that compute the softmax of the coarse logits. -/
abbrev opsC : List (HloOp τ sig (Elt F)) :=
  [ nullary main_cst_2 (constant S_ .f32 0xFF800000#32),
    binary main_v16 main_cst_2 main_v17 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    nullary main_cst_3 (constant S_ .f32 0xFF800000#32),
    unary main_cst_3 main_v18 (broadcastInDim S16384 ![] bcast_S_S16384 : (⟨S_, .f32⟩ : BufTy).Contents (Elt F) → (⟨S16384, .f32⟩ : BufTy).Contents (Elt F)),
    binary main_v18 main_v17 main_v19 (maximumf : (⟨S16384, .f32⟩ : BufTy).Contents (Elt F) → (⟨S16384, .f32⟩ : BufTy).Contents (Elt F) → (⟨S16384, .f32⟩ : BufTy).Contents (Elt F)),
    unary main_v19 main_v20 (broadcastInDim S16384x1 ![0] bcast_S16384_S16384x1_0 : (⟨S16384, .f32⟩ : BufTy).Contents (Elt F) → (⟨S16384x1, .f32⟩ : BufTy).Contents (Elt F)),
    unary main_v20 main_v21 (broadcastInDim S16384x4 ![0, 1] bcast_S16384x1_S16384x4_0_1 : (⟨S16384x1, .f32⟩ : BufTy).Contents (Elt F) → (⟨S16384x4, .f32⟩ : BufTy).Contents (Elt F)),
    binary main_v16 main_v21 main_v22 (subf : (⟨S16384x4, .f32⟩ : BufTy).Contents (Elt F) → (⟨S16384x4, .f32⟩ : BufTy).Contents (Elt F) → (⟨S16384x4, .f32⟩ : BufTy).Contents (Elt F)),
    unary main_v22 main_v23 (Host.exp : (⟨S16384x4, .f32⟩ : BufTy).Contents (Elt F) → (⟨S16384x4, .f32⟩ : BufTy).Contents (Elt F)),
    nullary main_cst_4 (constant S_ .f32 0x00000000#32),
    binary main_v23 main_cst_4 main_v24 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    unary main_v24 main_v25 (broadcastInDim S16384x1 ![0] bcast_S16384_S16384x1_0 : (⟨S16384, .f32⟩ : BufTy).Contents (Elt F) → (⟨S16384x1, .f32⟩ : BufTy).Contents (Elt F)),
    unary main_v25 main_v26 (broadcastInDim S16384x4 ![0, 1] bcast_S16384x1_S16384x4_0_1 : (⟨S16384x1, .f32⟩ : BufTy).Contents (Elt F) → (⟨S16384x4, .f32⟩ : BufTy).Contents (Elt F)),
    binary main_v23 main_v26 main_v27 (Host.divf : (⟨S16384x4, .f32⟩ : BufTy).Contents (Elt F) → (⟨S16384x4, .f32⟩ : BufTy).Contents (Elt F) → (⟨S16384x4, .f32⟩ : BufTy).Contents (Elt F)) ]
/-- The softmax of the coarse logits. -/
def pgOf (v16 : (⟨S16384x4, .f32⟩ : BufTy).Contents (Elt F)) : (⟨S16384x4, .f32⟩ : BufTy).Contents (Elt F) :=
  let cst_2 : (⟨S_, .f32⟩ : BufTy).Contents (Elt F) := (constant S_ .f32 0xFF800000#32)
  let v17 : (⟨S16384, .f32⟩ : BufTy).Contents (Elt F) := ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)) v16 cst_2
  let cst_3 : (⟨S_, .f32⟩ : BufTy).Contents (Elt F) := (constant S_ .f32 0xFF800000#32)
  let v18 : (⟨S16384, .f32⟩ : BufTy).Contents (Elt F) := (broadcastInDim S16384 ![] bcast_S_S16384 : (⟨S_, .f32⟩ : BufTy).Contents (Elt F) → (⟨S16384, .f32⟩ : BufTy).Contents (Elt F)) cst_3
  let v19 : (⟨S16384, .f32⟩ : BufTy).Contents (Elt F) := (maximumf : (⟨S16384, .f32⟩ : BufTy).Contents (Elt F) → (⟨S16384, .f32⟩ : BufTy).Contents (Elt F) → (⟨S16384, .f32⟩ : BufTy).Contents (Elt F)) v18 v17
  let v20 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) v19
  let v21 : (⟨S16384x4, .f32⟩ : BufTy).Contents (Elt F) := (broadcastInDim S16384x4 ![0, 1] bcast_S16384x1_S16384x4_0_1 : (⟨S16384x1, .f32⟩ : BufTy).Contents (Elt F) → (⟨S16384x4, .f32⟩ : BufTy).Contents (Elt F)) v20
  let v22 : (⟨S16384x4, .f32⟩ : BufTy).Contents (Elt F) := (subf : (⟨S16384x4, .f32⟩ : BufTy).Contents (Elt F) → (⟨S16384x4, .f32⟩ : BufTy).Contents (Elt F) → (⟨S16384x4, .f32⟩ : BufTy).Contents (Elt F)) v16 v21
  let v23 : (⟨S16384x4, .f32⟩ : BufTy).Contents (Elt F) := (Host.exp : (⟨S16384x4, .f32⟩ : BufTy).Contents (Elt F) → (⟨S16384x4, .f32⟩ : BufTy).Contents (Elt F)) v22
  let cst_4 : (⟨S_, .f32⟩ : BufTy).Contents (Elt F) := (constant S_ .f32 0x00000000#32)
  let v24 : (⟨S16384, .f32⟩ : BufTy).Contents (Elt F) := ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)) v23 cst_4
  let v25 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) v24
  let v26 : (⟨S16384x4, .f32⟩ : BufTy).Contents (Elt F) := (broadcastInDim S16384x4 ![0, 1] bcast_S16384x1_S16384x4_0_1 : (⟨S16384x1, .f32⟩ : BufTy).Contents (Elt F) → (⟨S16384x4, .f32⟩ : BufTy).Contents (Elt F)) v25
  let v27 : (⟨S16384x4, .f32⟩ : BufTy).Contents (Elt F) := (Host.divf : (⟨S16384x4, .f32⟩ : BufTy).Contents (Elt F) → (⟨S16384x4, .f32⟩ : BufTy).Contents (Elt F) → (⟨S16384x4, .f32⟩ : BufTy).Contents (Elt F)) v23 v26
  v27
/-- The operations that compute the chosen group: where the coarse logits are largest. -/
abbrev opsD : List (HloOp τ sig (Elt F)) :=
  [ TRef.nullary (TRef.of (T := ⟨S16384x4, .i32⟩) main_call0_v0) (iotaInDim S16384x4 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x4, .f32⟩) main_v16) (TRef.of (T := ⟨S16384x4, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmax_f32_i32 x y u v reducesTo_S16384x4_S16384_d1 h_S_ j).1),
    TRef.quaternary (TRef.of (T := ⟨S16384x4, .f32⟩) main_v16) (TRef.of (T := ⟨S16384x4, .i32⟩) main_call0_v0) (TRef.of (T := ⟨S_, .f32⟩) main_call0_cst) (TRef.of (T := ⟨S_, .i32⟩) main_call0_c) (TRef.of (T := ⟨S16384, .i32⟩) main_v28) (fun x y u v j => (Host.argReduce reducer_argmax_f32_i32 x y u v reducesTo_S16384x4_S16384_d1 h_S_ j).2) ]
/-- The chosen group: where the coarse logits are largest. -/
def grpOf (v16 : (⟨S16384x4, .f32⟩ : BufTy).Contents (Elt F)) : (⟨S16384, .i32⟩ : BufTy).Contents (Elt F) :=
  let call0_v0 : (⟨S16384x4, .i32⟩ : BufTy).Contents (Elt F) := (iotaInDim S16384x4 32 1)
  let call0_cst : (⟨S_, .f32⟩ : BufTy).Contents (Elt F) := (constant S_ .f32 0xFF800000#32)
  let call0_c : (⟨S_, .i32⟩ : BufTy).Contents (Elt F) := (constantI S_ 32 0#32)
  let v28 : (⟨S16384, .i32⟩ : BufTy).Contents (Elt F) := (fun x y u v j => (Host.argReduce reducer_argmax_f32_i32 x y u v reducesTo_S16384x4_S16384_d1 h_S_ j).2) v16 call0_v0 call0_cst call0_c
  v28
/-- The operations that compute the probability of the chosen group. -/
abbrev opsE : List (HloOp τ sig (Elt F)) :=
  [ unary main_v28 main_v29 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1, .i32⟩) main_call1_v0) (broadcastInDim S16384x1 ![] bcast_S_S16384x1),
    TRef.binary (TRef.of (T := ⟨S16384x1, .i32⟩) main_v29) (TRef.of (T := ⟨S16384x1, .i32⟩) main_call1_v0) (TRef.of (T := ⟨S16384x1, .i1⟩) main_call1_v1) (cmpi .slt),
    TRef.nullary (TRef.of (T := ⟨S_, .i32⟩) main_call1_c_0) (constantI S_ 32 4#32),
    TRef.unary (TRef.of (T := ⟨S_, .i32⟩) main_call1_c_0) (TRef.of (T := ⟨S16384x1, .i32⟩) main_call1_v2) (broadcastInDim S16384x1 ![] bcast_S_S16384x1),
    TRef.binary (TRef.of (T := ⟨S16384x1, .i32⟩) main_v29) (TRef.of (T := ⟨S16384x1, .i32⟩) main_call1_v2) (TRef.of (T := ⟨S16384x1, .i32⟩) main_call1_v3) addi,
    TRef.ternary (TRef.of (T := ⟨S16384x1, .i1⟩) main_call1_v1) (TRef.of (T := ⟨S16384x1, .i32⟩) main_call1_v3) (TRef.of (T := ⟨S16384x1, .i32⟩) main_v29) (TRef.of (T := ⟨S16384x1, .i32⟩) main_call1_v4) select,
    TRef.reshape (TRef.of (T := ⟨S16384x1, .i32⟩) main_call1_v4) (TRef.of (T := ⟨S16384x1x1, .i32⟩) main_call1_v5) (rfl : (.i32 : EltTy) = .i32) shapeCasts_S16384x1_S16384x1x1,
    TRef.nullary (TRef.of (T := ⟨S1, .i32⟩) main_call1_c_1) (constantI S1 32 3#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v6) (broadcastInDim S16384x1x1 ![] bcast_S_S16384x1x1),
    TRef.binary (TRef.of (T := ⟨S16384x1x1, .i32⟩) main_call1_v5) (TRef.of (T := ⟨S16384x1x1, .i32⟩) main_call1_v6) (TRef.of (T := ⟨S16384x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
    TRef.binary (TRef.of (T := ⟨S16384x1x1, .i32⟩) main_call1_v5) (TRef.of (T := ⟨S16384x1x1, .i32⟩) main_call1_v9) (TRef.of (T := ⟨S16384x1x1, .i1⟩) main_call1_v10) (cmpi .sle),
    TRef.binary (TRef.of (T := ⟨S16384x1x1, .i1⟩) main_call1_v7) (TRef.of (T := ⟨S16384x1x1, .i1⟩) main_call1_v10) (TRef.of (T := ⟨S16384x1x1, .i1⟩) main_call1_v11) andi,
    TRef.nullary (TRef.of (T := ⟨S_, .i1⟩) main_call1_c_3) (constantI S_ 1 1#1),
    TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_),
    TRef.binary (TRef.of (T := ⟨S16384x4, .f32⟩) main_v27) (TRef.of (T := ⟨S16384x1x1, .i32⟩) main_call1_v5) (TRef.of (T := ⟨S16384x1, .f32⟩) main_call1_v13) (fun x i => Host.gather gather_S16384x4_S16384x1x1_S16384x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x1, .f32⟩) main_call1_v14) (broadcastInDim S16384x1 ![] bcast_S_S16384x1),
    TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v30) select ]
/-- The probability of the chosen group. -/
def pgselOf (v27 : (⟨S16384x4, .f32⟩ : BufTy).Contents (Elt F)) (v28 : (⟨S16384, .i32⟩ : BufTy).Contents (Elt F)) : (⟨S16384x1, .f32⟩ : BufTy).Contents (Elt F) :=
  let v29 : (⟨S16384x1, .i32⟩ : BufTy).Contents (Elt F) := (broadcastInDim S16384x1 ![0] bcast_S16384_S16384x1_0 : (⟨S16384, .i32⟩ : BufTy).Contents (Elt F) → (⟨S16384x1, .i32⟩ : BufTy).Contents (Elt F)) v28
  let call1_c : (⟨S_, .i32⟩ : BufTy).Contents (Elt F) := (constantI S_ 32 0#32)
  let call1_v0 : (⟨S16384x1, .i32⟩ : BufTy).Contents (Elt F) := (broadcastInDim S16384x1 ![] bcast_S_S16384x1) call1_c
  let call1_v1 : (⟨S16384x1, .i1⟩ : BufTy).Contents (Elt F) := (cmpi .slt) v29 call1_v0
  let call1_c_0 : (⟨S_, .i32⟩ : BufTy).Contents (Elt F) := (constantI S_ 32 4#32)
  let call1_v2 : (⟨S16384x1, .i32⟩ : BufTy).Contents (Elt F) := (broadcastInDim S16384x1 ![] bcast_S_S16384x1) call1_c_0
  let call1_v3 : (⟨S16384x1, .i32⟩ : BufTy).Contents (Elt F) := addi v29 call1_v2
  let call1_v4 : (⟨S16384x1, .i32⟩ : BufTy).Contents (Elt F) := select call1_v1 call1_v3 v29
  let call1_v5 : (⟨S16384x1x1, .i32⟩ : BufTy).Contents (Elt F) := fun i => shapeCast S16384x1x1 call1_v4 shapeCasts_S16384x1_S16384x1x1 i
  let call1_c_1 : (⟨S1, .i32⟩ : BufTy).Contents (Elt F) := (constantI S1 32 3#32)
  let call1_c_2 : (⟨S_, .i32⟩ : BufTy).Contents (Elt F) := (constantI S_ 32 0#32)
  let call1_v6 : (⟨S16384x1x1, .i32⟩ : BufTy).Contents (Elt F) := (broadcastInDim S16384x1x1 ![] bcast_S_S16384x1x1) call1_c_2
  let call1_v7 : (⟨S16384x1x1, .i1⟩ : BufTy).Contents (Elt F) := (cmpi .sge) call1_v5 call1_v6
  let call1_v8 : (⟨S1x1x1, .i32⟩ : BufTy).Contents (Elt F) := (broadcastInDim S1x1x1 ![2] bcast_S1_S1x1x1_2) call1_c_1
  let call1_v9 : (⟨S16384x1x1, .i32⟩ : BufTy).Contents (Elt F) := (broadcastInDim S16384x1x1 ![0, 1, 2] bcast_S1x1x1_S16384x1x1_0_1_2) call1_v8
  let call1_v10 : (⟨S16384x1x1, .i1⟩ : BufTy).Contents (Elt F) := (cmpi .sle) call1_v5 call1_v9
  let call1_v11 : (⟨S16384x1x1, .i1⟩ : BufTy).Contents (Elt F) := andi call1_v7 call1_v10
  let call1_c_3 : (⟨S_, .i1⟩ : BufTy).Contents (Elt F) := (constantI S_ 1 1#1)
  let call1_v12 : (⟨S16384x1, .i1⟩ : BufTy).Contents (Elt F) := (fun x v => Host.reduce IntOp.andi x v reducesTo_S16384x1x1_S16384x1_d2 h_S_) call1_v11 call1_c_3
  let call1_v13 : (⟨S16384x1, .f32⟩ : BufTy).Contents (Elt F) := (fun x i => Host.gather gather_S16384x4_S16384x1x1_S16384x1_n_1_0_0_1_2_11 x i) v27 call1_v5
  let call1_cst : (⟨S_, .f32⟩ : BufTy).Contents (Elt F) := (constant S_ .f32 0x7FC00000#32)
  let call1_v14 : (⟨S16384x1, .f32⟩ : BufTy).Contents (Elt F) := (broadcastInDim S16384x1 ![] bcast_S_S16384x1) call1_cst
  let v30 : (⟨S16384x1, .f32⟩ : BufTy).Contents (Elt F) := select call1_v12 call1_v13 call1_v14
  v30
/-- The operations that compute the fine logits, eight per group. -/
abbrev opsF : List (HloOp τ sig (Elt F)) :=
  [ binary main_v12 main_arg4 main_v31 ((fun l r => Host.dotGeneral dot_S16384x1024_S4x1024x8_S16384x4x8_1_1_0_02_n_n none l r) : (⟨S16384x1024, .f32⟩ : BufTy).Contents (Elt F) → (⟨S4x1024x8, .f32⟩ : BufTy).Contents (Elt F) → (⟨S16384x4x8, .f32⟩ : BufTy).Contents (Elt F)),
    unary main_arg5 main_v32 (broadcastInDim S1x4x8 ![1, 2] bcast_S4x8_S1x4x8_1_2 : (⟨S4x8, .f32⟩ : BufTy).Contents (Elt F) → (⟨S1x4x8, .f32⟩ : BufTy).Contents (Elt F)),
    unary main_v32 main_v33 (broadcastInDim S16384x4x8 ![0, 1, 2] bcast_S1x4x8_S16384x4x8_0_1_2 : (⟨S1x4x8, .f32⟩ : BufTy).Contents (Elt F) → (⟨S16384x4x8, .f32⟩ : BufTy).Contents (Elt F)),
    binary main_v31 main_v33 main_v34 (addf : (⟨S16384x4x8, .f32⟩ : BufTy).Contents (Elt F) → (⟨S16384x4x8, .f32⟩ : BufTy).Contents (Elt F) → (⟨S16384x4x8, .f32⟩ : BufTy).Contents (Elt F)) ]
/-- The fine logits, eight per group. -/
def fineOf (v12 : (⟨S16384x1024, .f32⟩ : BufTy).Contents (Elt F)) (arg4 : (⟨S4x1024x8, .f32⟩ : BufTy).Contents (Elt F)) (arg5 : (⟨S4x8, .f32⟩ : BufTy).Contents (Elt F)) : (⟨S16384x4x8, .f32⟩ : BufTy).Contents (Elt F) :=
  let v31 : (⟨S16384x4x8, .f32⟩ : BufTy).Contents (Elt F) := ((fun l r => Host.dotGeneral dot_S16384x1024_S4x1024x8_S16384x4x8_1_1_0_02_n_n none l r) : (⟨S16384x1024, .f32⟩ : BufTy).Contents (Elt F) → (⟨S4x1024x8, .f32⟩ : BufTy).Contents (Elt F) → (⟨S16384x4x8, .f32⟩ : BufTy).Contents (Elt F)) v12 arg4
  let v32 : (⟨S1x4x8, .f32⟩ : BufTy).Contents (Elt F) := (broadcastInDim S1x4x8 ![1, 2] bcast_S4x8_S1x4x8_1_2 : (⟨S4x8, .f32⟩ : BufTy).Contents (Elt F) → (⟨S1x4x8, .f32⟩ : BufTy).Contents (Elt F)) arg5
  let v33 : (⟨S16384x4x8, .f32⟩ : BufTy).Contents (Elt F) := (broadcastInDim S16384x4x8 ![0, 1, 2] bcast_S1x4x8_S16384x4x8_0_1_2 : (⟨S1x4x8, .f32⟩ : BufTy).Contents (Elt F) → (⟨S16384x4x8, .f32⟩ : BufTy).Contents (Elt F)) v32
  let v34 : (⟨S16384x4x8, .f32⟩ : BufTy).Contents (Elt F) := (addf : (⟨S16384x4x8, .f32⟩ : BufTy).Contents (Elt F) → (⟨S16384x4x8, .f32⟩ : BufTy).Contents (Elt F) → (⟨S16384x4x8, .f32⟩ : BufTy).Contents (Elt F)) v31 v33
  v34
/-- The operations that compute the fine logits of the chosen group. -/
abbrev opsG : List (HloOp τ sig (Elt F)) :=
  [ unary main_v28 main_v35 (broadcastInDim S16384x1x1 ![0] bcast_S16384_S16384x1x1_0 : (⟨S16384, .i32⟩ : BufTy).Contents (Elt F) → (⟨S16384x1x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16384x1x1, .i32⟩) main_call2_v0) (broadcastInDim S16384x1x1 ![] bcast_S_S16384x1x1),
    TRef.binary (TRef.of (T := ⟨S16384x1x1, .i32⟩) main_v35) (TRef.of (T := ⟨S16384x1x1, .i32⟩) main_call2_v0) (TRef.of (T := ⟨S16384x1x1, .i1⟩) main_call2_v1) (cmpi .slt),
    TRef.nullary (TRef.of (T := ⟨S_, .i32⟩) main_call2_c_0) (constantI S_ 32 4#32),
    TRef.unary (TRef.of (T := ⟨S_, .i32⟩) main_call2_c_0) (TRef.of (T := ⟨S16384x1x1, .i32⟩) main_call2_v2) (broadcastInDim S16384x1x1 ![] bcast_S_S16384x1x1),
    TRef.binary (TRef.of (T := ⟨S16384x1x1, .i32⟩) main_v35) (TRef.of (T := ⟨S16384x1x1, .i32⟩) main_call2_v2) (TRef.of (T := ⟨S16384x1x1, .i32⟩) main_call2_v3) addi,
    TRef.ternary (TRef.of (T := ⟨S16384x1x1, .i1⟩) main_call2_v1) (TRef.of (T := ⟨S16384x1x1, .i32⟩) main_call2_v3) (TRef.of (T := ⟨S16384x1x1, .i32⟩) main_v35) (TRef.of (T := ⟨S16384x1x1, .i32⟩) main_call2_v4) select,
    TRef.nullary (TRef.of (T := ⟨S1, .i32⟩) main_call2_c_1) (constantI S1 32 3#32),
    TRef.nullary (TRef.of (T := ⟨S_, .i32⟩) main_call2_c_2) (constantI S_ 32 0#32),
    TRef.unary (TRef.of (T := ⟨S_, .i32⟩) main_call2_c_2) (TRef.of (T := ⟨S16384x1x1, .i32⟩) main_call2_v5) (broadcastInDim S16384x1x1 ![] bcast_S_S16384x1x1),
    TRef.binary (TRef.of (T := ⟨S16384x1x1, .i32⟩) main_call2_v4) (TRef.of (T := ⟨S16384x1x1, .i32⟩) main_call2_v5) (TRef.of (T := ⟨S16384x1x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S16384x1x1, .i32⟩) main_call2_v8) (broadcastInDim S16384x1x1 ![0, 1, 2] bcast_S1x1x1_S16384x1x1_0_1_2),
    TRef.binary (TRef.of (T := ⟨S16384x1x1, .i32⟩) main_call2_v4) (TRef.of (T := ⟨S16384x1x1, .i32⟩) main_call2_v8) (TRef.of (T := ⟨S16384x1x1, .i1⟩) main_call2_v9) (cmpi .sle),
    TRef.binary (TRef.of (T := ⟨S16384x1x1, .i1⟩) main_call2_v6) (TRef.of (T := ⟨S16384x1x1, .i1⟩) main_call2_v9) (TRef.of (T := ⟨S16384x1x1, .i1⟩) main_call2_v10) andi,
    TRef.nullary (TRef.of (T := ⟨S_, .i1⟩) main_call2_c_3) (constantI S_ 1 1#1),
    TRef.binary (TRef.of (T := ⟨S16384x1x1, .i1⟩) main_call2_v10) (TRef.of (T := ⟨S_, .i1⟩) main_call2_c_3) (TRef.of (T := ⟨S16384x1, .i1⟩) main_call2_v11) (fun x v => Host.reduce IntOp.andi x v reducesTo_S16384x1x1_S16384x1_d2 h_S_),
    TRef.binary (TRef.of (T := ⟨S16384x4x8, .f32⟩) main_v34) (TRef.of (T := ⟨S16384x1x1, .i32⟩) main_call2_v4) (TRef.of (T := ⟨S16384x1x8, .f32⟩) main_call2_v12) (fun x i => Host.gather gather_S16384x4x8_S16384x1x1_S16384x1x8_2_1_0_0_1_2_118 x i),
    TRef.unary (TRef.of (T := ⟨S16384x1, .i1⟩) main_call2_v11) (TRef.of (T := ⟨S16384x1x8, .i1⟩) main_call2_v13) (broadcastInDim S16384x1x8 ![0, 1] bcast_S16384x1_S16384x1x8_0_1),
    TRef.nullary (TRef.of (T := ⟨S_, .f32⟩) main_call2_cst) (constant S_ .f32 0x7FC00000#32),
    TRef.unary (TRef.of (T := ⟨S_, .f32⟩) main_call2_cst) (TRef.of (T := ⟨S16384x1x8, .f32⟩) main_call2_v14) (broadcastInDim S16384x1x8 ![] bcast_S_S16384x1x8),
    TRef.ternary (TRef.of (T := ⟨S16384x1x8, .i1⟩) main_call2_v13) (TRef.of (T := ⟨S16384x1x8, .f32⟩) main_call2_v12) (TRef.of (T := ⟨S16384x1x8, .f32⟩) main_call2_v14) (TRef.of (T := ⟨S16384x1x8, .f32⟩) main_v36) select,
    reshape main_v36 main_v37 (rfl : (.f32 : EltTy) = .f32) shapeCasts_S16384x1x8_S16384x8 ]
/-- The fine logits of the chosen group. -/
def fineselOf (v34 : (⟨S16384x4x8, .f32⟩ : BufTy).Contents (Elt F)) (v28 : (⟨S16384, .i32⟩ : BufTy).Contents (Elt F)) : (⟨S16384x8, .f32⟩ : BufTy).Contents (Elt F) :=
  let v35 : (⟨S16384x1x1, .i32⟩ : BufTy).Contents (Elt F) := (broadcastInDim S16384x1x1 ![0] bcast_S16384_S16384x1x1_0 : (⟨S16384, .i32⟩ : BufTy).Contents (Elt F) → (⟨S16384x1x1, .i32⟩ : BufTy).Contents (Elt F)) v28
  let call2_c : (⟨S_, .i32⟩ : BufTy).Contents (Elt F) := (constantI S_ 32 0#32)
  let call2_v0 : (⟨S16384x1x1, .i32⟩ : BufTy).Contents (Elt F) := (broadcastInDim S16384x1x1 ![] bcast_S_S16384x1x1) call2_c
  let call2_v1 : (⟨S16384x1x1, .i1⟩ : BufTy).Contents (Elt F) := (cmpi .slt) v35 call2_v0
  let call2_c_0 : (⟨S_, .i32⟩ : BufTy).Contents (Elt F) := (constantI S_ 32 4#32)
  let call2_v2 : (⟨S16384x1x1, .i32⟩ : BufTy).Contents (Elt F) := (broadcastInDim S16384x1x1 ![] bcast_S_S16384x1x1) call2_c_0
  let call2_v3 : (⟨S16384x1x1, .i32⟩ : BufTy).Contents (Elt F) := addi v35 call2_v2
  let call2_v4 : (⟨S16384x1x1, .i32⟩ : BufTy).Contents (Elt F) := select call2_v1 call2_v3 v35
  let call2_c_1 : (⟨S1, .i32⟩ : BufTy).Contents (Elt F) := (constantI S1 32 3#32)
  let call2_c_2 : (⟨S_, .i32⟩ : BufTy).Contents (Elt F) := (constantI S_ 32 0#32)
  let call2_v5 : (⟨S16384x1x1, .i32⟩ : BufTy).Contents (Elt F) := (broadcastInDim S16384x1x1 ![] bcast_S_S16384x1x1) call2_c_2
  let call2_v6 : (⟨S16384x1x1, .i1⟩ : BufTy).Contents (Elt F) := (cmpi .sge) call2_v4 call2_v5
  let call2_v7 : (⟨S1x1x1, .i32⟩ : BufTy).Contents (Elt F) := (broadcastInDim S1x1x1 ![2] bcast_S1_S1x1x1_2) call2_c_1
  let call2_v8 : (⟨S16384x1x1, .i32⟩ : BufTy).Contents (Elt F) := (broadcastInDim S16384x1x1 ![0, 1, 2] bcast_S1x1x1_S16384x1x1_0_1_2) call2_v7
  let call2_v9 : (⟨S16384x1x1, .i1⟩ : BufTy).Contents (Elt F) := (cmpi .sle) call2_v4 call2_v8
  let call2_v10 : (⟨S16384x1x1, .i1⟩ : BufTy).Contents (Elt F) := andi call2_v6 call2_v9
  let call2_c_3 : (⟨S_, .i1⟩ : BufTy).Contents (Elt F) := (constantI S_ 1 1#1)
  let call2_v11 : (⟨S16384x1, .i1⟩ : BufTy).Contents (Elt F) := (fun x v => Host.reduce IntOp.andi x v reducesTo_S16384x1x1_S16384x1_d2 h_S_) call2_v10 call2_c_3
  let call2_v12 : (⟨S16384x1x8, .f32⟩ : BufTy).Contents (Elt F) := (fun x i => Host.gather gather_S16384x4x8_S16384x1x1_S16384x1x8_2_1_0_0_1_2_118 x i) v34 call2_v4
  let call2_v13 : (⟨S16384x1x8, .i1⟩ : BufTy).Contents (Elt F) := (broadcastInDim S16384x1x8 ![0, 1] bcast_S16384x1_S16384x1x8_0_1) call2_v11
  let call2_cst : (⟨S_, .f32⟩ : BufTy).Contents (Elt F) := (constant S_ .f32 0x7FC00000#32)
  let call2_v14 : (⟨S16384x1x8, .f32⟩ : BufTy).Contents (Elt F) := (broadcastInDim S16384x1x8 ![] bcast_S_S16384x1x8) call2_cst
  let v36 : (⟨S16384x1x8, .f32⟩ : BufTy).Contents (Elt F) := select call2_v13 call2_v12 call2_v14
  let v37 : (⟨S16384x8, .f32⟩ : BufTy).Contents (Elt F) := fun i => shapeCast S16384x8 v36 shapeCasts_S16384x1x8_S16384x8 i
  v37
/-- The operations that compute the softmax of the chosen group's fine logits. -/
abbrev opsH : List (HloOp τ sig (Elt F)) :=
  [ nullary main_cst_5 (constant S_ .f32 0xFF800000#32),
    binary main_v37 main_cst_5 main_v38 ((fun x v => Host.reduce FloatOps.maximumf x v reducesTo_S16384x8_S16384_d1 h_S_) : (⟨S16384x8, .f32⟩ : BufTy).Contents (Elt F) → (⟨S_, .f32⟩ : BufTy).Contents (Elt F) → (⟨S16384, .f32⟩ : BufTy).Contents (Elt F)),
    nullary main_cst_6 (constant S_ .f32 0xFF800000#32),
    unary main_cst_6 main_v39 (broadcastInDim S16384 ![] bcast_S_S16384 : (⟨S_, .f32⟩ : BufTy).Contents (Elt F) → (⟨S16384, .f32⟩ : BufTy).Contents (Elt F)),
    binary main_v39 main_v38 main_v40 (maximumf : (⟨S16384, .f32⟩ : BufTy).Contents (Elt F) → (⟨S16384, .f32⟩ : BufTy).Contents (Elt F) → (⟨S16384, .f32⟩ : BufTy).Contents (Elt F)),
    unary main_v40 main_v41 (broadcastInDim S16384x1 ![0] bcast_S16384_S16384x1_0 : (⟨S16384, .f32⟩ : BufTy).Contents (Elt F) → (⟨S16384x1, .f32⟩ : BufTy).Contents (Elt F)),
    unary main_v41 main_v42 (broadcastInDim S16384x8 ![0, 1] bcast_S16384x1_S16384x8_0_1 : (⟨S16384x1, .f32⟩ : BufTy).Contents (Elt F) → (⟨S16384x8, .f32⟩ : BufTy).Contents (Elt F)),
    binary main_v37 main_v42 main_v43 (subf : (⟨S16384x8, .f32⟩ : BufTy).Contents (Elt F) → (⟨S16384x8, .f32⟩ : BufTy).Contents (Elt F) → (⟨S16384x8, .f32⟩ : BufTy).Contents (Elt F)),
    unary main_v43 main_v44 (Host.exp : (⟨S16384x8, .f32⟩ : BufTy).Contents (Elt F) → (⟨S16384x8, .f32⟩ : BufTy).Contents (Elt F)),
    nullary main_cst_7 (constant S_ .f32 0x00000000#32),
    binary main_v44 main_cst_7 main_v45 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)),
    unary main_v45 main_v46 (broadcastInDim S16384x1 ![0] bcast_S16384_S16384x1_0 : (⟨S16384, .f32⟩ : BufTy).Contents (Elt F) → (⟨S16384x1, .f32⟩ : BufTy).Contents (Elt F)),
    unary main_v46 main_v47 (broadcastInDim S16384x8 ![0, 1] bcast_S16384x1_S16384x8_0_1 : (⟨S16384x1, .f32⟩ : BufTy).Contents (Elt F) → (⟨S16384x8, .f32⟩ : BufTy).Contents (Elt F)),
    binary main_v44 main_v47 main_v48 (Host.divf : (⟨S16384x8, .f32⟩ : BufTy).Contents (Elt F) → (⟨S16384x8, .f32⟩ : BufTy).Contents (Elt F) → (⟨S16384x8, .f32⟩ : BufTy).Contents (Elt F)) ]
/-- The softmax of the chosen group's fine logits. -/
def softOf (v37 : (⟨S16384x8, .f32⟩ : BufTy).Contents (Elt F)) : (⟨S16384x8, .f32⟩ : BufTy).Contents (Elt F) :=
  let cst_5 : (⟨S_, .f32⟩ : BufTy).Contents (Elt F) := (constant S_ .f32 0xFF800000#32)
  let v38 : (⟨S16384, .f32⟩ : BufTy).Contents (Elt F) := ((fun x v => Host.reduce FloatOps.maximumf x v reducesTo_S16384x8_S16384_d1 h_S_) : (⟨S16384x8, .f32⟩ : BufTy).Contents (Elt F) → (⟨S_, .f32⟩ : BufTy).Contents (Elt F) → (⟨S16384, .f32⟩ : BufTy).Contents (Elt F)) v37 cst_5
  let cst_6 : (⟨S_, .f32⟩ : BufTy).Contents (Elt F) := (constant S_ .f32 0xFF800000#32)
  let v39 : (⟨S16384, .f32⟩ : BufTy).Contents (Elt F) := (broadcastInDim S16384 ![] bcast_S_S16384 : (⟨S_, .f32⟩ : BufTy).Contents (Elt F) → (⟨S16384, .f32⟩ : BufTy).Contents (Elt F)) cst_6
  let v40 : (⟨S16384, .f32⟩ : BufTy).Contents (Elt F) := (maximumf : (⟨S16384, .f32⟩ : BufTy).Contents (Elt F) → (⟨S16384, .f32⟩ : BufTy).Contents (Elt F) → (⟨S16384, .f32⟩ : BufTy).Contents (Elt F)) v39 v38
  let v41 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) v40
  let v42 : (⟨S16384x8, .f32⟩ : BufTy).Contents (Elt F) := (broadcastInDim S16384x8 ![0, 1] bcast_S16384x1_S16384x8_0_1 : (⟨S16384x1, .f32⟩ : BufTy).Contents (Elt F) → (⟨S16384x8, .f32⟩ : BufTy).Contents (Elt F)) v41
  let v43 : (⟨S16384x8, .f32⟩ : BufTy).Contents (Elt F) := (subf : (⟨S16384x8, .f32⟩ : BufTy).Contents (Elt F) → (⟨S16384x8, .f32⟩ : BufTy).Contents (Elt F) → (⟨S16384x8, .f32⟩ : BufTy).Contents (Elt F)) v37 v42
  let v44 : (⟨S16384x8, .f32⟩ : BufTy).Contents (Elt F) := (Host.exp : (⟨S16384x8, .f32⟩ : BufTy).Contents (Elt F) → (⟨S16384x8, .f32⟩ : BufTy).Contents (Elt F)) v43
  let cst_7 : (⟨S_, .f32⟩ : BufTy).Contents (Elt F) := (constant S_ .f32 0x00000000#32)
  let v45 : (⟨S16384, .f32⟩ : BufTy).Contents (Elt F) := ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)) v44 cst_7
  let v46 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) v45
  let v47 : (⟨S16384x8, .f32⟩ : BufTy).Contents (Elt F) := (broadcastInDim S16384x8 ![0, 1] bcast_S16384x1_S16384x8_0_1 : (⟨S16384x1, .f32⟩ : BufTy).Contents (Elt F) → (⟨S16384x8, .f32⟩ : BufTy).Contents (Elt F)) v46
  let v48 : (⟨S16384x8, .f32⟩ : BufTy).Contents (Elt F) := (Host.divf : (⟨S16384x8, .f32⟩ : BufTy).Contents (Elt F) → (⟨S16384x8, .f32⟩ : BufTy).Contents (Elt F) → (⟨S16384x8, .f32⟩ : BufTy).Contents (Elt F)) v44 v47
  v48
/-- The operations that compute the two largest of eight probabilities. -/
abbrev opsI : List (HloOp τ sig (Elt F)) :=
  [ unary main_v48 main_values ((fun x => (Host.topK S16384x2 1 (FloatOps.cmpfTotal .gt) x sliceFits_S16384x8_S16384x2).1) : (⟨S16384x8, .f32⟩ : BufTy).Contents (Elt F) → (⟨S16384x2, .f32⟩ : BufTy).Contents (Elt F)),
    unary main_v48 main_indices ((fun x => (Host.topK S16384x2 1 (FloatOps.cmpfTotal .gt) x sliceFits_S16384x8_S16384x2).2) : (⟨S16384x8, .f32⟩ : BufTy).Contents (Elt F) → (⟨S16384x2, .i32⟩ : BufTy).Contents (Elt F)) ]
/-- The two largest of eight probabilities (values). -/
def topvOf (v48 : (⟨S16384x8, .f32⟩ : BufTy).Contents (Elt F)) : (⟨S16384x2, .f32⟩ : BufTy).Contents (Elt F) :=
  let values : (⟨S16384x2, .f32⟩ : BufTy).Contents (Elt F) := ((fun x => (Host.topK S16384x2 1 (FloatOps.cmpfTotal .gt) x sliceFits_S16384x8_S16384x2).1) : (⟨S16384x8, .f32⟩ : BufTy).Contents (Elt F) → (⟨S16384x2, .f32⟩ : BufTy).Contents (Elt F)) v48
  values
/-- The two largest of eight probabilities (positions). -/
def topiOf (v48 : (⟨S16384x8, .f32⟩ : BufTy).Contents (Elt F)) : (⟨S16384x2, .i32⟩ : BufTy).Contents (Elt F) :=
  let indices : (⟨S16384x2, .i32⟩ : BufTy).Contents (Elt F) := ((fun x => (Host.topK S16384x2 1 (FloatOps.cmpfTotal .gt) x sliceFits_S16384x8_S16384x2).2) : (⟨S16384x8, .f32⟩ : BufTy).Contents (Elt F) → (⟨S16384x2, .i32⟩ : BufTy).Contents (Elt F)) v48
  indices
/-- The operations that compute the two chosen probabilities, over their sum. -/
abbrev opsJ : List (HloOp τ sig (Elt F)) :=
  [ nullary main_cst_8 (constant S_ .f32 0x00000000#32),
    binary main_values main_cst_8 main_v49 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_v49 main_v50 (broadcastInDim S16384x1 ![0] bcast_S16384_S16384x1_0 : (⟨S16384, .f32⟩ : BufTy).Contents (Elt F) → (⟨S16384x1, .f32⟩ : BufTy).Contents (Elt F)),
    unary main_v50 main_v51 (broadcastInDim S16384x2 ![0, 1] bcast_S16384x1_S16384x2_0_1 : (⟨S16384x1, .f32⟩ : BufTy).Contents (Elt F) → (⟨S16384x2, .f32⟩ : BufTy).Contents (Elt F)),
    binary main_values main_v51 main_v52 (Host.divf : (⟨S16384x2, .f32⟩ : BufTy).Contents (Elt F) → (⟨S16384x2, .f32⟩ : BufTy).Contents (Elt F) → (⟨S16384x2, .f32⟩ : BufTy).Contents (Elt F)) ]
/-- The two chosen probabilities, over their sum. -/
def topnOf (values : (⟨S16384x2, .f32⟩ : BufTy).Contents (Elt F)) : (⟨S16384x2, .f32⟩ : BufTy).Contents (Elt F) :=
  let cst_8 : (⟨S_, .f32⟩ : BufTy).Contents (Elt F) := (constant S_ .f32 0x00000000#32)
  let v49 : (⟨S16384, .f32⟩ : BufTy).Contents (Elt F) := ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)) values cst_8
  let v50 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) v49
  let v51 : (⟨S16384x2, .f32⟩ : BufTy).Contents (Elt F) := (broadcastInDim S16384x2 ![0, 1] bcast_S16384x1_S16384x2_0_1 : (⟨S16384x1, .f32⟩ : BufTy).Contents (Elt F) → (⟨S16384x2, .f32⟩ : BufTy).Contents (Elt F)) v50
  let v52 : (⟨S16384x2, .f32⟩ : BufTy).Contents (Elt F) := (Host.divf : (⟨S16384x2, .f32⟩ : BufTy).Contents (Elt F) → (⟨S16384x2, .f32⟩ : BufTy).Contents (Elt F) → (⟨S16384x2, .f32⟩ : BufTy).Contents (Elt F)) values v51
  v52
/-- The operations that compute the weight of each of the 32 experts. -/
abbrev opsK : List (HloOp τ sig (Elt F)) :=
  [ unary main_v28 main_v53 (broadcastInDim S16384x1 ![0] bcast_S16384_S16384x1_0 : (⟨S16384, .i32⟩ : BufTy).Contents (Elt F) → (⟨S16384x1, .i32⟩ : BufTy).Contents (Elt F)),
    nullary main_c (constantI S_ 32 8#32),
    unary main_c main_v54 (broadcastInDim S16384x1 ![] bcast_S_S16384x1 : (⟨S_, .i32⟩ : BufTy).Contents (Elt F) → (⟨S16384x1, .i32⟩ : BufTy).Contents (Elt F)),
    binary main_v53 main_v54 main_v55 (muli : (⟨S16384x1, .i32⟩ : BufTy).Contents (Elt F) → (⟨S16384x1, .i32⟩ : BufTy).Contents (Elt F) → (⟨S16384x1, .i32⟩ : BufTy).Contents (Elt F)),
    unary main_v55 main_v56 (broadcastInDim S16384x2 ![0, 1] bcast_S16384x1_S16384x2_0_1 : (⟨S16384x1, .i32⟩ : BufTy).Contents (Elt F) → (⟨S16384x2, .i32⟩ : BufTy).Contents (Elt F)),
    binary main_v56 main_indices main_v57 (addi : (⟨S16384x2, .i32⟩ : BufTy).Contents (Elt F) → (⟨S16384x2, .i32⟩ : BufTy).Contents (Elt F) → (⟨S16384x2, .i32⟩ : BufTy).Contents (Elt F)),
    TRef.unary (TRef.of (T := ⟨S16384x2, .i32⟩) main_v57) (TRef.of (T := ⟨S16384x2x1, .i32⟩) main_call3_v0) (broadcastInDim S16384x2x1 ![0, 1] bcast_S16384x2_S16384x2x1_0_1),
    TRef.nullary (TRef.of (T := ⟨S1x1x32, .i32⟩) main_call3_v1) (iotaInDim S1x1x32 32 2),
    TRef.unary (TRef.of (T := ⟨S16384x2x1, .i32⟩) main_call3_v0) (TRef.of (T := ⟨S16384x2x32, .i32⟩) main_call3_v2) (broadcastInDim S16384x2x32 ![0, 1, 2] bcast_S16384x2x1_S16384x2x32_0_1_2),
    TRef.unary (TRef.of (T := ⟨S1x1x32, .i32⟩) main_call3_v1) (TRef.of (T := ⟨S16384x2x32, .i32⟩) main_call3_v3) (broadcastInDim S16384x2x32 ![0, 1, 2] bcast_S1x1x32_S16384x2x32_0_1_2),
    TRef.binary (TRef.of (T := ⟨S16384x2x32, .i32⟩) main_call3_v2) (TRef.of (T := ⟨S16384x2x32, .i32⟩) main_call3_v3) (TRef.of (T := ⟨S16384x2x32, .i1⟩) main_call3_v4) (cmpi .eq),
    TRef.unary (TRef.of (T := ⟨S16384x2x32, .i1⟩) main_call3_v4) (TRef.of (T := ⟨S16384x2x32, .f32⟩) main_v58) (uitofp .f32),
    unary main_v30 main_v59 (broadcastInDim S16384x2 ![0, 1] bcast_S16384x1_S16384x2_0_1 : (⟨S16384x1, .f32⟩ : BufTy).Contents (Elt F) → (⟨S16384x2, .f32⟩ : BufTy).Contents (Elt F)),
    binary main_v59 main_v52 main_v60 (mulf : (⟨S16384x2, .f32⟩ : BufTy).Contents (Elt F) → (⟨S16384x2, .f32⟩ : BufTy).Contents (Elt F) → (⟨S16384x2, .f32⟩ : BufTy).Contents (Elt F)),
    unary main_v60 main_v61 (broadcastInDim S16384x2x1 ![0, 1] bcast_S16384x2_S16384x2x1_0_1 : (⟨S16384x2, .f32⟩ : BufTy).Contents (Elt F) → (⟨S16384x2x1, .f32⟩ : BufTy).Contents (Elt F)),
    unary main_v61 main_v62 (broadcastInDim S16384x2x32 ![0, 1, 2] bcast_S16384x2x1_S16384x2x32_0_1_2 : (⟨S16384x2x1, .f32⟩ : BufTy).Contents (Elt F) → (⟨S16384x2x32, .f32⟩ : BufTy).Contents (Elt F)),
    binary main_v58 main_v62 main_v63 (mulf : (⟨S16384x2x32, .f32⟩ : BufTy).Contents (Elt F) → (⟨S16384x2x32, .f32⟩ : BufTy).Contents (Elt F) → (⟨S16384x2x32, .f32⟩ : BufTy).Contents (Elt F)),
    nullary main_cst_9 (constant S_ .f32 0x00000000#32),
    binary main_v63 main_cst_9 main_v64 ((fun x v => Host.reduceAdd x v reducesTo_S16384x2x32_S16384x32_d1 h_S_) : (⟨S16384x2x32, .f32⟩ : BufTy).Contents (Elt F) → (⟨S_, .f32⟩ : BufTy).Contents (Elt F) → (⟨S16384x32, .f32⟩ : BufTy).Contents (Elt F)) ]
/-- The weight of each of the 32 experts. -/
def combOf (v28 : (⟨S16384, .i32⟩ : BufTy).Contents (Elt F)) (indices : (⟨S16384x2, .i32⟩ : BufTy).Contents (Elt F)) (v30 : (⟨S16384x1, .f32⟩ : BufTy).Contents (Elt F)) (v52 : (⟨S16384x2, .f32⟩ : BufTy).Contents (Elt F)) : (⟨S16384x32, .f32⟩ : BufTy).Contents (Elt F) :=
  let v53 : (⟨S16384x1, .i32⟩ : BufTy).Contents (Elt F) := (broadcastInDim S16384x1 ![0] bcast_S16384_S16384x1_0 : (⟨S16384, .i32⟩ : BufTy).Contents (Elt F) → (⟨S16384x1, .i32⟩ : BufTy).Contents (Elt F)) v28
  let c : (⟨S_, .i32⟩ : BufTy).Contents (Elt F) := (constantI S_ 32 8#32)
  let v54 : (⟨S16384x1, .i32⟩ : BufTy).Contents (Elt F) := (broadcastInDim S16384x1 ![] bcast_S_S16384x1 : (⟨S_, .i32⟩ : BufTy).Contents (Elt F) → (⟨S16384x1, .i32⟩ : BufTy).Contents (Elt F)) c
  let v55 : (⟨S16384x1, .i32⟩ : BufTy).Contents (Elt F) := (muli : (⟨S16384x1, .i32⟩ : BufTy).Contents (Elt F) → (⟨S16384x1, .i32⟩ : BufTy).Contents (Elt F) → (⟨S16384x1, .i32⟩ : BufTy).Contents (Elt F)) v53 v54
  let v56 : (⟨S16384x2, .i32⟩ : BufTy).Contents (Elt F) := (broadcastInDim S16384x2 ![0, 1] bcast_S16384x1_S16384x2_0_1 : (⟨S16384x1, .i32⟩ : BufTy).Contents (Elt F) → (⟨S16384x2, .i32⟩ : BufTy).Contents (Elt F)) v55
  let v57 : (⟨S16384x2, .i32⟩ : BufTy).Contents (Elt F) := (addi : (⟨S16384x2, .i32⟩ : BufTy).Contents (Elt F) → (⟨S16384x2, .i32⟩ : BufTy).Contents (Elt F) → (⟨S16384x2, .i32⟩ : BufTy).Contents (Elt F)) v56 indices
  let call3_v0 : (⟨S16384x2x1, .i32⟩ : BufTy).Contents (Elt F) := (broadcastInDim S16384x2x1 ![0, 1] bcast_S16384x2_S16384x2x1_0_1) v57
  let call3_v1 : (⟨S1x1x32, .i32⟩ : BufTy).Contents (Elt F) := (iotaInDim S1x1x32 32 2)
  let call3_v2 : (⟨S16384x2x32, .i32⟩ : BufTy).Contents (Elt F) := (broadcastInDim S16384x2x32 ![0, 1, 2] bcast_S16384x2x1_S16384x2x32_0_1_2) call3_v0
  let call3_v3 : (⟨S16384x2x32, .i32⟩ : BufTy).Contents (Elt F) := (broadcastInDim S16384x2x32 ![0, 1, 2] bcast_S1x1x32_S16384x2x32_0_1_2) call3_v1
  let call3_v4 : (⟨S16384x2x32, .i1⟩ : BufTy).Contents (Elt F) := (cmpi .eq) call3_v2 call3_v3
  let v58 : (⟨S16384x2x32, .f32⟩ : BufTy).Contents (Elt F) := (uitofp .f32) call3_v4
  let v59 : (⟨S16384x2, .f32⟩ : BufTy).Contents (Elt F) := (broadcastInDim S16384x2 ![0, 1] bcast_S16384x1_S16384x2_0_1 : (⟨S16384x1, .f32⟩ : BufTy).Contents (Elt F) → (⟨S16384x2, .f32⟩ : BufTy).Contents (Elt F)) v30
  let v60 : (⟨S16384x2, .f32⟩ : BufTy).Contents (Elt F) := (mulf : (⟨S16384x2, .f32⟩ : BufTy).Contents (Elt F) → (⟨S16384x2, .f32⟩ : BufTy).Contents (Elt F) → (⟨S16384x2, .f32⟩ : BufTy).Contents (Elt F)) v59 v52
  let v61 : (⟨S16384x2x1, .f32⟩ : BufTy).Contents (Elt F) := (broadcastInDim S16384x2x1 ![0, 1] bcast_S16384x2_S16384x2x1_0_1 : (⟨S16384x2, .f32⟩ : BufTy).Contents (Elt F) → (⟨S16384x2x1, .f32⟩ : BufTy).Contents (Elt F)) v60
  let v62 : (⟨S16384x2x32, .f32⟩ : BufTy).Contents (Elt F) := (broadcastInDim S16384x2x32 ![0, 1, 2] bcast_S16384x2x1_S16384x2x32_0_1_2 : (⟨S16384x2x1, .f32⟩ : BufTy).Contents (Elt F) → (⟨S16384x2x32, .f32⟩ : BufTy).Contents (Elt F)) v61
  let v63 : (⟨S16384x2x32, .f32⟩ : BufTy).Contents (Elt F) := (mulf : (⟨S16384x2x32, .f32⟩ : BufTy).Contents (Elt F) → (⟨S16384x2x32, .f32⟩ : BufTy).Contents (Elt F) → (⟨S16384x2x32, .f32⟩ : BufTy).Contents (Elt F)) v58 v62
  let cst_9 : (⟨S_, .f32⟩ : BufTy).Contents (Elt F) := (constant S_ .f32 0x00000000#32)
  let v64 : (⟨S16384x32, .f32⟩ : BufTy).Contents (Elt F) := ((fun x v => Host.reduceAdd x v reducesTo_S16384x2x32_S16384x32_d1 h_S_) : (⟨S16384x2x32, .f32⟩ : BufTy).Contents (Elt F) → (⟨S_, .f32⟩ : BufTy).Contents (Elt F) → (⟨S16384x32, .f32⟩ : BufTy).Contents (Elt F)) v63 cst_9
  v64
/-- The operations that compute the first hidden product. -/
abbrev opsL : List (HloOp τ sig (Elt F)) :=
  [ binary main_v12 main_arg6 main_v65 ((fun l r => Host.dotGeneral dot_S16384x1024_S32x1024x128_S16384x32x128_1_1_0_02_n_n none l r) : (⟨S16384x1024, .f32⟩ : BufTy).Contents (Elt F) → (⟨S32x1024x128, .f32⟩ : BufTy).Contents (Elt F) → (⟨S16384x32x128, .f32⟩ : BufTy).Contents (Elt F)) ]
/-- The first hidden product. -/
def upOf (v12 : (⟨S16384x1024, .f32⟩ : BufTy).Contents (Elt F)) (arg6 : (⟨S32x1024x128, .f32⟩ : BufTy).Contents (Elt F)) : (⟨S16384x32x128, .f32⟩ : BufTy).Contents (Elt F) :=
  let v65 : (⟨S16384x32x128, .f32⟩ : BufTy).Contents (Elt F) := ((fun l r => Host.dotGeneral dot_S16384x1024_S32x1024x128_S16384x32x128_1_1_0_02_n_n none l r) : (⟨S16384x1024, .f32⟩ : BufTy).Contents (Elt F) → (⟨S32x1024x128, .f32⟩ : BufTy).Contents (Elt F) → (⟨S16384x32x128, .f32⟩ : BufTy).Contents (Elt F)) v12 arg6
  v65
/-- The operations that compute the hidden product times its logistic function. -/
abbrev opsM : List (HloOp τ sig (Elt F)) :=
  [ TRef.unary (TRef.of (T := ⟨S16384x32x128, .f32⟩) main_v65) (TRef.of (T := ⟨S16384x32x128, .f32⟩) main_call4_v0) Host.negf,
    TRef.unary (TRef.of (T := ⟨S16384x32x128, .f32⟩) main_call4_v0) (TRef.of (T := ⟨S16384x32x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S16384x32x128, .f32⟩) main_call4_v2) (broadcastInDim S16384x32x128 ![] bcast_S_S16384x32x128),
    TRef.binary (TRef.of (T := ⟨S16384x32x128, .f32⟩) main_call4_v2) (TRef.of (T := ⟨S16384x32x128, .f32⟩) main_call4_v1) (TRef.of (T := ⟨S16384x32x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S16384x32x128, .f32⟩) main_call4_v4) (broadcastInDim S16384x32x128 ![] bcast_S_S16384x32x128),
    TRef.binary (TRef.of (T := ⟨S16384x32x128, .f32⟩) main_call4_v4) (TRef.of (T := ⟨S16384x32x128, .f32⟩) main_call4_v3) (TRef.of (T := ⟨S16384x32x128, .f32⟩) main_call4_v5) Host.divf,
    TRef.binary (TRef.of (T := ⟨S16384x32x128, .f32⟩) main_v65) (TRef.of (T := ⟨S16384x32x128, .f32⟩) main_call4_v5) (TRef.of (T := ⟨S16384x32x128, .f32⟩) main_v66) mulf ]
/-- The hidden product times its logistic function. -/
def siluOf (v65 : (⟨S16384x32x128, .f32⟩ : BufTy).Contents (Elt F)) : (⟨S16384x32x128, .f32⟩ : BufTy).Contents (Elt F) :=
  let call4_v0 : (⟨S16384x32x128, .f32⟩ : BufTy).Contents (Elt F) := Host.negf v65
  let call4_v1 : (⟨S16384x32x128, .f32⟩ : BufTy).Contents (Elt F) := Host.exp call4_v0
  let call4_cst : (⟨S_, .f32⟩ : BufTy).Contents (Elt F) := (constant S_ .f32 0x3F800000#32)
  let call4_v2 : (⟨S16384x32x128, .f32⟩ : BufTy).Contents (Elt F) := (broadcastInDim S16384x32x128 ![] bcast_S_S16384x32x128) call4_cst
  let call4_v3 : (⟨S16384x32x128, .f32⟩ : BufTy).Contents (Elt F) := addf call4_v2 call4_v1
  let call4_cst_0 : (⟨S_, .f32⟩ : BufTy).Contents (Elt F) := (constant S_ .f32 0x3F800000#32)
  let call4_v4 : (⟨S16384x32x128, .f32⟩ : BufTy).Contents (Elt F) := (broadcastInDim S16384x32x128 ![] bcast_S_S16384x32x128) call4_cst_0
  let call4_v5 : (⟨S16384x32x128, .f32⟩ : BufTy).Contents (Elt F) := Host.divf call4_v4 call4_v3
  let v66 : (⟨S16384x32x128, .f32⟩ : BufTy).Contents (Elt F) := mulf v65 call4_v5
  v66
/-- The operations that compute the experts' weighted sum added to the tokens. -/
abbrev opsN : List (HloOp τ sig (Elt F)) :=
  [ binary main_v12 main_arg7 main_v67 ((fun l r => Host.dotGeneral dot_S16384x1024_S32x1024x128_S16384x32x128_1_1_0_02_n_n none l r) : (⟨S16384x1024, .f32⟩ : BufTy).Contents (Elt F) → (⟨S32x1024x128, .f32⟩ : BufTy).Contents (Elt F) → (⟨S16384x32x128, .f32⟩ : BufTy).Contents (Elt F)),
    binary main_v66 main_v67 main_v68 (mulf : (⟨S16384x32x128, .f32⟩ : BufTy).Contents (Elt F) → (⟨S16384x32x128, .f32⟩ : BufTy).Contents (Elt F) → (⟨S16384x32x128, .f32⟩ : BufTy).Contents (Elt F)),
    unary main_v64 main_v69 (broadcastInDim S16384x32x1 ![0, 1] bcast_S16384x32_S16384x32x1_0_1 : (⟨S16384x32, .f32⟩ : BufTy).Contents (Elt F) → (⟨S16384x32x1, .f32⟩ : BufTy).Contents (Elt F)),
    unary main_v69 main_v70 (broadcastInDim S16384x32x128 ![0, 1, 2] bcast_S16384x32x1_S16384x32x128_0_1_2 : (⟨S16384x32x1, .f32⟩ : BufTy).Contents (Elt F) → (⟨S16384x32x128, .f32⟩ : BufTy).Contents (Elt F)),
    binary main_v68 main_v70 main_v71 (mulf : (⟨S16384x32x128, .f32⟩ : BufTy).Contents (Elt F) → (⟨S16384x32x128, .f32⟩ : BufTy).Contents (Elt F) → (⟨S16384x32x128, .f32⟩ : BufTy).Contents (Elt F)),
    binary main_v71 main_arg8 main_v72 ((fun l r => Host.dotGeneral dot_S16384x32x128_S32x128x1024_S16384x1024_12_01_0_2_n_n none l r) : (⟨S16384x32x128, .f32⟩ : BufTy).Contents (Elt F) → (⟨S32x128x1024, .f32⟩ : BufTy).Contents (Elt F) → (⟨S16384x1024, .f32⟩ : BufTy).Contents (Elt F)),
    binary main_arg0 main_v72 main_v73 (addf : (⟨S16384x1024, .f32⟩ : BufTy).Contents (Elt F) → (⟨S16384x1024, .f32⟩ : BufTy).Contents (Elt F) → (⟨S16384x1024, .f32⟩ : BufTy).Contents (Elt F)) ]
/-- The experts' weighted sum added to the tokens. -/
def outOf (arg0 : (⟨S16384x1024, .f32⟩ : BufTy).Contents (Elt F)) (v12 : (⟨S16384x1024, .f32⟩ : BufTy).Contents (Elt F)) (v64 : (⟨S16384x32, .f32⟩ : BufTy).Contents (Elt F)) (v66 : (⟨S16384x32x128, .f32⟩ : BufTy).Contents (Elt F)) (arg7 : (⟨S32x1024x128, .f32⟩ : BufTy).Contents (Elt F)) (arg8 : (⟨S32x128x1024, .f32⟩ : BufTy).Contents (Elt F)) : (⟨S16384x1024, .f32⟩ : BufTy).Contents (Elt F) :=
  let v67 : (⟨S16384x32x128, .f32⟩ : BufTy).Contents (Elt F) := ((fun l r => Host.dotGeneral dot_S16384x1024_S32x1024x128_S16384x32x128_1_1_0_02_n_n none l r) : (⟨S16384x1024, .f32⟩ : BufTy).Contents (Elt F) → (⟨S32x1024x128, .f32⟩ : BufTy).Contents (Elt F) → (⟨S16384x32x128, .f32⟩ : BufTy).Contents (Elt F)) v12 arg7
  let v68 : (⟨S16384x32x128, .f32⟩ : BufTy).Contents (Elt F) := (mulf : (⟨S16384x32x128, .f32⟩ : BufTy).Contents (Elt F) → (⟨S16384x32x128, .f32⟩ : BufTy).Contents (Elt F) → (⟨S16384x32x128, .f32⟩ : BufTy).Contents (Elt F)) v66 v67
  let v69 : (⟨S16384x32x1, .f32⟩ : BufTy).Contents (Elt F) := (broadcastInDim S16384x32x1 ![0, 1] bcast_S16384x32_S16384x32x1_0_1 : (⟨S16384x32, .f32⟩ : BufTy).Contents (Elt F) → (⟨S16384x32x1, .f32⟩ : BufTy).Contents (Elt F)) v64
  let v70 : (⟨S16384x32x128, .f32⟩ : BufTy).Contents (Elt F) := (broadcastInDim S16384x32x128 ![0, 1, 2] bcast_S16384x32x1_S16384x32x128_0_1_2 : (⟨S16384x32x1, .f32⟩ : BufTy).Contents (Elt F) → (⟨S16384x32x128, .f32⟩ : BufTy).Contents (Elt F)) v69
  let v71 : (⟨S16384x32x128, .f32⟩ : BufTy).Contents (Elt F) := (mulf : (⟨S16384x32x128, .f32⟩ : BufTy).Contents (Elt F) → (⟨S16384x32x128, .f32⟩ : BufTy).Contents (Elt F) → (⟨S16384x32x128, .f32⟩ : BufTy).Contents (Elt F)) v68 v70
  let v72 : (⟨S16384x1024, .f32⟩ : BufTy).Contents (Elt F) := ((fun l r => Host.dotGeneral dot_S16384x32x128_S32x128x1024_S16384x1024_12_01_0_2_n_n none l r) : (⟨S16384x32x128, .f32⟩ : BufTy).Contents (Elt F) → (⟨S32x128x1024, .f32⟩ : BufTy).Contents (Elt F) → (⟨S16384x1024, .f32⟩ : BufTy).Contents (Elt F)) v71 arg8
  let v73 : (⟨S16384x1024, .f32⟩ : BufTy).Contents (Elt F) := (addf : (⟨S16384x1024, .f32⟩ : BufTy).Contents (Elt F) → (⟨S16384x1024, .f32⟩ : BufTy).Contents (Elt F) → (⟨S16384x1024, .f32⟩ : BufTy).Contents (Elt F)) arg0 v72
  v73
/-- The whole program as one list of operations. -/
abbrev ops : List (HloOp τ sig (Elt F)) := opsA ++ (opsB ++ (opsC ++ (opsD ++ (opsE ++ (opsF ++ (opsG ++ (opsH ++ (opsI ++ (opsJ ++ (opsK ++ (opsL ++ (opsM ++ (opsN)))))))))))))
set_option maxRecDepth 16384 in
theorem part0_eq (c : Dev nD) : main_part0 (F := F) c = seq (opsA ++ (opsB ++ (opsC ++ (opsD ++ (opsE ++ (opsF ++ (opsG ++ (opsH ++ (opsI))))))))) := rfl
set_option maxRecDepth 16384 in
theorem part1_eq (c : Dev nD) : main_part1 (F := F) c = seq (opsJ ++ (opsK ++ (opsL ++ (opsM ++ (opsN))))) := rfl
set_option maxRecDepth 16384 in
/-- The program is the run of the list. -/
theorem main_eq (c : Dev nD) : main (F := F) c = seq ops := by
  have h : main (F := F) c = (do main_part0 (F := F) c; main_part1 (F := F) c) := rfl
  rw [h, part0_eq, part1_eq, ← seq_append]
  congr 1
theorem scopedRefs_eq : (Finset.univ.filter fun b : Ref sig .tc => b.isScoped) = ∅ := by decide
theorem scopedSems_eq : (Finset.univ.filter fun sm : SemLoc sig => sm.isScoped .tc) = ∅ := by decide
theorem opsA_sub : (opsA : List (HloOp τ sig (Elt F))).Forall fun op => op.bufs ⊆ tcRefs τ sig := by
  simp only [List.Forall]; exact ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
theorem opsA_fresh : (opsA : List (HloOp τ sig (Elt F))).Forall fun op => op.fresh = ∅ := ⟨rfl, rfl, rfl, rfl, rfl, rfl, rfl, rfl, rfl, rfl, rfl, rfl, rfl, rfl, rfl, rfl⟩
/-- The buffers this piece writes. -/
abbrev WA : List (Ref sig .tc) := [main_v0, main_cst, main_v1, main_v2, main_cst_0, main_v3, main_v4, main_cst_1, main_v5, main_v6, main_v7, main_v8, main_v9, main_v10, main_v11, main_v12]
theorem opsA_writes : (opsA : List (HloOp τ sig (Elt F))).Forall fun op => op.writes ⊆ (WA.map (Proc.devRef (τ := τ) .tc)).toFinset := by
  simp only [List.Forall]; refine ⟨?_, ?_, ?_, ?_, ?_, ?_, ?_, ?_, ?_, ?_, ?_, ?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsB_sub : (opsB : List (HloOp τ sig (Elt F))).Forall fun op => op.bufs ⊆ tcRefs τ sig := by
  simp only [List.Forall]; exact ⟨binary_bufs_sub .., unary_bufs_sub .., unary_bufs_sub .., binary_bufs_sub ..⟩
theorem opsB_fresh : (opsB : List (HloOp τ sig (Elt F))).Forall fun op => op.fresh = ∅ := ⟨rfl, rfl, rfl, rfl⟩
/-- The buffers this piece writes. -/
abbrev WB : List (Ref sig .tc) := [main_v13, main_v14, main_v15, main_v16]
theorem opsB_writes : (opsB : List (HloOp τ sig (Elt F))).Forall fun op => op.writes ⊆ (WB.map (Proc.devRef (τ := τ) .tc)).toFinset := by
  simp only [List.Forall]; refine ⟨?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsC_sub : (opsC : List (HloOp τ sig (Elt F))).Forall fun op => op.bufs ⊆ tcRefs τ sig := by
  simp only [List.Forall]; exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsC_fresh : (opsC : List (HloOp τ sig (Elt F))).Forall fun op => op.fresh = ∅ := ⟨rfl, rfl, rfl, rfl, rfl, rfl, rfl, rfl, rfl, rfl, rfl, rfl, rfl, rfl⟩
/-- The buffers this piece writes. -/
abbrev WC : List (Ref sig .tc) := [main_cst_2, main_v17, main_cst_3, main_v18, main_v19, main_v20, main_v21, main_v22, main_v23, main_cst_4, main_v24, main_v25, main_v26, main_v27]
theorem opsC_writes : (opsC : List (HloOp τ sig (Elt F))).Forall fun op => op.writes ⊆ (WC.map (Proc.devRef (τ := τ) .tc)).toFinset := by
  simp only [List.Forall]; refine ⟨?_, ?_, ?_, ?_, ?_, ?_, ?_, ?_, ?_, ?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsD_sub : (opsD : List (HloOp τ sig (Elt F))).Forall fun op => op.bufs ⊆ tcRefs τ sig := by
  simp only [List.Forall]; exact ⟨nullary_bufs_sub .., nullary_bufs_sub .., nullary_bufs_sub .., quaternary_bufs_sub .., quaternary_bufs_sub ..⟩
theorem opsD_fresh : (opsD : List (HloOp τ sig (Elt F))).Forall fun op => op.fresh = ∅ := ⟨rfl, rfl, rfl, rfl, rfl⟩
/-- The buffers this piece writes. -/
abbrev WD : List (Ref sig .tc) := [main_call0_v0, main_call0_cst, main_call0_c, main_call0_v1_0, main_v28]
theorem opsD_writes : (opsD : List (HloOp τ sig (Elt F))).Forall fun op => op.writes ⊆ (WD.map (Proc.devRef (τ := τ) .tc)).toFinset := by
  simp only [List.Forall]; refine ⟨?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsE_sub : (opsE : List (HloOp τ sig (Elt F))).Forall fun op => op.bufs ⊆ tcRefs τ sig := by
  simp only [List.Forall]; exact ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsE_fresh : (opsE : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
/-- The buffers this piece writes. -/
abbrev WE : List (Ref sig .tc) := [main_v29, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v30]
theorem opsE_writes : (opsE : List (HloOp τ sig (Elt F))).Forall fun op => op.writes ⊆ (WE.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsF_sub : (opsF : List (HloOp τ sig (Elt F))).Forall fun op => op.bufs ⊆ tcRefs τ sig := by
  simp only [List.Forall]; exact ⟨binary_bufs_sub .., unary_bufs_sub .., unary_bufs_sub .., binary_bufs_sub ..⟩
theorem opsF_fresh : (opsF : List (HloOp τ sig (Elt F))).Forall fun op => op.fresh = ∅ := ⟨rfl, rfl, rfl, rfl⟩
/-- The buffers this piece writes. -/
abbrev WF : List (Ref sig .tc) := [main_v31, main_v32, main_v33, main_v34]
theorem opsF_writes : (opsF : List (HloOp τ sig (Elt F))).Forall fun op => op.writes ⊆ (WF.map (Proc.devRef (τ := τ) .tc)).toFinset := by
  simp only [List.Forall]; refine ⟨?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsG_sub : (opsG : List (HloOp τ sig (Elt F))).Forall fun op => op.bufs ⊆ tcRefs τ sig := by
  simp only [List.Forall]; exact ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩
theorem opsG_fresh : (opsG : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl⟩
/-- The buffers this piece writes. -/
abbrev WG : List (Ref sig .tc) := [main_v35, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v36, main_v37]
theorem opsG_writes : (opsG : List (HloOp τ sig (Elt F))).Forall fun op => op.writes ⊆ (WG.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsH_sub : (opsH : List (HloOp τ sig (Elt F))).Forall fun op => op.bufs ⊆ tcRefs τ sig := by
  simp only [List.Forall]; exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsH_fresh : (opsH : List (HloOp τ sig (Elt F))).Forall fun op => op.fresh = ∅ := ⟨rfl, rfl, rfl, rfl, rfl, rfl, rfl, rfl, rfl, rfl, rfl, rfl, rfl, rfl⟩
/-- The buffers this piece writes. -/
abbrev WH : List (Ref sig .tc) := [main_cst_5, main_v38, main_cst_6, main_v39, main_v40, main_v41, main_v42, main_v43, main_v44, main_cst_7, main_v45, main_v46, main_v47, main_v48]
theorem opsH_writes : (opsH : List (HloOp τ sig (Elt F))).Forall fun op => op.writes ⊆ (WH.map (Proc.devRef (τ := τ) .tc)).toFinset := by
  simp only [List.Forall]; refine ⟨?_, ?_, ?_, ?_, ?_, ?_, ?_, ?_, ?_, ?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsI_sub : (opsI : List (HloOp τ sig (Elt F))).Forall fun op => op.bufs ⊆ tcRefs τ sig := by
  simp only [List.Forall]; exact ⟨unary_bufs_sub .., unary_bufs_sub ..⟩
theorem opsI_fresh : (opsI : List (HloOp τ sig (Elt F))).Forall fun op => op.fresh = ∅ := ⟨rfl, rfl⟩
/-- The buffers this piece writes. -/
abbrev WI : List (Ref sig .tc) := [main_values, main_indices]
theorem opsI_writes : (opsI : List (HloOp τ sig (Elt F))).Forall fun op => op.writes ⊆ (WI.map (Proc.devRef (τ := τ) .tc)).toFinset := by
  simp only [List.Forall]; refine ⟨?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsJ_sub : (opsJ : List (HloOp τ sig (Elt F))).Forall fun op => op.bufs ⊆ tcRefs τ sig := by
  simp only [List.Forall]; exact ⟨nullary_bufs_sub .., binary_bufs_sub .., unary_bufs_sub .., unary_bufs_sub .., binary_bufs_sub ..⟩
theorem opsJ_fresh : (opsJ : List (HloOp τ sig (Elt F))).Forall fun op => op.fresh = ∅ := ⟨rfl, rfl, rfl, rfl, rfl⟩
/-- The buffers this piece writes. -/
abbrev WJ : List (Ref sig .tc) := [main_cst_8, main_v49, main_v50, main_v51, main_v52]
theorem opsJ_writes : (opsJ : List (HloOp τ sig (Elt F))).Forall fun op => op.writes ⊆ (WJ.map (Proc.devRef (τ := τ) .tc)).toFinset := by
  simp only [List.Forall]; refine ⟨?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsK_sub : (opsK : List (HloOp τ sig (Elt F))).Forall fun op => op.bufs ⊆ tcRefs τ sig := by
  simp only [List.Forall]; exact ⟨unary_bufs_sub .., nullary_bufs_sub .., unary_bufs_sub .., binary_bufs_sub .., unary_bufs_sub .., binary_bufs_sub .., unary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub ..⟩
theorem opsK_fresh : (opsK : List (HloOp τ sig (Elt F))).Forall fun op => op.fresh = ∅ := ⟨rfl, rfl, rfl, rfl, rfl, rfl, rfl, rfl, rfl, rfl, rfl, rfl, rfl, rfl, rfl, rfl, rfl, rfl, rfl⟩
/-- The buffers this piece writes. -/
abbrev WK : List (Ref sig .tc) := [main_v53, main_c, main_v54, main_v55, main_v56, main_v57, main_call3_v0, main_call3_v1, main_call3_v2, main_call3_v3, main_call3_v4, main_v58, main_v59, main_v60, main_v61, main_v62, main_v63, main_cst_9, main_v64]
theorem opsK_writes : (opsK : List (HloOp τ sig (Elt F))).Forall fun op => op.writes ⊆ (WK.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsL_sub : (opsL : List (HloOp τ sig (Elt F))).Forall fun op => op.bufs ⊆ tcRefs τ sig := binary_bufs_sub ..
theorem opsL_fresh : (opsL : List (HloOp τ sig (Elt F))).Forall fun op => op.fresh = ∅ := rfl
/-- The buffers this piece writes. -/
abbrev WL : List (Ref sig .tc) := [main_v65]
theorem opsL_writes : (opsL : List (HloOp τ sig (Elt F))).Forall fun op => op.writes ⊆ (WL.map (Proc.devRef (τ := τ) .tc)).toFinset := by
  simp only [List.Forall]; simp only [TRef.binary, TRef.nullary, TRef.unary, TRef.ternary, nullary_writes, unary_writes, binary_writes, Finset.singleton_subset_iff]; exact List.mem_toFinset.mpr (List.mem_map_of_mem (by decide))
theorem opsM_sub : (opsM : List (HloOp τ sig (Elt F))).Forall fun op => op.bufs ⊆ tcRefs τ sig := by
  simp only [List.Forall]; exact ⟨unary_bufs_sub .., unary_bufs_sub .., nullary_bufs_sub .., unary_bufs_sub .., binary_bufs_sub .., nullary_bufs_sub .., unary_bufs_sub .., binary_bufs_sub .., binary_bufs_sub ..⟩
theorem opsM_fresh : (opsM : List (HloOp τ sig (Elt F))).Forall fun op => op.fresh = ∅ := ⟨rfl, rfl, rfl, rfl, rfl, rfl, rfl, rfl, rfl⟩
/-- The buffers this piece writes. -/
abbrev WM : List (Ref sig .tc) := [main_call4_v0, main_call4_v1, main_call4_cst, main_call4_v2, main_call4_v3, main_call4_cst_0, main_call4_v4, main_call4_v5, main_v66]
theorem opsM_writes : (opsM : List (HloOp τ sig (Elt F))).Forall fun op => op.writes ⊆ (WM.map (Proc.devRef (τ := τ) .tc)).toFinset := by
  simp only [List.Forall]; refine ⟨?_, ?_, ?_, ?_, ?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem opsN_sub : (opsN : List (HloOp τ sig (Elt F))).Forall fun op => op.bufs ⊆ tcRefs τ sig := by
  simp only [List.Forall]; exact ⟨binary_bufs_sub .., binary_bufs_sub .., unary_bufs_sub .., unary_bufs_sub .., binary_bufs_sub .., binary_bufs_sub .., binary_bufs_sub ..⟩
theorem opsN_fresh : (opsN : List (HloOp τ sig (Elt F))).Forall fun op => op.fresh = ∅ := ⟨rfl, rfl, rfl, rfl, rfl, rfl, rfl⟩
/-- The buffers this piece writes. -/
abbrev WN : List (Ref sig .tc) := [main_v67, main_v68, main_v69, main_v70, main_v71, main_v72, main_v73]
theorem opsN_writes : (opsN : List (HloOp τ sig (Elt F))).Forall fun op => op.writes ⊆ (WN.map (Proc.devRef (τ := τ) .tc)).toFinset := by
  simp only [List.Forall]; refine ⟨?_, ?_, ?_, ?_, ?_, ?_, ?_⟩ <;> simp only [TRef.binary, TRef.nullary, TRef.unary, TRef.ternary, TRef.quaternary, TRef.reshape, nullary_writes, unary_writes, binary_writes, ternary_writes, quaternary_writes, reshape_writes, Finset.singleton_subset_iff] <;> exact List.mem_toFinset.mpr (List.mem_map_of_mem (by decide))
theorem ops_sub' : ∀ op ∈ (ops : List (HloOp τ sig (Elt F))), op.bufs ⊆ tcRefs τ sig := fun op h => by
  simp only [List.mem_append, or_assoc] at h
  rcases h with h | h | h | h | h | h | h | h | h | h | h | h | h | h
  exacts [List.forall_iff_forall_mem.mp opsA_sub op h, List.forall_iff_forall_mem.mp opsB_sub op h, List.forall_iff_forall_mem.mp opsC_sub op h, List.forall_iff_forall_mem.mp opsD_sub op h, List.forall_iff_forall_mem.mp opsE_sub op h, List.forall_iff_forall_mem.mp opsF_sub op h, List.forall_iff_forall_mem.mp opsG_sub op h, List.forall_iff_forall_mem.mp opsH_sub op h, List.forall_iff_forall_mem.mp opsI_sub op h, List.forall_iff_forall_mem.mp opsJ_sub op h, List.forall_iff_forall_mem.mp opsK_sub op h, List.forall_iff_forall_mem.mp opsL_sub op h, List.forall_iff_forall_mem.mp opsM_sub op h, List.forall_iff_forall_mem.mp opsN_sub op h]
theorem ops_fresh' : ∀ op ∈ (ops : List (HloOp τ sig (Elt F))), op.fresh = ∅ := fun op h => by
  simp only [List.mem_append, or_assoc] at h
  rcases h with h | h | h | h | h | h | h | h | h | h | h | h | h | h
  exacts [List.forall_iff_forall_mem.mp opsA_fresh op h, List.forall_iff_forall_mem.mp opsB_fresh op h, List.forall_iff_forall_mem.mp opsC_fresh op h, List.forall_iff_forall_mem.mp opsD_fresh op h, List.forall_iff_forall_mem.mp opsE_fresh op h, List.forall_iff_forall_mem.mp opsF_fresh op h, List.forall_iff_forall_mem.mp opsG_fresh op h, List.forall_iff_forall_mem.mp opsH_fresh op h, List.forall_iff_forall_mem.mp opsI_fresh op h, List.forall_iff_forall_mem.mp opsJ_fresh op h, List.forall_iff_forall_mem.mp opsK_fresh op h, List.forall_iff_forall_mem.mp opsL_fresh op h, List.forall_iff_forall_mem.mp opsM_fresh op h, List.forall_iff_forall_mem.mp opsN_fresh op h]
/-- What this piece does not write it keeps. -/
theorem keepA (V : Valuation τ sig (Elt F)) (r : Ref sig .tc) (h : r ∉ WA) :
    after opsA V (Proc.devRef .tc r) = V (Proc.devRef .tc r) :=
  after_of_writes_sub opsA _ opsA_writes h
set_option maxHeartbeats 2000000 in
/-- This piece leaves the normalised tokens: each row of the tokens times the reciprocal root of its mean square, times the gain. -/
theorem val_hxOf (V : Valuation τ sig (Elt F)) :
    after opsA V (Proc.devRef .tc main_v12) = hxOf (V (Proc.devRef .tc main_arg0)) (V (Proc.devRef .tc main_arg1)) := by
  simp only [opsA, TRef.binary, TRef.nullary, TRef.unary, TRef.ternary, TRef.quaternary, TRef.reshape, TRef.toBuf, TRef.ofBuf, cast_eq]
  after_results_simp
  rfl
/-- What this piece does not write it keeps. -/
theorem keepB (V : Valuation τ sig (Elt F)) (r : Ref sig .tc) (h : r ∉ WB) :
    after opsB V (Proc.devRef .tc r) = V (Proc.devRef .tc r) :=
  after_of_writes_sub opsB _ opsB_writes h
set_option maxHeartbeats 2000000 in
/-- This piece leaves the coarse logits: one per group of experts. -/
theorem val_coarseOf (V : Valuation τ sig (Elt F)) :
    after opsB V (Proc.devRef .tc main_v16) = coarseOf (V (Proc.devRef .tc main_v12)) (V (Proc.devRef .tc main_arg2)) (V (Proc.devRef .tc main_arg3)) := by
  simp only [opsB, TRef.binary, TRef.nullary, TRef.unary, TRef.ternary, TRef.quaternary, TRef.reshape, TRef.toBuf, TRef.ofBuf, cast_eq]
  after_results_simp
  rfl
/-- What this piece does not write it keeps. -/
theorem keepC (V : Valuation τ sig (Elt F)) (r : Ref sig .tc) (h : r ∉ WC) :
    after opsC V (Proc.devRef .tc r) = V (Proc.devRef .tc r) :=
  after_of_writes_sub opsC _ opsC_writes h
set_option maxHeartbeats 2000000 in
/-- This piece leaves the softmax of the coarse logits. -/
theorem val_pgOf (V : Valuation τ sig (Elt F)) :
    after opsC V (Proc.devRef .tc main_v27) = pgOf (V (Proc.devRef .tc main_v16)) := by
  simp only [opsC, TRef.binary, TRef.nullary, TRef.unary, TRef.ternary, TRef.quaternary, TRef.reshape, TRef.toBuf, TRef.ofBuf, cast_eq]
  after_results_simp
  rfl
/-- What this piece does not write it keeps. -/
theorem keepD (V : Valuation τ sig (Elt F)) (r : Ref sig .tc) (h : r ∉ WD) :
    after opsD V (Proc.devRef .tc r) = V (Proc.devRef .tc r) :=
  after_of_writes_sub opsD _ opsD_writes h
set_option maxHeartbeats 2000000 in
/-- This piece leaves the chosen group: where the coarse logits are largest. -/
theorem val_grpOf (V : Valuation τ sig (Elt F)) :
    after opsD V (Proc.devRef .tc main_v28) = grpOf (V (Proc.devRef .tc main_v16)) := by
  simp only [opsD, TRef.binary, TRef.nullary, TRef.unary, TRef.ternary, TRef.quaternary, TRef.reshape, TRef.toBuf, TRef.ofBuf, cast_eq]
  after_results_simp
  rfl
/-- What this piece does not write it keeps. -/
theorem keepE (V : Valuation τ sig (Elt F)) (r : Ref sig .tc) (h : r ∉ WE) :
    after opsE V (Proc.devRef .tc r) = V (Proc.devRef .tc r) :=
  after_of_writes_sub opsE _ opsE_writes h
set_option maxHeartbeats 2000000 in
/-- This piece leaves the probability of the chosen group. -/
theorem val_pgselOf (V : Valuation τ sig (Elt F)) :
    after opsE V (Proc.devRef .tc main_v30) = pgselOf (V (Proc.devRef .tc main_v27)) (V (Proc.devRef .tc main_v28)) := by
  simp only [opsE, TRef.binary, TRef.nullary, TRef.unary, TRef.ternary, TRef.quaternary, TRef.reshape, TRef.toBuf, TRef.ofBuf, cast_eq]
  after_results_simp
  rfl
/-- What this piece does not write it keeps. -/
theorem keepF (V : Valuation τ sig (Elt F)) (r : Ref sig .tc) (h : r ∉ WF) :
    after opsF V (Proc.devRef .tc r) = V (Proc.devRef .tc r) :=
  after_of_writes_sub opsF _ opsF_writes h
set_option maxHeartbeats 2000000 in
/-- This piece leaves the fine logits, eight per group. -/
theorem val_fineOf (V : Valuation τ sig (Elt F)) :
    after opsF V (Proc.devRef .tc main_v34) = fineOf (V (Proc.devRef .tc main_v12)) (V (Proc.devRef .tc main_arg4)) (V (Proc.devRef .tc main_arg5)) := by
  simp only [opsF, TRef.binary, TRef.nullary, TRef.unary, TRef.ternary, TRef.quaternary, TRef.reshape, TRef.toBuf, TRef.ofBuf, cast_eq]
  after_results_simp
  rfl
/-- What this piece does not write it keeps. -/
theorem keepG (V : Valuation τ sig (Elt F)) (r : Ref sig .tc) (h : r ∉ WG) :
    after opsG V (Proc.devRef .tc r) = V (Proc.devRef .tc r) :=
  after_of_writes_sub opsG _ opsG_writes h
set_option maxHeartbeats 2000000 in
/-- This piece leaves the fine logits of the chosen group. -/
theorem val_fineselOf (V : Valuation τ sig (Elt F)) :
    after opsG V (Proc.devRef .tc main_v37) = fineselOf (V (Proc.devRef .tc main_v34)) (V (Proc.devRef .tc main_v28)) := by
  simp only [opsG, TRef.binary, TRef.nullary, TRef.unary, TRef.ternary, TRef.quaternary, TRef.reshape, TRef.toBuf, TRef.ofBuf, cast_eq]
  after_results_simp
  rfl
/-- What this piece does not write it keeps. -/
theorem keepH (V : Valuation τ sig (Elt F)) (r : Ref sig .tc) (h : r ∉ WH) :
    after opsH V (Proc.devRef .tc r) = V (Proc.devRef .tc r) :=
  after_of_writes_sub opsH _ opsH_writes h
set_option maxHeartbeats 2000000 in
/-- This piece leaves the softmax of the chosen group's fine logits. -/
theorem val_softOf (V : Valuation τ sig (Elt F)) :
    after opsH V (Proc.devRef .tc main_v48) = softOf (V (Proc.devRef .tc main_v37)) := by
  simp only [opsH, TRef.binary, TRef.nullary, TRef.unary, TRef.ternary, TRef.quaternary, TRef.reshape, TRef.toBuf, TRef.ofBuf, cast_eq]
  after_results_simp
  rfl
/-- What this piece does not write it keeps. -/
theorem keepI (V : Valuation τ sig (Elt F)) (r : Ref sig .tc) (h : r ∉ WI) :
    after opsI V (Proc.devRef .tc r) = V (Proc.devRef .tc r) :=
  after_of_writes_sub opsI _ opsI_writes h
set_option maxHeartbeats 2000000 in
/-- This piece leaves the two largest of eight probabilities. -/
theorem val_topvOf (V : Valuation τ sig (Elt F)) :
    after opsI V (Proc.devRef .tc main_values) = topvOf (V (Proc.devRef .tc main_v48)) := by
  simp only [opsI, TRef.binary, TRef.nullary, TRef.unary, TRef.ternary, TRef.quaternary, TRef.reshape, TRef.toBuf, TRef.ofBuf, cast_eq]
  after_results_simp
  rfl
set_option maxHeartbeats 2000000 in
/-- This piece leaves the two largest of eight probabilities. -/
theorem val_topiOf (V : Valuation τ sig (Elt F)) :
    after opsI V (Proc.devRef .tc main_indices) = topiOf (V (Proc.devRef .tc main_v48)) := by
  simp only [opsI, TRef.binary, TRef.nullary, TRef.unary, TRef.ternary, TRef.quaternary, TRef.reshape, TRef.toBuf, TRef.ofBuf, cast_eq]
  after_results_simp
  rfl
/-- What this piece does not write it keeps. -/
theorem keepJ (V : Valuation τ sig (Elt F)) (r : Ref sig .tc) (h : r ∉ WJ) :
    after opsJ V (Proc.devRef .tc r) = V (Proc.devRef .tc r) :=
  after_of_writes_sub opsJ _ opsJ_writes h
set_option maxHeartbeats 2000000 in
/-- This piece leaves the two chosen probabilities, over their sum. -/
theorem val_topnOf (V : Valuation τ sig (Elt F)) :
    after opsJ V (Proc.devRef .tc main_v52) = topnOf (V (Proc.devRef .tc main_values)) := by
  simp only [opsJ, TRef.binary, TRef.nullary, TRef.unary, TRef.ternary, TRef.quaternary, TRef.reshape, TRef.toBuf, TRef.ofBuf, cast_eq]
  after_results_simp
  rfl
/-- What this piece does not write it keeps. -/
theorem keepK (V : Valuation τ sig (Elt F)) (r : Ref sig .tc) (h : r ∉ WK) :
    after opsK V (Proc.devRef .tc r) = V (Proc.devRef .tc r) :=
  after_of_writes_sub opsK _ opsK_writes h
set_option maxHeartbeats 2000000 in
/-- This piece leaves the weight of each of the 32 experts. -/
theorem val_combOf (V : Valuation τ sig (Elt F)) :
    after opsK V (Proc.devRef .tc main_v64) = combOf (V (Proc.devRef .tc main_v28)) (V (Proc.devRef .tc main_indices)) (V (Proc.devRef .tc main_v30)) (V (Proc.devRef .tc main_v52)) := by
  simp only [opsK, TRef.binary, TRef.nullary, TRef.unary, TRef.ternary, TRef.quaternary, TRef.reshape, TRef.toBuf, TRef.ofBuf, cast_eq]
  after_results_simp
  rfl
/-- What this piece does not write it keeps. -/
theorem keepL (V : Valuation τ sig (Elt F)) (r : Ref sig .tc) (h : r ∉ WL) :
    after opsL V (Proc.devRef .tc r) = V (Proc.devRef .tc r) :=
  after_of_writes_sub opsL _ opsL_writes h
set_option maxHeartbeats 2000000 in
/-- This piece leaves the first hidden product. -/
theorem val_upOf (V : Valuation τ sig (Elt F)) :
    after opsL V (Proc.devRef .tc main_v65) = upOf (V (Proc.devRef .tc main_v12)) (V (Proc.devRef .tc main_arg6)) := by
  simp only [opsL, TRef.binary, TRef.nullary, TRef.unary, TRef.ternary, TRef.quaternary, TRef.reshape, TRef.toBuf, TRef.ofBuf, cast_eq]
  after_results_simp
  rfl
/-- What this piece does not write it keeps. -/
theorem keepM (V : Valuation τ sig (Elt F)) (r : Ref sig .tc) (h : r ∉ WM) :
    after opsM V (Proc.devRef .tc r) = V (Proc.devRef .tc r) :=
  after_of_writes_sub opsM _ opsM_writes h
set_option maxHeartbeats 2000000 in
/-- This piece leaves the hidden product times its logistic function. -/
theorem val_siluOf (V : Valuation τ sig (Elt F)) :
    after opsM V (Proc.devRef .tc main_v66) = siluOf (V (Proc.devRef .tc main_v65)) := by
  simp only [opsM, TRef.binary, TRef.nullary, TRef.unary, TRef.ternary, TRef.quaternary, TRef.reshape, TRef.toBuf, TRef.ofBuf, cast_eq]
  after_results_simp
  rfl
/-- What this piece does not write it keeps. -/
theorem keepN (V : Valuation τ sig (Elt F)) (r : Ref sig .tc) (h : r ∉ WN) :
    after opsN V (Proc.devRef .tc r) = V (Proc.devRef .tc r) :=
  after_of_writes_sub opsN _ opsN_writes h
set_option maxHeartbeats 2000000 in
/-- This piece leaves the experts' weighted sum added to the tokens. -/
theorem val_outOf (V : Valuation τ sig (Elt F)) :
    after opsN V (Proc.devRef .tc main_v73) = outOf (V (Proc.devRef .tc main_arg0)) (V (Proc.devRef .tc main_v12)) (V (Proc.devRef .tc main_v64)) (V (Proc.devRef .tc main_v66)) (V (Proc.devRef .tc main_arg7)) (V (Proc.devRef .tc main_arg8)) := by
  simp only [opsN, TRef.binary, TRef.nullary, TRef.unary, TRef.ternary, TRef.quaternary, TRef.reshape, TRef.toBuf, TRef.ofBuf, cast_eq]
  after_results_simp
  rfl
/-- The contents after the first pieces. -/
def VA (V : Valuation τ sig (Elt F)) : Valuation τ sig (Elt F) := after opsA V
def VB (V : Valuation τ sig (Elt F)) : Valuation τ sig (Elt F) := after opsB (VA V)
def VC (V : Valuation τ sig (Elt F)) : Valuation τ sig (Elt F) := after opsC (VB V)
def VD (V : Valuation τ sig (Elt F)) : Valuation τ sig (Elt F) := after opsD (VC V)
def VE (V : Valuation τ sig (Elt F)) : Valuation τ sig (Elt F) := after opsE (VD V)
def VF (V : Valuation τ sig (Elt F)) : Valuation τ sig (Elt F) := after opsF (VE V)
def VG (V : Valuation τ sig (Elt F)) : Valuation τ sig (Elt F) := after opsG (VF V)
def VH (V : Valuation τ sig (Elt F)) : Valuation τ sig (Elt F) := after opsH (VG V)
def VI (V : Valuation τ sig (Elt F)) : Valuation τ sig (Elt F) := after opsI (VH V)
def VJ (V : Valuation τ sig (Elt F)) : Valuation τ sig (Elt F) := after opsJ (VI V)
def VK (V : Valuation τ sig (Elt F)) : Valuation τ sig (Elt F) := after opsK (VJ V)
def VL (V : Valuation τ sig (Elt F)) : Valuation τ sig (Elt F) := after opsL (VK V)
def VM (V : Valuation τ sig (Elt F)) : Valuation τ sig (Elt F) := after opsM (VL V)
def VN (V : Valuation τ sig (Elt F)) : Valuation τ sig (Elt F) := after opsN (VM V)

/-- The normalised tokens as a function of the arguments. -/
abbrev rHx (V : Valuation τ sig (Elt F)) := hxOf (V (Proc.devRef .tc main_arg0)) (V (Proc.devRef .tc main_arg1))
/-- The coarse logits: one per group of experts, as a function of the arguments. -/
abbrev rCoarse (V : Valuation τ sig (Elt F)) := coarseOf (rHx V) (V (Proc.devRef .tc main_arg2)) (V (Proc.devRef .tc main_arg3))
/-- The softmax of the coarse logits, as a function of the arguments. -/
abbrev rPg (V : Valuation τ sig (Elt F)) := pgOf (rCoarse V)
/-- The chosen group: where the coarse logits are largest, as a function of the arguments. -/
abbrev rGrp (V : Valuation τ sig (Elt F)) := grpOf (rCoarse V)
/-- The probability of the chosen group, as a function of the arguments. -/
abbrev rPgsel (V : Valuation τ sig (Elt F)) := pgselOf (rPg V) (rGrp V)
/-- The fine logits, eight per group, as a function of the arguments. -/
abbrev rFine (V : Valuation τ sig (Elt F)) := fineOf (rHx V) (V (Proc.devRef .tc main_arg4)) (V (Proc.devRef .tc main_arg5))
/-- The fine logits of the chosen group, as a function of the arguments. -/
abbrev rFinesel (V : Valuation τ sig (Elt F)) := fineselOf (rFine V) (rGrp V)
/-- The softmax of the chosen group's fine logits, as a function of the arguments. -/
abbrev rSoft (V : Valuation τ sig (Elt F)) := softOf (rFinesel V)
/-- The two largest of eight probabilities, as a function of the arguments. -/
abbrev rTopv (V : Valuation τ sig (Elt F)) := topvOf (rSoft V)
/-- The two largest of eight probabilities, as a function of the arguments. -/
abbrev rTopi (V : Valuation τ sig (Elt F)) := topiOf (rSoft V)
/-- The two chosen probabilities, over their sum, as a function of the arguments. -/
abbrev rTopn (V : Valuation τ sig (Elt F)) := topnOf (rTopv V)
/-- The weight of each of the 32 experts, as a function of the arguments. -/
abbrev rComb (V : Valuation τ sig (Elt F)) := combOf (rGrp V) (rTopi V) (rPgsel V) (rTopn V)
/-- The first hidden product, as a function of the arguments. -/
abbrev rUp (V : Valuation τ sig (Elt F)) := upOf (rHx V) (V (Proc.devRef .tc main_arg6))
/-- The hidden product times its logistic function, as a function of the arguments. -/
abbrev rSilu (V : Valuation τ sig (Elt F)) := siluOf (rUp V)
/-- The experts' weighted sum added to the tokens, as a function of the arguments. -/
abbrev rOut (V : Valuation τ sig (Elt F)) := outOf (V (Proc.devRef .tc main_arg0)) (rHx V) (rComb V) (rSilu V) (V (Proc.devRef .tc main_arg7)) (V (Proc.devRef .tc main_arg8))
theorem VA_main_arg0 (V : Valuation τ sig (Elt F)) : VA V (Proc.devRef .tc main_arg0) = V (Proc.devRef .tc main_arg0) := keepA _ main_arg0 (by decide)
theorem VA_main_arg1 (V : Valuation τ sig (Elt F)) : VA V (Proc.devRef .tc main_arg1) = V (Proc.devRef .tc main_arg1) := keepA _ main_arg1 (by decide)
theorem VA_main_arg2 (V : Valuation τ sig (Elt F)) : VA V (Proc.devRef .tc main_arg2) = V (Proc.devRef .tc main_arg2) := keepA _ main_arg2 (by decide)
theorem VA_main_arg3 (V : Valuation τ sig (Elt F)) : VA V (Proc.devRef .tc main_arg3) = V (Proc.devRef .tc main_arg3) := keepA _ main_arg3 (by decide)
theorem VA_main_arg4 (V : Valuation τ sig (Elt F)) : VA V (Proc.devRef .tc main_arg4) = V (Proc.devRef .tc main_arg4) := keepA _ main_arg4 (by decide)
theorem VA_main_arg5 (V : Valuation τ sig (Elt F)) : VA V (Proc.devRef .tc main_arg5) = V (Proc.devRef .tc main_arg5) := keepA _ main_arg5 (by decide)
theorem VA_main_arg6 (V : Valuation τ sig (Elt F)) : VA V (Proc.devRef .tc main_arg6) = V (Proc.devRef .tc main_arg6) := keepA _ main_arg6 (by decide)
theorem VA_main_arg7 (V : Valuation τ sig (Elt F)) : VA V (Proc.devRef .tc main_arg7) = V (Proc.devRef .tc main_arg7) := keepA _ main_arg7 (by decide)
theorem VA_main_arg8 (V : Valuation τ sig (Elt F)) : VA V (Proc.devRef .tc main_arg8) = V (Proc.devRef .tc main_arg8) := keepA _ main_arg8 (by decide)
theorem VA_main_v12 (V : Valuation τ sig (Elt F)) : VA V (Proc.devRef .tc main_v12) = rHx V := by
  exact val_hxOf _
theorem VB_main_arg0 (V : Valuation τ sig (Elt F)) : VB V (Proc.devRef .tc main_arg0) = V (Proc.devRef .tc main_arg0) := (keepB _ main_arg0 (by decide)).trans (VA_main_arg0 V)
theorem VB_main_arg1 (V : Valuation τ sig (Elt F)) : VB V (Proc.devRef .tc main_arg1) = V (Proc.devRef .tc main_arg1) := (keepB _ main_arg1 (by decide)).trans (VA_main_arg1 V)
theorem VB_main_arg2 (V : Valuation τ sig (Elt F)) : VB V (Proc.devRef .tc main_arg2) = V (Proc.devRef .tc main_arg2) := (keepB _ main_arg2 (by decide)).trans (VA_main_arg2 V)
theorem VB_main_arg3 (V : Valuation τ sig (Elt F)) : VB V (Proc.devRef .tc main_arg3) = V (Proc.devRef .tc main_arg3) := (keepB _ main_arg3 (by decide)).trans (VA_main_arg3 V)
theorem VB_main_arg4 (V : Valuation τ sig (Elt F)) : VB V (Proc.devRef .tc main_arg4) = V (Proc.devRef .tc main_arg4) := (keepB _ main_arg4 (by decide)).trans (VA_main_arg4 V)
theorem VB_main_arg5 (V : Valuation τ sig (Elt F)) : VB V (Proc.devRef .tc main_arg5) = V (Proc.devRef .tc main_arg5) := (keepB _ main_arg5 (by decide)).trans (VA_main_arg5 V)
theorem VB_main_arg6 (V : Valuation τ sig (Elt F)) : VB V (Proc.devRef .tc main_arg6) = V (Proc.devRef .tc main_arg6) := (keepB _ main_arg6 (by decide)).trans (VA_main_arg6 V)
theorem VB_main_arg7 (V : Valuation τ sig (Elt F)) : VB V (Proc.devRef .tc main_arg7) = V (Proc.devRef .tc main_arg7) := (keepB _ main_arg7 (by decide)).trans (VA_main_arg7 V)
theorem VB_main_arg8 (V : Valuation τ sig (Elt F)) : VB V (Proc.devRef .tc main_arg8) = V (Proc.devRef .tc main_arg8) := (keepB _ main_arg8 (by decide)).trans (VA_main_arg8 V)
theorem VB_main_v12 (V : Valuation τ sig (Elt F)) : VB V (Proc.devRef .tc main_v12) = rHx V := (keepB _ main_v12 (by decide)).trans (VA_main_v12 V)
theorem VB_main_v16 (V : Valuation τ sig (Elt F)) : VB V (Proc.devRef .tc main_v16) = rCoarse V := by
  refine (val_coarseOf _).trans ?_
  rw [VA_main_v12, VA_main_arg2, VA_main_arg3]
theorem VC_main_arg0 (V : Valuation τ sig (Elt F)) : VC V (Proc.devRef .tc main_arg0) = V (Proc.devRef .tc main_arg0) := (keepC _ main_arg0 (by decide)).trans (VB_main_arg0 V)
theorem VC_main_arg1 (V : Valuation τ sig (Elt F)) : VC V (Proc.devRef .tc main_arg1) = V (Proc.devRef .tc main_arg1) := (keepC _ main_arg1 (by decide)).trans (VB_main_arg1 V)
theorem VC_main_arg2 (V : Valuation τ sig (Elt F)) : VC V (Proc.devRef .tc main_arg2) = V (Proc.devRef .tc main_arg2) := (keepC _ main_arg2 (by decide)).trans (VB_main_arg2 V)
theorem VC_main_arg3 (V : Valuation τ sig (Elt F)) : VC V (Proc.devRef .tc main_arg3) = V (Proc.devRef .tc main_arg3) := (keepC _ main_arg3 (by decide)).trans (VB_main_arg3 V)
theorem VC_main_arg4 (V : Valuation τ sig (Elt F)) : VC V (Proc.devRef .tc main_arg4) = V (Proc.devRef .tc main_arg4) := (keepC _ main_arg4 (by decide)).trans (VB_main_arg4 V)
theorem VC_main_arg5 (V : Valuation τ sig (Elt F)) : VC V (Proc.devRef .tc main_arg5) = V (Proc.devRef .tc main_arg5) := (keepC _ main_arg5 (by decide)).trans (VB_main_arg5 V)
theorem VC_main_arg6 (V : Valuation τ sig (Elt F)) : VC V (Proc.devRef .tc main_arg6) = V (Proc.devRef .tc main_arg6) := (keepC _ main_arg6 (by decide)).trans (VB_main_arg6 V)
theorem VC_main_arg7 (V : Valuation τ sig (Elt F)) : VC V (Proc.devRef .tc main_arg7) = V (Proc.devRef .tc main_arg7) := (keepC _ main_arg7 (by decide)).trans (VB_main_arg7 V)
theorem VC_main_arg8 (V : Valuation τ sig (Elt F)) : VC V (Proc.devRef .tc main_arg8) = V (Proc.devRef .tc main_arg8) := (keepC _ main_arg8 (by decide)).trans (VB_main_arg8 V)
theorem VC_main_v12 (V : Valuation τ sig (Elt F)) : VC V (Proc.devRef .tc main_v12) = rHx V := (keepC _ main_v12 (by decide)).trans (VB_main_v12 V)
theorem VC_main_v16 (V : Valuation τ sig (Elt F)) : VC V (Proc.devRef .tc main_v16) = rCoarse V := (keepC _ main_v16 (by decide)).trans (VB_main_v16 V)
theorem VC_main_v27 (V : Valuation τ sig (Elt F)) : VC V (Proc.devRef .tc main_v27) = rPg V := by
  refine (val_pgOf _).trans ?_
  rw [VB_main_v16]
theorem VD_main_arg0 (V : Valuation τ sig (Elt F)) : VD V (Proc.devRef .tc main_arg0) = V (Proc.devRef .tc main_arg0) := (keepD _ main_arg0 (by decide)).trans (VC_main_arg0 V)
theorem VD_main_arg1 (V : Valuation τ sig (Elt F)) : VD V (Proc.devRef .tc main_arg1) = V (Proc.devRef .tc main_arg1) := (keepD _ main_arg1 (by decide)).trans (VC_main_arg1 V)
theorem VD_main_arg2 (V : Valuation τ sig (Elt F)) : VD V (Proc.devRef .tc main_arg2) = V (Proc.devRef .tc main_arg2) := (keepD _ main_arg2 (by decide)).trans (VC_main_arg2 V)
theorem VD_main_arg3 (V : Valuation τ sig (Elt F)) : VD V (Proc.devRef .tc main_arg3) = V (Proc.devRef .tc main_arg3) := (keepD _ main_arg3 (by decide)).trans (VC_main_arg3 V)
theorem VD_main_arg4 (V : Valuation τ sig (Elt F)) : VD V (Proc.devRef .tc main_arg4) = V (Proc.devRef .tc main_arg4) := (keepD _ main_arg4 (by decide)).trans (VC_main_arg4 V)
theorem VD_main_arg5 (V : Valuation τ sig (Elt F)) : VD V (Proc.devRef .tc main_arg5) = V (Proc.devRef .tc main_arg5) := (keepD _ main_arg5 (by decide)).trans (VC_main_arg5 V)
theorem VD_main_arg6 (V : Valuation τ sig (Elt F)) : VD V (Proc.devRef .tc main_arg6) = V (Proc.devRef .tc main_arg6) := (keepD _ main_arg6 (by decide)).trans (VC_main_arg6 V)
theorem VD_main_arg7 (V : Valuation τ sig (Elt F)) : VD V (Proc.devRef .tc main_arg7) = V (Proc.devRef .tc main_arg7) := (keepD _ main_arg7 (by decide)).trans (VC_main_arg7 V)
theorem VD_main_arg8 (V : Valuation τ sig (Elt F)) : VD V (Proc.devRef .tc main_arg8) = V (Proc.devRef .tc main_arg8) := (keepD _ main_arg8 (by decide)).trans (VC_main_arg8 V)
theorem VD_main_v12 (V : Valuation τ sig (Elt F)) : VD V (Proc.devRef .tc main_v12) = rHx V := (keepD _ main_v12 (by decide)).trans (VC_main_v12 V)
theorem VD_main_v27 (V : Valuation τ sig (Elt F)) : VD V (Proc.devRef .tc main_v27) = rPg V := (keepD _ main_v27 (by decide)).trans (VC_main_v27 V)
theorem VD_main_v28 (V : Valuation τ sig (Elt F)) : VD V (Proc.devRef .tc main_v28) = rGrp V := by
  refine (val_grpOf _).trans ?_
  rw [VC_main_v16]
theorem VE_main_arg0 (V : Valuation τ sig (Elt F)) : VE V (Proc.devRef .tc main_arg0) = V (Proc.devRef .tc main_arg0) := (keepE _ main_arg0 (by decide)).trans (VD_main_arg0 V)
theorem VE_main_arg1 (V : Valuation τ sig (Elt F)) : VE V (Proc.devRef .tc main_arg1) = V (Proc.devRef .tc main_arg1) := (keepE _ main_arg1 (by decide)).trans (VD_main_arg1 V)
theorem VE_main_arg2 (V : Valuation τ sig (Elt F)) : VE V (Proc.devRef .tc main_arg2) = V (Proc.devRef .tc main_arg2) := (keepE _ main_arg2 (by decide)).trans (VD_main_arg2 V)
theorem VE_main_arg3 (V : Valuation τ sig (Elt F)) : VE V (Proc.devRef .tc main_arg3) = V (Proc.devRef .tc main_arg3) := (keepE _ main_arg3 (by decide)).trans (VD_main_arg3 V)
theorem VE_main_arg4 (V : Valuation τ sig (Elt F)) : VE V (Proc.devRef .tc main_arg4) = V (Proc.devRef .tc main_arg4) := (keepE _ main_arg4 (by decide)).trans (VD_main_arg4 V)
theorem VE_main_arg5 (V : Valuation τ sig (Elt F)) : VE V (Proc.devRef .tc main_arg5) = V (Proc.devRef .tc main_arg5) := (keepE _ main_arg5 (by decide)).trans (VD_main_arg5 V)
theorem VE_main_arg6 (V : Valuation τ sig (Elt F)) : VE V (Proc.devRef .tc main_arg6) = V (Proc.devRef .tc main_arg6) := (keepE _ main_arg6 (by decide)).trans (VD_main_arg6 V)
theorem VE_main_arg7 (V : Valuation τ sig (Elt F)) : VE V (Proc.devRef .tc main_arg7) = V (Proc.devRef .tc main_arg7) := (keepE _ main_arg7 (by decide)).trans (VD_main_arg7 V)
theorem VE_main_arg8 (V : Valuation τ sig (Elt F)) : VE V (Proc.devRef .tc main_arg8) = V (Proc.devRef .tc main_arg8) := (keepE _ main_arg8 (by decide)).trans (VD_main_arg8 V)
theorem VE_main_v12 (V : Valuation τ sig (Elt F)) : VE V (Proc.devRef .tc main_v12) = rHx V := (keepE _ main_v12 (by decide)).trans (VD_main_v12 V)
theorem VE_main_v28 (V : Valuation τ sig (Elt F)) : VE V (Proc.devRef .tc main_v28) = rGrp V := (keepE _ main_v28 (by decide)).trans (VD_main_v28 V)
theorem VE_main_v30 (V : Valuation τ sig (Elt F)) : VE V (Proc.devRef .tc main_v30) = rPgsel V := by
  refine (val_pgselOf _).trans ?_
  rw [VD_main_v27, VD_main_v28]
theorem VF_main_arg0 (V : Valuation τ sig (Elt F)) : VF V (Proc.devRef .tc main_arg0) = V (Proc.devRef .tc main_arg0) := (keepF _ main_arg0 (by decide)).trans (VE_main_arg0 V)
theorem VF_main_arg1 (V : Valuation τ sig (Elt F)) : VF V (Proc.devRef .tc main_arg1) = V (Proc.devRef .tc main_arg1) := (keepF _ main_arg1 (by decide)).trans (VE_main_arg1 V)
theorem VF_main_arg2 (V : Valuation τ sig (Elt F)) : VF V (Proc.devRef .tc main_arg2) = V (Proc.devRef .tc main_arg2) := (keepF _ main_arg2 (by decide)).trans (VE_main_arg2 V)
theorem VF_main_arg3 (V : Valuation τ sig (Elt F)) : VF V (Proc.devRef .tc main_arg3) = V (Proc.devRef .tc main_arg3) := (keepF _ main_arg3 (by decide)).trans (VE_main_arg3 V)
theorem VF_main_arg4 (V : Valuation τ sig (Elt F)) : VF V (Proc.devRef .tc main_arg4) = V (Proc.devRef .tc main_arg4) := (keepF _ main_arg4 (by decide)).trans (VE_main_arg4 V)
theorem VF_main_arg5 (V : Valuation τ sig (Elt F)) : VF V (Proc.devRef .tc main_arg5) = V (Proc.devRef .tc main_arg5) := (keepF _ main_arg5 (by decide)).trans (VE_main_arg5 V)
theorem VF_main_arg6 (V : Valuation τ sig (Elt F)) : VF V (Proc.devRef .tc main_arg6) = V (Proc.devRef .tc main_arg6) := (keepF _ main_arg6 (by decide)).trans (VE_main_arg6 V)
theorem VF_main_arg7 (V : Valuation τ sig (Elt F)) : VF V (Proc.devRef .tc main_arg7) = V (Proc.devRef .tc main_arg7) := (keepF _ main_arg7 (by decide)).trans (VE_main_arg7 V)
theorem VF_main_arg8 (V : Valuation τ sig (Elt F)) : VF V (Proc.devRef .tc main_arg8) = V (Proc.devRef .tc main_arg8) := (keepF _ main_arg8 (by decide)).trans (VE_main_arg8 V)
theorem VF_main_v12 (V : Valuation τ sig (Elt F)) : VF V (Proc.devRef .tc main_v12) = rHx V := (keepF _ main_v12 (by decide)).trans (VE_main_v12 V)
theorem VF_main_v28 (V : Valuation τ sig (Elt F)) : VF V (Proc.devRef .tc main_v28) = rGrp V := (keepF _ main_v28 (by decide)).trans (VE_main_v28 V)
theorem VF_main_v30 (V : Valuation τ sig (Elt F)) : VF V (Proc.devRef .tc main_v30) = rPgsel V := (keepF _ main_v30 (by decide)).trans (VE_main_v30 V)
theorem VF_main_v34 (V : Valuation τ sig (Elt F)) : VF V (Proc.devRef .tc main_v34) = rFine V := by
  refine (val_fineOf _).trans ?_
  rw [VE_main_v12, VE_main_arg4, VE_main_arg5]
theorem VG_main_arg0 (V : Valuation τ sig (Elt F)) : VG V (Proc.devRef .tc main_arg0) = V (Proc.devRef .tc main_arg0) := (keepG _ main_arg0 (by decide)).trans (VF_main_arg0 V)
theorem VG_main_arg1 (V : Valuation τ sig (Elt F)) : VG V (Proc.devRef .tc main_arg1) = V (Proc.devRef .tc main_arg1) := (keepG _ main_arg1 (by decide)).trans (VF_main_arg1 V)
theorem VG_main_arg2 (V : Valuation τ sig (Elt F)) : VG V (Proc.devRef .tc main_arg2) = V (Proc.devRef .tc main_arg2) := (keepG _ main_arg2 (by decide)).trans (VF_main_arg2 V)
theorem VG_main_arg3 (V : Valuation τ sig (Elt F)) : VG V (Proc.devRef .tc main_arg3) = V (Proc.devRef .tc main_arg3) := (keepG _ main_arg3 (by decide)).trans (VF_main_arg3 V)
theorem VG_main_arg4 (V : Valuation τ sig (Elt F)) : VG V (Proc.devRef .tc main_arg4) = V (Proc.devRef .tc main_arg4) := (keepG _ main_arg4 (by decide)).trans (VF_main_arg4 V)
theorem VG_main_arg5 (V : Valuation τ sig (Elt F)) : VG V (Proc.devRef .tc main_arg5) = V (Proc.devRef .tc main_arg5) := (keepG _ main_arg5 (by decide)).trans (VF_main_arg5 V)
theorem VG_main_arg6 (V : Valuation τ sig (Elt F)) : VG V (Proc.devRef .tc main_arg6) = V (Proc.devRef .tc main_arg6) := (keepG _ main_arg6 (by decide)).trans (VF_main_arg6 V)
theorem VG_main_arg7 (V : Valuation τ sig (Elt F)) : VG V (Proc.devRef .tc main_arg7) = V (Proc.devRef .tc main_arg7) := (keepG _ main_arg7 (by decide)).trans (VF_main_arg7 V)
theorem VG_main_arg8 (V : Valuation τ sig (Elt F)) : VG V (Proc.devRef .tc main_arg8) = V (Proc.devRef .tc main_arg8) := (keepG _ main_arg8 (by decide)).trans (VF_main_arg8 V)
theorem VG_main_v12 (V : Valuation τ sig (Elt F)) : VG V (Proc.devRef .tc main_v12) = rHx V := (keepG _ main_v12 (by decide)).trans (VF_main_v12 V)
theorem VG_main_v28 (V : Valuation τ sig (Elt F)) : VG V (Proc.devRef .tc main_v28) = rGrp V := (keepG _ main_v28 (by decide)).trans (VF_main_v28 V)
theorem VG_main_v30 (V : Valuation τ sig (Elt F)) : VG V (Proc.devRef .tc main_v30) = rPgsel V := (keepG _ main_v30 (by decide)).trans (VF_main_v30 V)
theorem VG_main_v37 (V : Valuation τ sig (Elt F)) : VG V (Proc.devRef .tc main_v37) = rFinesel V := by
  refine (val_fineselOf _).trans ?_
  rw [VF_main_v34, VF_main_v28]
theorem VH_main_arg0 (V : Valuation τ sig (Elt F)) : VH V (Proc.devRef .tc main_arg0) = V (Proc.devRef .tc main_arg0) := (keepH _ main_arg0 (by decide)).trans (VG_main_arg0 V)
theorem VH_main_arg1 (V : Valuation τ sig (Elt F)) : VH V (Proc.devRef .tc main_arg1) = V (Proc.devRef .tc main_arg1) := (keepH _ main_arg1 (by decide)).trans (VG_main_arg1 V)
theorem VH_main_arg2 (V : Valuation τ sig (Elt F)) : VH V (Proc.devRef .tc main_arg2) = V (Proc.devRef .tc main_arg2) := (keepH _ main_arg2 (by decide)).trans (VG_main_arg2 V)
theorem VH_main_arg3 (V : Valuation τ sig (Elt F)) : VH V (Proc.devRef .tc main_arg3) = V (Proc.devRef .tc main_arg3) := (keepH _ main_arg3 (by decide)).trans (VG_main_arg3 V)
theorem VH_main_arg4 (V : Valuation τ sig (Elt F)) : VH V (Proc.devRef .tc main_arg4) = V (Proc.devRef .tc main_arg4) := (keepH _ main_arg4 (by decide)).trans (VG_main_arg4 V)
theorem VH_main_arg5 (V : Valuation τ sig (Elt F)) : VH V (Proc.devRef .tc main_arg5) = V (Proc.devRef .tc main_arg5) := (keepH _ main_arg5 (by decide)).trans (VG_main_arg5 V)
theorem VH_main_arg6 (V : Valuation τ sig (Elt F)) : VH V (Proc.devRef .tc main_arg6) = V (Proc.devRef .tc main_arg6) := (keepH _ main_arg6 (by decide)).trans (VG_main_arg6 V)
theorem VH_main_arg7 (V : Valuation τ sig (Elt F)) : VH V (Proc.devRef .tc main_arg7) = V (Proc.devRef .tc main_arg7) := (keepH _ main_arg7 (by decide)).trans (VG_main_arg7 V)
theorem VH_main_arg8 (V : Valuation τ sig (Elt F)) : VH V (Proc.devRef .tc main_arg8) = V (Proc.devRef .tc main_arg8) := (keepH _ main_arg8 (by decide)).trans (VG_main_arg8 V)
theorem VH_main_v12 (V : Valuation τ sig (Elt F)) : VH V (Proc.devRef .tc main_v12) = rHx V := (keepH _ main_v12 (by decide)).trans (VG_main_v12 V)
theorem VH_main_v28 (V : Valuation τ sig (Elt F)) : VH V (Proc.devRef .tc main_v28) = rGrp V := (keepH _ main_v28 (by decide)).trans (VG_main_v28 V)
theorem VH_main_v30 (V : Valuation τ sig (Elt F)) : VH V (Proc.devRef .tc main_v30) = rPgsel V := (keepH _ main_v30 (by decide)).trans (VG_main_v30 V)
theorem VH_main_v48 (V : Valuation τ sig (Elt F)) : VH V (Proc.devRef .tc main_v48) = rSoft V := by
  refine (val_softOf _).trans ?_
  rw [VG_main_v37]
theorem VI_main_arg0 (V : Valuation τ sig (Elt F)) : VI V (Proc.devRef .tc main_arg0) = V (Proc.devRef .tc main_arg0) := (keepI _ main_arg0 (by decide)).trans (VH_main_arg0 V)
theorem VI_main_arg1 (V : Valuation τ sig (Elt F)) : VI V (Proc.devRef .tc main_arg1) = V (Proc.devRef .tc main_arg1) := (keepI _ main_arg1 (by decide)).trans (VH_main_arg1 V)
theorem VI_main_arg2 (V : Valuation τ sig (Elt F)) : VI V (Proc.devRef .tc main_arg2) = V (Proc.devRef .tc main_arg2) := (keepI _ main_arg2 (by decide)).trans (VH_main_arg2 V)
theorem VI_main_arg3 (V : Valuation τ sig (Elt F)) : VI V (Proc.devRef .tc main_arg3) = V (Proc.devRef .tc main_arg3) := (keepI _ main_arg3 (by decide)).trans (VH_main_arg3 V)
theorem VI_main_arg4 (V : Valuation τ sig (Elt F)) : VI V (Proc.devRef .tc main_arg4) = V (Proc.devRef .tc main_arg4) := (keepI _ main_arg4 (by decide)).trans (VH_main_arg4 V)
theorem VI_main_arg5 (V : Valuation τ sig (Elt F)) : VI V (Proc.devRef .tc main_arg5) = V (Proc.devRef .tc main_arg5) := (keepI _ main_arg5 (by decide)).trans (VH_main_arg5 V)
theorem VI_main_arg6 (V : Valuation τ sig (Elt F)) : VI V (Proc.devRef .tc main_arg6) = V (Proc.devRef .tc main_arg6) := (keepI _ main_arg6 (by decide)).trans (VH_main_arg6 V)
theorem VI_main_arg7 (V : Valuation τ sig (Elt F)) : VI V (Proc.devRef .tc main_arg7) = V (Proc.devRef .tc main_arg7) := (keepI _ main_arg7 (by decide)).trans (VH_main_arg7 V)
theorem VI_main_arg8 (V : Valuation τ sig (Elt F)) : VI V (Proc.devRef .tc main_arg8) = V (Proc.devRef .tc main_arg8) := (keepI _ main_arg8 (by decide)).trans (VH_main_arg8 V)
theorem VI_main_v12 (V : Valuation τ sig (Elt F)) : VI V (Proc.devRef .tc main_v12) = rHx V := (keepI _ main_v12 (by decide)).trans (VH_main_v12 V)
theorem VI_main_v28 (V : Valuation τ sig (Elt F)) : VI V (Proc.devRef .tc main_v28) = rGrp V := (keepI _ main_v28 (by decide)).trans (VH_main_v28 V)
theorem VI_main_v30 (V : Valuation τ sig (Elt F)) : VI V (Proc.devRef .tc main_v30) = rPgsel V := (keepI _ main_v30 (by decide)).trans (VH_main_v30 V)
theorem VI_main_values (V : Valuation τ sig (Elt F)) : VI V (Proc.devRef .tc main_values) = rTopv V := by
  refine (val_topvOf _).trans ?_
  rw [VH_main_v48]
theorem VI_main_indices (V : Valuation τ sig (Elt F)) : VI V (Proc.devRef .tc main_indices) = rTopi V := by
  refine (val_topiOf _).trans ?_
  rw [VH_main_v48]
theorem VJ_main_arg0 (V : Valuation τ sig (Elt F)) : VJ V (Proc.devRef .tc main_arg0) = V (Proc.devRef .tc main_arg0) := (keepJ _ main_arg0 (by decide)).trans (VI_main_arg0 V)
theorem VJ_main_arg1 (V : Valuation τ sig (Elt F)) : VJ V (Proc.devRef .tc main_arg1) = V (Proc.devRef .tc main_arg1) := (keepJ _ main_arg1 (by decide)).trans (VI_main_arg1 V)
theorem VJ_main_arg2 (V : Valuation τ sig (Elt F)) : VJ V (Proc.devRef .tc main_arg2) = V (Proc.devRef .tc main_arg2) := (keepJ _ main_arg2 (by decide)).trans (VI_main_arg2 V)
theorem VJ_main_arg3 (V : Valuation τ sig (Elt F)) : VJ V (Proc.devRef .tc main_arg3) = V (Proc.devRef .tc main_arg3) := (keepJ _ main_arg3 (by decide)).trans (VI_main_arg3 V)
theorem VJ_main_arg4 (V : Valuation τ sig (Elt F)) : VJ V (Proc.devRef .tc main_arg4) = V (Proc.devRef .tc main_arg4) := (keepJ _ main_arg4 (by decide)).trans (VI_main_arg4 V)
theorem VJ_main_arg5 (V : Valuation τ sig (Elt F)) : VJ V (Proc.devRef .tc main_arg5) = V (Proc.devRef .tc main_arg5) := (keepJ _ main_arg5 (by decide)).trans (VI_main_arg5 V)
theorem VJ_main_arg6 (V : Valuation τ sig (Elt F)) : VJ V (Proc.devRef .tc main_arg6) = V (Proc.devRef .tc main_arg6) := (keepJ _ main_arg6 (by decide)).trans (VI_main_arg6 V)
theorem VJ_main_arg7 (V : Valuation τ sig (Elt F)) : VJ V (Proc.devRef .tc main_arg7) = V (Proc.devRef .tc main_arg7) := (keepJ _ main_arg7 (by decide)).trans (VI_main_arg7 V)
theorem VJ_main_arg8 (V : Valuation τ sig (Elt F)) : VJ V (Proc.devRef .tc main_arg8) = V (Proc.devRef .tc main_arg8) := (keepJ _ main_arg8 (by decide)).trans (VI_main_arg8 V)
theorem VJ_main_v12 (V : Valuation τ sig (Elt F)) : VJ V (Proc.devRef .tc main_v12) = rHx V := (keepJ _ main_v12 (by decide)).trans (VI_main_v12 V)
theorem VJ_main_v28 (V : Valuation τ sig (Elt F)) : VJ V (Proc.devRef .tc main_v28) = rGrp V := (keepJ _ main_v28 (by decide)).trans (VI_main_v28 V)
theorem VJ_main_v30 (V : Valuation τ sig (Elt F)) : VJ V (Proc.devRef .tc main_v30) = rPgsel V := (keepJ _ main_v30 (by decide)).trans (VI_main_v30 V)
theorem VJ_main_indices (V : Valuation τ sig (Elt F)) : VJ V (Proc.devRef .tc main_indices) = rTopi V := (keepJ _ main_indices (by decide)).trans (VI_main_indices V)
theorem VJ_main_v52 (V : Valuation τ sig (Elt F)) : VJ V (Proc.devRef .tc main_v52) = rTopn V := by
  refine (val_topnOf _).trans ?_
  rw [VI_main_values]
theorem VK_main_arg0 (V : Valuation τ sig (Elt F)) : VK V (Proc.devRef .tc main_arg0) = V (Proc.devRef .tc main_arg0) := (keepK _ main_arg0 (by decide)).trans (VJ_main_arg0 V)
theorem VK_main_arg1 (V : Valuation τ sig (Elt F)) : VK V (Proc.devRef .tc main_arg1) = V (Proc.devRef .tc main_arg1) := (keepK _ main_arg1 (by decide)).trans (VJ_main_arg1 V)
theorem VK_main_arg2 (V : Valuation τ sig (Elt F)) : VK V (Proc.devRef .tc main_arg2) = V (Proc.devRef .tc main_arg2) := (keepK _ main_arg2 (by decide)).trans (VJ_main_arg2 V)
theorem VK_main_arg3 (V : Valuation τ sig (Elt F)) : VK V (Proc.devRef .tc main_arg3) = V (Proc.devRef .tc main_arg3) := (keepK _ main_arg3 (by decide)).trans (VJ_main_arg3 V)
theorem VK_main_arg4 (V : Valuation τ sig (Elt F)) : VK V (Proc.devRef .tc main_arg4) = V (Proc.devRef .tc main_arg4) := (keepK _ main_arg4 (by decide)).trans (VJ_main_arg4 V)
theorem VK_main_arg5 (V : Valuation τ sig (Elt F)) : VK V (Proc.devRef .tc main_arg5) = V (Proc.devRef .tc main_arg5) := (keepK _ main_arg5 (by decide)).trans (VJ_main_arg5 V)
theorem VK_main_arg6 (V : Valuation τ sig (Elt F)) : VK V (Proc.devRef .tc main_arg6) = V (Proc.devRef .tc main_arg6) := (keepK _ main_arg6 (by decide)).trans (VJ_main_arg6 V)
theorem VK_main_arg7 (V : Valuation τ sig (Elt F)) : VK V (Proc.devRef .tc main_arg7) = V (Proc.devRef .tc main_arg7) := (keepK _ main_arg7 (by decide)).trans (VJ_main_arg7 V)
theorem VK_main_arg8 (V : Valuation τ sig (Elt F)) : VK V (Proc.devRef .tc main_arg8) = V (Proc.devRef .tc main_arg8) := (keepK _ main_arg8 (by decide)).trans (VJ_main_arg8 V)
theorem VK_main_v12 (V : Valuation τ sig (Elt F)) : VK V (Proc.devRef .tc main_v12) = rHx V := (keepK _ main_v12 (by decide)).trans (VJ_main_v12 V)
theorem VK_main_v64 (V : Valuation τ sig (Elt F)) : VK V (Proc.devRef .tc main_v64) = rComb V := by
  refine (val_combOf _).trans ?_
  rw [VJ_main_v28, VJ_main_indices, VJ_main_v30, VJ_main_v52]
theorem VL_main_arg0 (V : Valuation τ sig (Elt F)) : VL V (Proc.devRef .tc main_arg0) = V (Proc.devRef .tc main_arg0) := (keepL _ main_arg0 (by decide)).trans (VK_main_arg0 V)
theorem VL_main_arg1 (V : Valuation τ sig (Elt F)) : VL V (Proc.devRef .tc main_arg1) = V (Proc.devRef .tc main_arg1) := (keepL _ main_arg1 (by decide)).trans (VK_main_arg1 V)
theorem VL_main_arg2 (V : Valuation τ sig (Elt F)) : VL V (Proc.devRef .tc main_arg2) = V (Proc.devRef .tc main_arg2) := (keepL _ main_arg2 (by decide)).trans (VK_main_arg2 V)
theorem VL_main_arg3 (V : Valuation τ sig (Elt F)) : VL V (Proc.devRef .tc main_arg3) = V (Proc.devRef .tc main_arg3) := (keepL _ main_arg3 (by decide)).trans (VK_main_arg3 V)
theorem VL_main_arg4 (V : Valuation τ sig (Elt F)) : VL V (Proc.devRef .tc main_arg4) = V (Proc.devRef .tc main_arg4) := (keepL _ main_arg4 (by decide)).trans (VK_main_arg4 V)
theorem VL_main_arg5 (V : Valuation τ sig (Elt F)) : VL V (Proc.devRef .tc main_arg5) = V (Proc.devRef .tc main_arg5) := (keepL _ main_arg5 (by decide)).trans (VK_main_arg5 V)
theorem VL_main_arg6 (V : Valuation τ sig (Elt F)) : VL V (Proc.devRef .tc main_arg6) = V (Proc.devRef .tc main_arg6) := (keepL _ main_arg6 (by decide)).trans (VK_main_arg6 V)
theorem VL_main_arg7 (V : Valuation τ sig (Elt F)) : VL V (Proc.devRef .tc main_arg7) = V (Proc.devRef .tc main_arg7) := (keepL _ main_arg7 (by decide)).trans (VK_main_arg7 V)
theorem VL_main_arg8 (V : Valuation τ sig (Elt F)) : VL V (Proc.devRef .tc main_arg8) = V (Proc.devRef .tc main_arg8) := (keepL _ main_arg8 (by decide)).trans (VK_main_arg8 V)
theorem VL_main_v12 (V : Valuation τ sig (Elt F)) : VL V (Proc.devRef .tc main_v12) = rHx V := (keepL _ main_v12 (by decide)).trans (VK_main_v12 V)
theorem VL_main_v64 (V : Valuation τ sig (Elt F)) : VL V (Proc.devRef .tc main_v64) = rComb V := (keepL _ main_v64 (by decide)).trans (VK_main_v64 V)
theorem VL_main_v65 (V : Valuation τ sig (Elt F)) : VL V (Proc.devRef .tc main_v65) = rUp V := by
  refine (val_upOf _).trans ?_
  rw [VK_main_v12, VK_main_arg6]
theorem VM_main_arg0 (V : Valuation τ sig (Elt F)) : VM V (Proc.devRef .tc main_arg0) = V (Proc.devRef .tc main_arg0) := (keepM _ main_arg0 (by decide)).trans (VL_main_arg0 V)
theorem VM_main_arg1 (V : Valuation τ sig (Elt F)) : VM V (Proc.devRef .tc main_arg1) = V (Proc.devRef .tc main_arg1) := (keepM _ main_arg1 (by decide)).trans (VL_main_arg1 V)
theorem VM_main_arg2 (V : Valuation τ sig (Elt F)) : VM V (Proc.devRef .tc main_arg2) = V (Proc.devRef .tc main_arg2) := (keepM _ main_arg2 (by decide)).trans (VL_main_arg2 V)
theorem VM_main_arg3 (V : Valuation τ sig (Elt F)) : VM V (Proc.devRef .tc main_arg3) = V (Proc.devRef .tc main_arg3) := (keepM _ main_arg3 (by decide)).trans (VL_main_arg3 V)
theorem VM_main_arg4 (V : Valuation τ sig (Elt F)) : VM V (Proc.devRef .tc main_arg4) = V (Proc.devRef .tc main_arg4) := (keepM _ main_arg4 (by decide)).trans (VL_main_arg4 V)
theorem VM_main_arg5 (V : Valuation τ sig (Elt F)) : VM V (Proc.devRef .tc main_arg5) = V (Proc.devRef .tc main_arg5) := (keepM _ main_arg5 (by decide)).trans (VL_main_arg5 V)
theorem VM_main_arg6 (V : Valuation τ sig (Elt F)) : VM V (Proc.devRef .tc main_arg6) = V (Proc.devRef .tc main_arg6) := (keepM _ main_arg6 (by decide)).trans (VL_main_arg6 V)
theorem VM_main_arg7 (V : Valuation τ sig (Elt F)) : VM V (Proc.devRef .tc main_arg7) = V (Proc.devRef .tc main_arg7) := (keepM _ main_arg7 (by decide)).trans (VL_main_arg7 V)
theorem VM_main_arg8 (V : Valuation τ sig (Elt F)) : VM V (Proc.devRef .tc main_arg8) = V (Proc.devRef .tc main_arg8) := (keepM _ main_arg8 (by decide)).trans (VL_main_arg8 V)
theorem VM_main_v12 (V : Valuation τ sig (Elt F)) : VM V (Proc.devRef .tc main_v12) = rHx V := (keepM _ main_v12 (by decide)).trans (VL_main_v12 V)
theorem VM_main_v64 (V : Valuation τ sig (Elt F)) : VM V (Proc.devRef .tc main_v64) = rComb V := (keepM _ main_v64 (by decide)).trans (VL_main_v64 V)
theorem VM_main_v66 (V : Valuation τ sig (Elt F)) : VM V (Proc.devRef .tc main_v66) = rSilu V := by
  refine (val_siluOf _).trans ?_
  rw [VL_main_v65]
theorem VN_main_arg0 (V : Valuation τ sig (Elt F)) : VN V (Proc.devRef .tc main_arg0) = V (Proc.devRef .tc main_arg0) := (keepN _ main_arg0 (by decide)).trans (VM_main_arg0 V)
theorem VN_main_arg1 (V : Valuation τ sig (Elt F)) : VN V (Proc.devRef .tc main_arg1) = V (Proc.devRef .tc main_arg1) := (keepN _ main_arg1 (by decide)).trans (VM_main_arg1 V)
theorem VN_main_arg2 (V : Valuation τ sig (Elt F)) : VN V (Proc.devRef .tc main_arg2) = V (Proc.devRef .tc main_arg2) := (keepN _ main_arg2 (by decide)).trans (VM_main_arg2 V)
theorem VN_main_arg3 (V : Valuation τ sig (Elt F)) : VN V (Proc.devRef .tc main_arg3) = V (Proc.devRef .tc main_arg3) := (keepN _ main_arg3 (by decide)).trans (VM_main_arg3 V)
theorem VN_main_arg4 (V : Valuation τ sig (Elt F)) : VN V (Proc.devRef .tc main_arg4) = V (Proc.devRef .tc main_arg4) := (keepN _ main_arg4 (by decide)).trans (VM_main_arg4 V)
theorem VN_main_arg5 (V : Valuation τ sig (Elt F)) : VN V (Proc.devRef .tc main_arg5) = V (Proc.devRef .tc main_arg5) := (keepN _ main_arg5 (by decide)).trans (VM_main_arg5 V)
theorem VN_main_arg6 (V : Valuation τ sig (Elt F)) : VN V (Proc.devRef .tc main_arg6) = V (Proc.devRef .tc main_arg6) := (keepN _ main_arg6 (by decide)).trans (VM_main_arg6 V)
theorem VN_main_arg7 (V : Valuation τ sig (Elt F)) : VN V (Proc.devRef .tc main_arg7) = V (Proc.devRef .tc main_arg7) := (keepN _ main_arg7 (by decide)).trans (VM_main_arg7 V)
theorem VN_main_arg8 (V : Valuation τ sig (Elt F)) : VN V (Proc.devRef .tc main_arg8) = V (Proc.devRef .tc main_arg8) := (keepN _ main_arg8 (by decide)).trans (VM_main_arg8 V)
theorem VN_main_v73 (V : Valuation τ sig (Elt F)) : VN V (Proc.devRef .tc main_v73) = rOut V := by
  refine (val_outOf _).trans ?_
  rw [VM_main_arg0, VM_main_v12, VM_main_v64, VM_main_v66, VM_main_arg7, VM_main_arg8]
theorem after_ops (V : Valuation τ sig (Elt F)) : after ops V = VN V := by
  simp only [ops, after_append, VA, VB, VC, VD, VE, VF, VG, VH, VI, VJ, VK, VL, VM, VN]

set_option maxHeartbeats 4000000 in
/-- The reference program runs to the end, leaves in its result buffer the composition of the pieces applied to
its arguments' contents at launch, and leaves the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = rOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v73).trans ((congrFun (after_ops (launchContents m c)) (Proc.devRef .tc main_v73)).trans (VN_main_v73 (launchContents m c))),
      (h c main_arg0).trans ((congrFun (after_ops (launchContents m c)) (Proc.devRef .tc main_arg0)).trans (VN_main_arg0 (launchContents m c))),
      (h c main_arg1).trans ((congrFun (after_ops (launchContents m c)) (Proc.devRef .tc main_arg1)).trans (VN_main_arg1 (launchContents m c))),
      (h c main_arg2).trans ((congrFun (after_ops (launchContents m c)) (Proc.devRef .tc main_arg2)).trans (VN_main_arg2 (launchContents m c))),
      (h c main_arg3).trans ((congrFun (after_ops (launchContents m c)) (Proc.devRef .tc main_arg3)).trans (VN_main_arg3 (launchContents m c))),
      (h c main_arg4).trans ((congrFun (after_ops (launchContents m c)) (Proc.devRef .tc main_arg4)).trans (VN_main_arg4 (launchContents m c))),
      (h c main_arg5).trans ((congrFun (after_ops (launchContents m c)) (Proc.devRef .tc main_arg5)).trans (VN_main_arg5 (launchContents m c))),
      (h c main_arg6).trans ((congrFun (after_ops (launchContents m c)) (Proc.devRef .tc main_arg6)).trans (VN_main_arg6 (launchContents m c))),
      (h c main_arg7).trans ((congrFun (after_ops (launchContents m c)) (Proc.devRef .tc main_arg7)).trans (VN_main_arg7 (launchContents m c))),
      (h c main_arg8).trans ((congrFun (after_ops (launchContents m c)) (Proc.devRef .tc main_arg8)).trans (VN_main_arg8 (launchContents m c)))⟩)
    (run_seq scopedRefs_eq scopedSems_eq defs main (fun _ => ops) main_eq (fun _ => List.forall_iff_forall_mem.mpr ops_sub') m ρ fun _ => ops_fresh')

end Cert.ReferenceIdeal.Moe

end
-- ==== Proof.Routing.lean ====
module

public import Idealize.ShloMosaic.PureOps.Ideal.Laws
public import Idealize.ShloMosaic.Lib.SortPrefix
public import Mathlib.Algebra.BigOperators.Fin
public import Mathlib.Data.Finset.Fold

@[expose] public section

noncomputable section

namespace Cert.LayerMath

open Idealize.ShloMosaic

/-! ## The first greatest entry of a row -/

/-- `i` is the first index at which the row `v` is greatest. -/
def FirstMax {n : Nat} (v : Fin n → EReal) (i : Fin n) : Prop := ∀ j, v j ≤ v i ∧ (j < i → v j < v i)

/-- Every nonempty row has a first greatest entry. -/
theorem exists_firstMax {n : Nat} (v : Fin (n + 1) → EReal) : ∃ i, FirstMax v i := by
  classical
  obtain ⟨k, -, hk⟩ := Finset.exists_max_image Finset.univ v ⟨0, Finset.mem_univ _⟩
  have hne : (Finset.univ.filter fun i => v i = v k).Nonempty := ⟨k, by simp⟩
  refine ⟨(Finset.univ.filter fun i => v i = v k).min' hne, fun j => ?_⟩
  have hm : v ((Finset.univ.filter fun i => v i = v k).min' hne) = v k :=
    (Finset.mem_filter.mp (Finset.min'_mem _ hne)).2
  refine ⟨(hk j (Finset.mem_univ _)).trans hm.ge, fun hj => ?_⟩
  rw [hm]
  refine lt_of_le_of_ne (hk j (Finset.mem_univ _)) fun he => ?_
  exact absurd (Finset.min'_le _ j (by simp [he])) (not_le.mpr hj)

variable {n : Nat} {v : Fin n → EReal} {i : Fin n}

/-- The running maximum of a row is its first greatest entry. -/
theorem FirstMax.fold_max (h : FirstMax v i) (b : EReal) (hb : b ≤ v i) : Finset.univ.fold max b v = v i :=
  le_antisymm ((Finset.fold_max_le _).mpr ⟨hb, fun j _ => (h j).1⟩)
    ((Finset.le_fold_max _).mpr (.inr ⟨i, Finset.mem_univ _, le_rfl⟩))

/-- An entry equal to the greatest is not before the first. -/
theorem FirstMax.le_of_eq (h : FirstMax v i) {j : Fin n} (e : v j = v i) : i ≤ j :=
  not_lt.mp fun hj => absurd e (ne_of_lt ((h j).2 hj))

/-- The least number `g j` over the entries equal to the greatest (others counting as `B`) is that of the first. -/
theorem FirstMax.fold_min (h : FirstMax v i) (g : Fin n → EReal) (B t : EReal) (hg : ∀ j, i ≤ j → g i ≤ g j)
    (hB : g i ≤ B) (ht : g i ≤ t) : Finset.univ.fold min t (fun j => if v j = v i then g j else B) = g i := by
  refine le_antisymm ((Finset.fold_min_le _).mpr (.inr ⟨i, Finset.mem_univ _, by simp⟩))
    ((Finset.le_fold_min _).mpr ⟨ht, fun j _ => ?_⟩)
  split_ifs with e
  · exact hg j (h.le_of_eq e)
  · exact hB

/-- The first greatest entry is unique. -/
theorem FirstMax.unique (h : FirstMax v i) {j : Fin n} (h' : FirstMax v j) : i = j :=
  le_antisymm (h.le_of_eq (le_antisymm (h j).1 (h' i).1)) (h'.le_of_eq (le_antisymm (h' i).1 (h j).1))

/-- A row's entries laid one after another into a longer row, whose others are `⊥`, keep their first greatest entry,
if the entries are above `⊥`. -/
theorem FirstMax.spread {N : Nat} (h : FirstMax v i) (emb : Fin n → Fin N) (hemb : StrictMono emb) (w : Fin N → EReal)
    (hw : ∀ e, w (emb e) = v e) (hbot : ∀ l, (∀ e, emb e ≠ l) → w l = ⊥) (hv : v i ≠ ⊥) : FirstMax w (emb i) := by
  intro l
  by_cases hl : ∃ e, emb e = l
  · obtain ⟨e, rfl⟩ := hl
    rw [hw, hw]
    exact ⟨(h e).1, fun hlt => (h e).2 (hemb.lt_iff_lt.mp hlt)⟩
  · rw [hbot l fun e he => hl ⟨e, he⟩, hw]
    exact ⟨bot_le, fun _ => bot_lt_iff_ne_bot.mpr hv⟩

/-! ## The combination weights of a token -/

/-- The probability of the chosen group `g` among the four logits `c`. -/
def groupProb (c : Fin 4 → EReal) (g : Fin 4) : EReal := Ideal.div 1 (∑ x, Ideal.exp (c x - c g))

/-- The softmax denominator of the eight logits `f`, their greatest being entry `a`. -/
def expSum (f : Fin 8 → EReal) (a : Fin 8) : EReal := ∑ x, Ideal.exp (f x - f a)

/-- The probability of the greatest logit. -/
def prob1 (f : Fin 8 → EReal) (a : Fin 8) : EReal := Ideal.div 1 (expSum f a)

/-- The probability of logit `b`. -/
def prob2 (f : Fin 8 → EReal) (a b : Fin 8) : EReal := Ideal.div (Ideal.exp (f b - f a)) (expSum f a)

/-- Expert `e`'s weight, for a token whose group is `g` and whose two experts of that group are `a` and `b`. -/
def weight (c : Fin 4 → EReal) (f : Fin 4 → Fin 8 → EReal) (g : Fin 4) (a b : Fin 8) (e : Fin 32) : EReal :=
  (if e.val = 8 * g.val + a.val then
      groupProb c g * Ideal.div (prob1 (f g) a) (prob1 (f g) a + prob2 (f g) a b) else 0)
    + (if e.val = 8 * g.val + b.val then
      groupProb c g * Ideal.div (prob2 (f g) a b) (prob1 (f g) a + prob2 (f g) a b) else 0)

/-- The row with entry `a` taken out. -/
def without (f : Fin 8 → EReal) (a e : Fin 8) : EReal := if e = a then ⊥ else f e

/-- The second greatest entry differs from the first when every entry is above `⊥`. -/
theorem second_ne {f : Fin 8 → EReal} {a b : Fin 8} (hf : ∀ e, f e ≠ ⊥) (hb : FirstMax (without f a) b) : b ≠ a := by
  rintro rfl
  obtain ⟨e, he⟩ : ∃ e : Fin 8, e ≠ b := exists_ne b
  have := (hb e).1
  simp only [without, if_neg he, if_true] at this
  exact hf e (le_bot_iff.mp this)

/-! ## The first two of a stable sort -/

/-- A stable sort asks its comparator only of a later entry against an earlier one. -/
theorem stableSort_congr_later {ι : Type} (R R' : ι → ι → Bool) (l : List ι) (hl : l.Pairwise fun a b => R b a = R' b a) :
    stableSort R l = stableSort R' l := by
  induction l with
  | nil => rfl
  | cons a l ih =>
    rw [List.pairwise_cons] at hl
    unfold stableSort
    rw [ih hl.2]
    exact insertBefore_congr R R' a _ fun b hb => hl.1 b ((perm_stableSort R' l).mem_iff.mp hb)

/-- Sorting positions by "greater key first" puts the first greatest, `a`, first, and the first greatest of the others,
`b`, second. -/
theorem sorted_two {f s : Fin 8 → EReal} {a b : Fin 8} (ha : FirstMax f a) (hb : FirstMax (without f a) b)
    (hf : ∀ e, f e ≠ ⊥) (hs : ∀ e e', s e < s e' ↔ f e < f e') (R : Fin 8 → Fin 8 → Bool)
    (hR : ∀ e e', R e e' = decide (s e' < s e)) : sortedFrom R 0 = a ∧ sortedFrom R 1 = b := by
  have hne := second_ne hf hb
  let B : Fin 8 → Fin 8 → Bool := fun k k' => decide (f k' < f k) || (decide (f k = f k') && decide (k < k'))
  have hB : StrictTotalBefore B := StrictTotalBefore.of_key_then_position (fun x y => decide (y < x)) f
    (by simp) (fun x y z h h' => by simp only [decide_eq_true_eq] at *; exact h'.trans h)
    (fun x y => by simp only [decide_eq_true_eq]; rcases lt_trichotomy x y with h | h | h <;> simp [h])
  have hcongr : sortedFrom R = sortedFrom B := by
    have hp : sortPositions 8 R = sortPositions 8 B := stableSort_congr_later R B _ ?_
    · funext k
      unfold sortedFrom
      rw [List.get_of_eq hp]
      rfl
    refine (List.pairwise_lt_finRange 8).imp fun {x y} hxy => ?_
    rw [hR, show decide (s x < s y) = decide (f x < f y) from decide_eq_decide.mpr (hs x y)]
    simp [B, not_lt.mpr hxy.le]
  have hab : ∀ e, e ≠ a → B a e = true := by
    intro e he
    simp only [B, Bool.or_eq_true, Bool.and_eq_true, decide_eq_true_eq]
    rcases lt_or_eq_of_le (ha e).1 with h | h
    · exact .inl h
    · exact .inr ⟨h.symm, lt_of_le_of_ne (ha.le_of_eq h) he.symm⟩
  have hbe : ∀ e, e ≠ a → e ≠ b → B b e = true := by
    intro e he he'
    have h0 := hb e
    simp only [without, if_neg he, if_neg hne] at h0
    simp only [B, Bool.or_eq_true, Bool.and_eq_true, decide_eq_true_eq]
    rcases lt_or_eq_of_le h0.1 with h | h
    · exact .inl h
    · exact .inr ⟨h.symm, lt_of_le_of_ne (not_lt.mp fun hlt => absurd h (ne_of_lt (h0.2 hlt))) he'.symm⟩
  have key := hB.sortedFrom_eq_of_prefix (k := 2) (by norm_num) ![a, b]
    (by intro x y; fin_cases x <;> fin_cases y <;> simp [hne, hne.symm])
    (by
      intro x y hxy
      have : x = 0 ∧ y = 1 := by revert x y; decide
      obtain ⟨rfl, rfl⟩ := this
      exact hB.asymm _ _ (hab b hne))
    (by
      intro x p hp
      have h0 : a ≠ p := hp 0
      have h1 : b ≠ p := hp 1
      fin_cases x
      · exact hB.asymm _ _ (hab p h0.symm)
      · exact hB.asymm _ _ (hbe p h0.symm h1.symm))
  rw [hcongr]
  exact ⟨key 0, key 1⟩

/-! ## Finite rows -/

/-- A value that is neither infinity. -/
def Finite (x : EReal) : Prop := ∃ r : ℝ, x = r

theorem Finite.sub_self {x : EReal} (h : Finite x) : x - x = 0 := by
  obtain ⟨r, rfl⟩ := h
  rw [← EReal.coe_sub, _root_.sub_self, EReal.coe_zero]

theorem Finite.ne_bot {x : EReal} (h : Finite x) : x ≠ ⊥ := by
  obtain ⟨r, rfl⟩ := h; exact EReal.coe_ne_bot r

theorem Finite.add {x y : EReal} (h : Finite x) (h' : Finite y) : Finite (x + y) := by
  obtain ⟨r, rfl⟩ := h; obtain ⟨q, rfl⟩ := h'; exact ⟨r + q, (EReal.coe_add r q).symm⟩

theorem Finite.mul {x y : EReal} (h : Finite x) (h' : Finite y) : Finite (x * y) := by
  obtain ⟨r, rfl⟩ := h; obtain ⟨q, rfl⟩ := h'; exact ⟨r * q, (EReal.coe_mul r q).symm⟩

theorem Finite.sum {ι : Type} (s : Finset ι) (f : ι → EReal) (h : ∀ i, Finite (f i)) : Finite (∑ i ∈ s, f i) := by
  classical
  induction s using Finset.induction_on with
  | empty => exact ⟨0, by simp⟩
  | insert a s ha ih => rw [Finset.sum_insert ha]; exact (h a).add ih

/-- A value whose absolute value is below infinity is finite. -/
theorem Finite.of_abs_lt {x : EReal} (h : max x (-x) < ⊤) : Finite x := by
  induction x with
  | bot => simp at h
  | top => simp at h
  | coe r => exact ⟨r, rfl⟩

/-- The sum of finite values is the real sum. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The softmax of a finite row is ordered as the row is. -/
theorem softmax_lt (f : Fin 8 → EReal) (hf : ∀ e, Finite (f e)) (a e e' : Fin 8) :
    Ideal.div (Ideal.exp (f e - f a)) (expSum f a) < Ideal.div (Ideal.exp (f e' - f a)) (expSum f a) ↔ f e < f e' := by
  choose r hr using hf
  have hx : ∀ x, Ideal.exp (f x - f a) = ((Real.exp (r x - r a) : ℝ) : EReal) := fun x => by
    rw [hr, hr a, ← EReal.coe_sub, Ideal.exp_coe]
  have hs : expSum f a = ((∑ x, Real.exp (r x - r a) : ℝ) : EReal) := by
    rw [expSum, Finset.sum_congr rfl fun x _ => hx x]
    exact (coe_sum _ _).symm
  have hpos : 0 < ∑ x, Real.exp (r x - r a) := Finset.sum_pos (fun x _ => Real.exp_pos _) ⟨0, Finset.mem_univ _⟩
  rw [hs, hx, hx, Ideal.div_coe hpos.ne', Ideal.div_coe hpos.ne', ← EReal.coe_mul, ← EReal.coe_mul, EReal.coe_lt_coe_iff,
    mul_lt_mul_iff_left₀ (by positivity), Real.exp_lt_exp, hr e, hr e', EReal.coe_lt_coe_iff]
  constructor <;> intro h <;> linarith

end Cert.LayerMath

end
-- ==== Proof.MoeSpec.lean ====
/-
The mixture of experts as a function of one token's row: its routing, from logits of the normalised row, and its sum over
all experts at the routing's weights.
-/
module

public import proofs.«01_k».proof.Proof.Spec
public import proofs.«01_k».proof.Proof.Routing
public import Idealize.ShloMosaic.Lib.IdealHost

@[expose] public section

noncomputable section

namespace Cert.LayerMath

open Idealize.ShloMosaic

/-- The first greatest entry of a row. -/
def top {n : Nat} (v : Fin (n + 1) → EReal) : Fin (n + 1) := Classical.choose (exists_firstMax v)

theorem top_spec {n : Nat} (v : Fin (n + 1) → EReal) : FirstMax v (top v) := Classical.choose_spec (exists_firstMax v)

/-- The logit of group `x` from the normalised row `h`. -/
def coarse (h : Fin 1024 → EReal) (w : Fin 1024 → Fin 4 → EReal) (b : Fin 4 → EReal) (x : Fin 4) : EReal :=
  ∑ k, h k * w k x + b x

/-- The logit of expert `e` of group `x`. -/
def fine (h : Fin 1024 → EReal) (w : Fin 4 → Fin 1024 → Fin 8 → EReal) (b : Fin 4 → Fin 8 → EReal) (x : Fin 4) (e : Fin 8) : EReal :=
  ∑ k, h k * w x k e + b x e

/-- The weights of the 32 experts: those of the two greatest of the greatest group. -/
def routed (c : Fin 4 → EReal) (f : Fin 4 → Fin 8 → EReal) (e : Fin 32) : EReal :=
  weight c f (top c) (top (f (top c))) (top (without (f (top c)) (top (f (top c))))) e

/-- One row of the mixture of experts: the row and, for every hidden unit of every expert, its value times the expert's
weight times its row of the down-projection. -/
def moe (x g : Fin 1024 → EReal) (wrg : Fin 1024 → Fin 4 → EReal) (brg : Fin 4 → EReal) (wre : Fin 4 → Fin 1024 → Fin 8 → EReal)
    (bre : Fin 4 → Fin 8 → EReal) (w1 w3 : Fin 32 → Fin 1024 → Fin 128 → EReal) (w2 : Fin 32 → Fin 128 → Fin 1024 → EReal)
    (l : Fin 1024) : EReal :=
  x l + ∑ e : Fin 32, ∑ f : Fin 128,
    hidden (rms x g) (fun k => w1 e k f) (fun k => w3 e k f) * routed (coarse (rms x g) wrg brg) (fine (rms x g) wre bre) e * w2 e f l

/-! ## Finite logits -/

theorem lit1024 : Ideal.ofBits FTy.f32 1149239296#32 = ((1024 : ℝ) : EReal) := by
  simp [Ideal.ofBits, Ideal.ieee, -EReal.coe_mul]; norm_num

theorem litEps : ∃ r : ℝ, 0 < r ∧ Ideal.ofBits FTy.f32 897988541#32 = (r : EReal) := by
  refine ⟨8796093 / 2 ^ 43, by positivity, ?_⟩
  simp [Ideal.ofBits, Ideal.ieee, -EReal.coe_mul]; norm_num

/-- The norm of a finite row with finite gains is finite. -/
theorem rms_finite {x g : Fin 1024 → EReal} (hx : ∀ k, Finite (x k)) (hg : ∀ k, Finite (g k)) (k : Fin 1024) : Finite (rms x g k) := by
  refine ((hx k).mul ?_).mul (hg k)
  choose r hr using hx
  obtain ⟨ε, hε, he⟩ := litEps
  have hs : ∑ j, x j * x j = ((∑ j, r j * r j : ℝ) : EReal) := by
    rw [coe_sum]; exact Finset.sum_congr rfl fun j _ => by rw [hr, EReal.coe_mul]
  have h0 : 0 ≤ ∑ j, r j * r j := Finset.sum_nonneg fun j _ => mul_self_nonneg _
  rw [hs, lit1024, he, Ideal.div_coe (by norm_num : (1024 : ℝ) ≠ 0), ← EReal.coe_mul, ← EReal.coe_add, Ideal.rsqrt_coe]
  have hp : 0 < (∑ j, r j * r j) * (1 / 1024) + ε := by positivity
  rw [if_neg hp.not_gt, if_neg hp.ne']
  exact ⟨_, rfl⟩

theorem coarse_finite {h : Fin 1024 → EReal} {w : Fin 1024 → Fin 4 → EReal} {b : Fin 4 → EReal} (hh : ∀ k, Finite (h k))
    (hw : ∀ k x, Finite (w k x)) (hb : ∀ x, Finite (b x)) (x : Fin 4) : Finite (coarse h w b x) :=
  (Finite.sum _ _ fun k => (hh k).mul (hw k x)).add (hb x)

theorem fine_finite {h : Fin 1024 → EReal} {w : Fin 4 → Fin 1024 → Fin 8 → EReal} {b : Fin 4 → Fin 8 → EReal} (hh : ∀ k, Finite (h k))
    (hw : ∀ x k e, Finite (w x k e)) (hb : ∀ x e, Finite (b x e)) (x : Fin 4) (e : Fin 8) : Finite (fine h w b x e) :=
  (Finite.sum _ _ fun k => (hh k).mul (hw x k e)).add (hb x e)

end Cert.LayerMath

end
-- ==== Proof.MoeRefOps.lean ====
/-
The reference's indexed operations, read at an entry: the index of a row's greatest entry, the entry of a row at a given
index, and the two greatest entries of a row with their indices.
-/
module

public import proofs.«01_k».proof.Proof.RefRun
public import proofs.«01_k».proof.Proof.MoeSpec
public import Idealize.ShloMosaic.Lib.Pointwise
public import Idealize.ShloMosaic.Lib.IdealHost

@[expose] public section

set_option maxRecDepth 16384

noncomputable section

namespace Cert.ReferenceIdeal.Moe

open Cert.ReferenceIdeal Cert.ReferenceIdeal.Gen Idealize.ShloMosaic Idealize.ShloMosaic.TcCoe Idealize.SL.Sem

/-- A fold that meets an absorbing element ends at it. -/
theorem foldl_best {γ : Type} (f : γ → γ → γ) (S : γ → Prop) (best : γ) (hS : S best) (h1 : ∀ p, S p → f best p = best)
    (h2 : ∀ p, S p → f p best = best) (hc : ∀ p q, S p → S q → S (f p q)) :
    ∀ (L : List γ) (p : γ), S p → (∀ q ∈ L, S q) → (p = best ∨ best ∈ L) → L.foldl f p = best := by
  intro L
  induction L with
  | nil => intro p _ _ h; simpa using h
  | cons q L ih =>
    intro p hp hL h
    have hq : S q := hL q (by simp)
    refine ih (f p q) (hc p q hp hq) (fun x hx => hL x (by simp [hx])) ?_
    rcases h with rfl | h
    · exact .inl (h1 q hq)
    · rcases List.mem_cons.mp h with rfl | h
      · exact .inl (h2 p hp)
      · exact .inr h

/-- The reducer keeps the greater value, the smaller index between equal values. -/
theorem reducer_apply (p q : EReal × BitVec 32) : reducer_argmax_f32_i32 (F := Ideal) p q =
    (if q.1 < p.1 then p.1 else q.1, if q.1 < p.1 ∨ (p.1 = q.1 ∧ p.2.slt q.2) then p.2 else q.2) := by
  obtain ⟨a, i⟩ := p
  obtain ⟨b, j⟩ := q
  have h2 : FloatOps.cmpf (F := Ideal) (φ := .f32) .ogt a b = BitVec.ofBool (decide (b < a)) := rfl
  have h3 : FloatOps.cmpf (F := Ideal) (φ := .f32) .une a a = 0#1 := by
    show BitVec.ofBool (decide (a ≠ a)) = 0#1
    simp
  have h5 : FloatOps.cmpf (F := Ideal) (φ := .f32) .oeq a b = BitVec.ofBool (decide (a = b)) := rfl
  have h6 : IntOp.cmpi .slt i j = BitVec.ofBool (i.slt j) := rfl
  unfold reducer_argmax_f32_i32
  dsimp only
  rw [h2, h3, h5, h6]
  by_cases hlt : b < a <;> by_cases heq : a = b <;> by_cases hs : i.slt j <;>
    simp [hlt, heq, hs, Scalar.select, IntOp.ori, IntOp.andi]

/-- The reducer keeps one of its two pairs. -/
theorem reducer_either (p q : EReal × BitVec 32) :
    reducer_argmax_f32_i32 (F := Ideal) p q = p ∨ reducer_argmax_f32_i32 (F := Ideal) p q = q := by
  rw [reducer_apply]
  by_cases h : q.1 < p.1
  · exact .inl (by simp [h])
  · by_cases h' : p.1 = q.1 ∧ p.2.slt q.2 = true
    · exact .inl (by rw [if_neg h, if_pos (Or.inr h'), ← h'.1])
    · exact .inr (by rw [if_neg h, if_neg (not_or.mpr ⟨h, h'⟩)])

theorem slt_four (a b : Fin 4) : (BitVec.ofNat 32 a.val).slt (BitVec.ofNat 32 b.val) = decide (a < b) := by
  revert a b; decide

theorem litBot : Ideal.ofBits FTy.f32 4286578688#32 = ⊥ := by
  simp [Ideal.ofBits, Ideal.ieee]

/-- The chosen group of a row of finite coarse logits is its first greatest. -/
theorem grp_apply (v : FVec Ideal S16384x4 .f32) (R : Fin 16384) (g : Fin 4)
    (hg : LayerMath.FirstMax (fun x => v (ix2 R x)) g) (hv : v (ix2 R g) ≠ ⊥) : grpOf (F := Ideal) v (ix1 R) = BitVec.ofNat 32 g.val := by
  unfold grpOf
  dsimp only
  rw [Ideal.argReduce_eq_reduce2, Host.reduce2_eq_foldl_fiber]
  have hb : ∀ q ∈ Host.argReduceFiber v (iotaInDim S16384x4 32 1) reducesTo_S16384x4_S16384_d1 (ix1 R),
      ∃ x : Fin 4, q = (v (ix2 R x), BitVec.ofNat 32 x.val) := by
    intro q hq
    obtain ⟨n, hn, rfl⟩ := List.mem_map.mp hq
    have hd := of_decide_eq_true (List.mem_filter.mp hn).2
    generalize S16384x4.rowMajor.symm n = i at hd ⊢
    idx_vars i
    have h0 : i0 = R := Fin.ext (congrArg Fin.val (congrFun hd 0))
    exact ⟨i1, by rw [h0]; rfl⟩
  have hm : (v (ix2 R g), BitVec.ofNat 32 g.val) ∈ Host.argReduceFiber v (iotaInDim S16384x4 32 1) reducesTo_S16384x4_S16384_d1 (ix1 R) := by
    refine List.mem_map.mpr ⟨S16384x4.rowMajor (ix2 R g), List.mem_filter.mpr ⟨List.mem_finRange _, decide_eq_true ?_⟩, ?_⟩
    · rw [Equiv.symm_apply_apply]
      funext b
      match b with
      | ⟨0, _⟩ => rfl
    · rw [Equiv.symm_apply_apply]
      rfl
  rw [foldl_best (reducer_argmax_f32_i32 (F := Ideal))
    (fun p => p = ((⊥ : EReal), 0#32) ∨ ∃ x : Fin 4, p = (v (ix2 R x), BitVec.ofNat 32 x.val)) (v (ix2 R g), BitVec.ofNat 32 g.val)
    (.inr ⟨g, rfl⟩) ?_ ?_ ?_ _ _ (.inl ?_) (fun q hq => .inr (hb q hq)) (.inr hm)]
  · rintro p (rfl | ⟨x, rfl⟩)
    · rw [reducer_apply]; simp [bot_lt_iff_ne_bot.mpr hv]
    · rw [reducer_apply]
      rcases lt_or_eq_of_le (hg x).1 with h | h
      · simp only [if_pos h, if_pos (Or.inl h)]
      · rcases eq_or_lt_of_le (hg.le_of_eq h) with rfl | hlt
        · simp
        · have h' : v (ix2 R x) = v (ix2 R g) := h
          simp [h', slt_four, hlt]
  · rintro p (rfl | ⟨x, rfl⟩)
    · rw [reducer_apply]; simp [hv, Ne.symm hv]
    · rw [reducer_apply]
      have hle : ¬v (ix2 R g) < v (ix2 R x) := not_lt.mpr (hg x).1
      have hn : ¬(v (ix2 R x) = v (ix2 R g) ∧ (BitVec.ofNat 32 x.val).slt (BitVec.ofNat 32 g.val) = true) := by
        rintro ⟨h, hs⟩
        rw [slt_four, decide_eq_true_eq] at hs
        exact absurd (hg.le_of_eq h) (not_le.mpr hs)
      simp only [if_neg hle, if_neg (not_or.mpr ⟨hle, hn⟩)]
  · intro p q hp hq
    rcases reducer_either p q with h | h <;> rw [h] <;> assumption
  · exact Prod.ext litBot rfl

theorem gather_pg {α : Type} (x : S16384x4.Idx → α) (idx : IVec S16384x1x1 32) (R : Fin 16384) (g : Fin 4)
    (hg : idx (ix3 R 0 0) = BitVec.ofNat 32 g.val) :
    Host.gather gather_S16384x4_S16384x1x1_S16384x1_n_1_0_0_1_2_11 x idx (ix2 R 0) = x (ix2 R g) := by
  unfold Host.gather
  congr 1
  funext a
  refine Fin.ext ?_
  show GatherDims.start _ (ix2 R 0) idx a + GatherDims.batchCoord _ (ix2 R 0) a + GatherDims.offCoord _ (ix2 R 0) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ GatherDims.operandBatchingDims gather_S16384x4_S16384x1x1_S16384x1_n_1_0_0_1_2_11 from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S16384x4_S16384x1x1_S16384x1_n_1_0_0_1_2_11 from List.mem_singleton.mpr rfl)]
    have hsi : ∀ c, GatherDims.siIdx gather_S16384x4_S16384x1x1_S16384x1_n_1_0_0_1_2_11 (ix2 R 0) c = ix3 R 0 0 := by
      intro c
      funext b; refine Fin.ext ?_
      match b with
      | ⟨0, _⟩ => rfl
      | ⟨1, _⟩ => rfl
      | ⟨2, _⟩ => exact Nat.lt_one_iff.mp c.isLt
    rw [hsi, hg]
    exact (by decide : ∀ g : Fin 4, min (BitVec.ofNat 32 g.val).toInt.toNat (4 - 1) = g.val) g

theorem gather_fine {α : Type} (x : S16384x4x8.Idx → α) (idx : IVec S16384x1x1 32) (R : Fin 16384) (g : Fin 4) (e : Fin 8)
    (hg : idx (ix3 R 0 0) = BitVec.ofNat 32 g.val) :
    Host.gather gather_S16384x4x8_S16384x1x1_S16384x1x8_2_1_0_0_1_2_118 x idx (ix3 R 0 e) = x (ix3 R g e) := by
  unfold Host.gather
  congr 1
  funext a
  refine Fin.ext ?_
  show GatherDims.start _ (ix3 R 0 e) idx a + GatherDims.batchCoord _ (ix3 R 0 e) a + GatherDims.offCoord _ (ix3 R 0 e) a = _
  have h01 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ GatherDims.operandBatchingDims gather_S16384x4x8_S16384x1x1_S16384x1x8_2_1_0_0_1_2_118 from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap gather_S16384x4x8_S16384x1x1_S16384x1x8_2_1_0_0_1_2_118 from List.mem_singleton.mpr rfl)]
    have hsi : ∀ c, GatherDims.siIdx gather_S16384x4x8_S16384x1x1_S16384x1x8_2_1_0_0_1_2_118 (ix3 R 0 e) c = ix3 R 0 0 := by
      intro c
      funext b; refine Fin.ext ?_
      match b with
      | ⟨0, _⟩ => rfl
      | ⟨1, _⟩ => rfl
      | ⟨2, _⟩ => exact Nat.lt_one_iff.mp c.isLt
    rw [hsi, hg]
    exact (by decide : ∀ g : Fin 4, min (BitVec.ofNat 32 g.val).toInt.toNat (4 - 1) = g.val) g
  · rw [GatherDims.batchCoord_eq_zero _ _ _ (fun h => absurd (List.mem_singleton.mp h) (by decide))]
    unfold GatherDims.start
    rw [dif_neg (show ¬(2 : Fin 3) ∈ GatherDims.startIndexMap gather_S16384x4x8_S16384x1x1_S16384x1x8_2_1_0_0_1_2_118 from fun h => absurd (List.mem_singleton.mp h) (by decide))]
    unfold GatherDims.offCoord
    rw [dif_pos (show (2 : Fin 3) ∈ GatherDims.sKept gather_S16384x4x8_S16384x1x1_S16384x1x8_2_1_0_0_1_2_118 from (GatherDims.mem_sKept _ _).mpr ⟨fun h => absurd (List.mem_singleton.mp h) (by decide), fun h => absurd (List.mem_singleton.mp h) (by decide)⟩)]
    simp only [Nat.zero_add]
    rfl

/-- The two greatest of eight, and where they are, of scores ordered as the finite logits `f` are. -/
theorem top_apply (v : FVec Ideal S16384x8 .f32) (R : Fin 16384) {f : Fin 8 → EReal} {a b : Fin 8} (ha : LayerMath.FirstMax f a)
    (hb : LayerMath.FirstMax (LayerMath.without f a) b) (hf : ∀ e, f e ≠ ⊥)
    (hs : ∀ e e', v (ix2 R e) < v (ix2 R e') ↔ f e < f e') :
    (topvOf (F := Ideal) v (ix2 R 0) = v (ix2 R a) ∧ topvOf (F := Ideal) v (ix2 R 1) = v (ix2 R b))
      ∧ topiOf (F := Ideal) v (ix2 R 0) = BitVec.ofNat 32 a.val ∧ topiOf (F := Ideal) v (ix2 R 1) = BitVec.ofNat 32 b.val := by
  obtain ⟨h0, h1⟩ := LayerMath.sorted_two (s := fun e => v (ix2 R e)) ha hb hf hs
    (fun k k' => FloatOps.cmpfTotal (F := Ideal) (φ := .f32) CmpDirection.gt (v (ix2 R k)) (v (ix2 R k')) == 1#1) (fun e e' => by
      show (BitVec.ofBool (decide (v (ix2 R e') < v (ix2 R e))) == 1#1) = _
      by_cases h : v (ix2 R e') < v (ix2 R e) <;> simp [h])
  have hal : ∀ (l k : Fin 8), Shape.Idx.along (s := S16384x8) (ix2 R l) (1 : Fin 2) k = ix2 R k := fun l k => by
    funext b
    match b with
    | ⟨0, _⟩ => rfl
    | ⟨1, _⟩ => rfl
  have hc : ∀ q : Fin 8, (fun k k' => FloatOps.cmpfTotal (F := Ideal) (φ := .f32) CmpDirection.gt (v ((ix2 R q).along (s := S16384x8) (1 : Fin 2) k)) (v ((ix2 R q).along (s := S16384x8) (1 : Fin 2) k')) == 1#1) = (fun k k' => FloatOps.cmpfTotal (F := Ideal) (φ := .f32) CmpDirection.gt (v (ix2 R k)) (v (ix2 R k')) == 1#1) := fun q =>
    funext fun k => funext fun k' => congrArg₂ (fun p q => FloatOps.cmpfTotal (F := Ideal) (φ := .f32) CmpDirection.gt (v p) (v q) == 1#1)
      (hal _ k) (hal _ k')
  have hv : ∀ l : Fin 2, topvOf (F := Ideal) v (ix2 R l) = v (ix2 R (sortedFrom (fun k k' => FloatOps.cmpfTotal (F := Ideal) (φ := .f32) CmpDirection.gt (v (ix2 R k)) (v (ix2 R k')) == 1#1) ⟨l.val, by omega⟩)) := by
    intro l
    unfold topvOf Host.topK; dsimp only
    refine (extractStridedSlice_apply _ _ _ _ (ix2 R (⟨l.val, by omega⟩ : Fin 8)) ?_).trans ?_
    · intro x
      match x with
      | ⟨0, _⟩ => exact (Nat.zero_add _).symm
      | ⟨1, _⟩ => exact (Nat.zero_add _).symm
    · unfold Host.sort2
      dsimp only
      rw [dif_pos (by decide)]
      exact (congrArg v (hal _ _)).trans (congrArg (fun c => v (ix2 R (sortedFrom c (⟨l.val, by omega⟩ : Fin 8)))) (hc _))
  have hi : ∀ l : Fin 2, topiOf (F := Ideal) v (ix2 R l) = BitVec.ofNat 32 (sortedFrom (fun k k' => FloatOps.cmpfTotal (F := Ideal) (φ := .f32) CmpDirection.gt (v (ix2 R k)) (v (ix2 R k')) == 1#1) ⟨l.val, by omega⟩).val := by
    intro l
    unfold topiOf Host.topK; dsimp only
    refine (extractStridedSlice_apply _ _ _ _ (ix2 R (⟨l.val, by omega⟩ : Fin 8)) ?_).trans ?_
    · intro x
      match x with
      | ⟨0, _⟩ => exact (Nat.zero_add _).symm
      | ⟨1, _⟩ => exact (Nat.zero_add _).symm
    · unfold Host.sort2
      dsimp only
      rw [dif_pos (by decide)]
      refine (congrArg (fun i : S16384x8.Idx => if hd : 1 < S16384x8.rank then iotaInDim S16384x8 32 ⟨1, hd⟩ i else 0#32) (hal _ _)).trans ?_
      exact congrArg (fun c => BitVec.ofNat 32 (sortedFrom c (⟨l.val, by omega⟩ : Fin 8)).val) (hc _)
  refine ⟨⟨?_, ?_⟩, ?_, ?_⟩
  · rw [hv, ← h0]; rfl
  · rw [hv, ← h1]; rfl
  · rw [hi, ← h0]; rfl
  · rw [hi, ← h1]; rfl

end Cert.ReferenceIdeal.Moe

end
-- ==== Proof.MoeBlocks.lean ====
module

public import proofs.«01_k».proof.Proof.Gen.KernelIdeal.Value
public import proofs.«01_k».proof.Proof.Spec
public import proofs.«01_k».proof.Proof.Routing
public import Idealize.ShloMosaic.Lib.Pointwise
public import Idealize.ShloMosaic.Lib.Pipeline.ValueKit

@[expose] public section

set_option maxRecDepth 16384

noncomputable section

namespace Cert.KernelIdeal.Moe

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, t.val % 8] := (by decide +kernel : ∀ t : Fin grid0.N, win0_4.index t = ![0, t.val % 8])
theorem idx5 : ∀ t : Fin cfg0.N, win0_5.index t = ![0, t.val % 8] := (by decide +kernel : ∀ t : Fin grid0.N, win0_5.index t = ![0, t.val % 8])
theorem idx6 : ∀ t : Fin cfg0.N, win0_6.index t = ![t.val % 8, 0] := (by decide +kernel : ∀ t : Fin grid0.N, win0_6.index t = ![t.val % 8, 0])
theorem idx7 : ∀ t : Fin cfg0.N, win0_7.index t = ![t.val / 8, 0] := (by decide +kernel : ∀ t : Fin grid0.N, win0_7.index t = ![t.val / 8, 0])

/-- Row `r` of point `t`'s block of tokens, in the whole array. -/
abbrev row (t : Fin cfg0.N) (r : Fin 512) : Fin 16384 := ⟨t.val / 8 * 512 + r.val, by have := t.isLt; have : cfg0.N = 256 := N_0; omega⟩

/-- Column `q` of point `t`'s block of hidden units, in the whole array. -/
abbrev col (t : Fin cfg0.N) (q : Fin 512) : Fin 4096 := ⟨t.val % 8 * 512 + q.val, by omega⟩

theorem V_main_v3 (c : Dev nD) : V m c main_v3 = concatenate S1024x128 1 [⟨S1024x32, shapeCast S1024x32 (transpose S1024x4x8 [1, 0, 2] (m ((c : Thread nD τ).loc main_arg4)) transposes_S4x1024x8_S1024x4x8_1_0_2) shapeCasts_S1024x4x8_S1024x32⟩, ⟨S1024x4, (m ((c : Thread nD τ).loc main_arg2))⟩, ⟨S1024x92, (broadcastInDim S1024x92 ![] bcast_S_S1024x92 (constant (F := Ideal) S_ .f32 0x00000000#32))⟩] concatenates_S1024x32_S1024x4_S1024x92_S1024x128_d1 := by
  show StableHlo.after hostOps0 _ (Proc.devRef .tc main_v3) = _
  after_results_simp
  rfl
theorem V_main_v7 (c : Dev nD) : V m c main_v7 = broadcastInDim S1x128 ![1] bcast_S128_S1x128_1 (concatenate S128 0 [⟨S32, shapeCast S32 (m ((c : Thread nD τ).loc main_arg5)) shapeCasts_S4x8_S32⟩, ⟨S4, (m ((c : Thread nD τ).loc main_arg3))⟩, ⟨S92, (broadcastInDim S92 ![] bcast_S_S92 (constant (F := Ideal) S_ .f32 0x00000000#32))⟩] concatenates_S32_S4_S92_S128_d0) := by
  show StableHlo.after hostOps0 _ (Proc.devRef .tc main_v7) = _
  after_results_simp
  rfl
theorem V_main_v8 (c : Dev nD) : V m c main_v8 = broadcastInDim S1x1024 ![1] bcast_S1024_S1x1024_1 (m ((c : Thread nD τ).loc main_arg1)) := by
  show StableHlo.after hostOps0 _ (Proc.devRef .tc main_v8) = _
  after_results_simp
theorem V_main_v11 (c : Dev nD) : @Eq (FVec Ideal S1024x4096 .bf16) (V m c main_v11) (truncf (F := Ideal) (φ := .f32) .bf16 (shapeCast S1024x4096 (transpose S1024x32x128 [1, 0, 2] (m ((c : Thread nD τ).loc main_arg6)) transposes_S32x1024x128_S1024x32x128_1_0_2) shapeCasts_S1024x32x128_S1024x4096) bitsLt_bf16_f32) := by
  show StableHlo.after hostOps0 _ (Proc.devRef .tc main_v11) = _
  after_results_simp
  rfl
theorem V_main_v14 (c : Dev nD) : @Eq (FVec Ideal S1024x4096 .bf16) (V m c main_v14) (truncf (F := Ideal) (φ := .f32) .bf16 (shapeCast S1024x4096 (transpose S1024x32x128 [1, 0, 2] (m ((c : Thread nD τ).loc main_arg7)) transposes_S32x1024x128_S1024x32x128_1_0_2) shapeCasts_S1024x32x128_S1024x4096) bitsLt_bf16_f32) := by
  show StableHlo.after hostOps0 _ (Proc.devRef .tc main_v14) = _
  after_results_simp
  rfl
theorem V_main_v16 (c : Dev nD) : @Eq (FVec Ideal S4096x1024 .bf16) (V m c main_v16) (truncf (F := Ideal) (φ := .f32) .bf16 (shapeCast S4096x1024 (m ((c : Thread nD τ).loc main_arg8)) shapeCasts_S32x128x1024_S4096x1024) bitsLt_bf16_f32) := by
  show StableHlo.after hostOps0 _ (Proc.devRef .tc main_v16) = _
  after_results_simp
  rfl

theorem blk0 (c : Dev nD) (t : Fin cfg0.N) (r : Fin 512) (k : Fin 1024) :
    iblk m c 0 t (ix2 r k) = m ((c : Thread nD τ).loc main_arg0) (ix2 (row t r) k) := by
  blk_simp [iblk]
  rw [V_main_arg0]
  exact congrArg _ (by blk_ext [idx0])
theorem blk1 (c : Dev nD) (t : Fin cfg0.N) (k : Fin 1024) :
    iblk m c 1 t (ix2 0 k) = m ((c : Thread nD τ).loc main_arg1) (ix1 k) := by
  blk_simp [iblk]
  rw [V_main_v8, show (win0_1.blk t).view.emb (ix2 0 k) = ix2 0 k by blk_ext [idx1]]
  pointwise []
theorem blk2 (c : Dev nD) (t : Fin cfg0.N) (k : Fin 1024) (l : Fin 128) :
    iblk m c 2 t (ix2 k l) = (if h : l.val < 32 then m ((c : Thread nD τ).loc main_arg4) (ix3 (⟨l.val / 8, by omega⟩ : Fin 4) k (⟨l.val % 8, by omega⟩ : Fin 8))
      else if h : l.val - 32 < 4 then m ((c : Thread nD τ).loc main_arg2) (ix2 k (⟨l.val - 32, h⟩ : Fin 4)) else 0 : EReal) := by
  blk_simp [iblk]
  rw [V_main_v3, show (win0_2.blk t).view.emb (ix2 k l) = ix2 k l by blk_ext [idx2]]
  pointwise []
theorem blk3 (c : Dev nD) (t : Fin cfg0.N) (l : Fin 128) :
    iblk m c 3 t (ix2 0 l) = (if h : l.val < 32 then m ((c : Thread nD τ).loc main_arg5) (ix2 (⟨l.val / 8, by omega⟩ : Fin 4) (⟨l.val % 8, by omega⟩ : Fin 8))
      else if h : l.val - 32 < 4 then m ((c : Thread nD τ).loc main_arg3) (ix1 (⟨l.val - 32, h⟩ : Fin 4)) else 0 : EReal) := by
  blk_simp [iblk]
  rw [V_main_v7, show (win0_3.blk t).view.emb (ix2 0 l) = ix2 0 l by blk_ext [idx3]]
  pointwise []
theorem blk4 (c : Dev nD) (t : Fin cfg0.N) (k : Fin 1024) (q : Fin 512) :
    iblk m c 4 t (ix2 k q) = m ((c : Thread nD τ).loc main_arg6) (ix3 (⟨(col t q).val / 128, by omega⟩ : Fin 32) k (⟨(col t q).val % 128, by omega⟩ : Fin 128)) := by
  blk_simp [iblk]
  rw [V_main_v11, show (win0_4.blk t).view.emb (ix2 k q) = ix2 k (col t q) by blk_ext [idx4]]
  pointwise []
theorem blk5 (c : Dev nD) (t : Fin cfg0.N) (k : Fin 1024) (q : Fin 512) :
    iblk m c 5 t (ix2 k q) = m ((c : Thread nD τ).loc main_arg7) (ix3 (⟨(col t q).val / 128, by omega⟩ : Fin 32) k (⟨(col t q).val % 128, by omega⟩ : Fin 128)) := by
  blk_simp [iblk]
  rw [V_main_v14, show (win0_5.blk t).view.emb (ix2 k q) = ix2 k (col t q) by blk_ext [idx5]]
  pointwise []
/-- The stacked down-projections laid out as one matrix, read at an entry. -/
theorem stack_apply (x : S32x128x1024.Idx → EReal) (q : Fin 4096) (k : Fin 1024) :
    truncf (F := Ideal) (φ := .f32) .bf16 (shapeCast S4096x1024 x shapeCasts_S32x128x1024_S4096x1024) bitsLt_bf16_f32 (ix2 q k)
      = x (ix3 (⟨q.val / 128, by omega⟩ : Fin 32) (⟨q.val % 128, by omega⟩ : Fin 128) k) := by
  pointwise []
theorem blk6 (c : Dev nD) (t : Fin cfg0.N) (q : Fin 512) (k : Fin 1024) :
    iblk m c 6 t (ix2 q k) = m ((c : Thread nD τ).loc main_arg8) (ix3 (⟨(col t q).val / 128, by omega⟩ : Fin 32) (⟨(col t q).val % 128, by omega⟩ : Fin 128) k) := by
  blk_simp [iblk]
  rw [V_main_v16, show (win0_6.blk t).view.emb (ix2 q k) = ix2 (col t q) k by blk_ext [idx6]]
  exact stack_apply _ _ _

end Cert.KernelIdeal.Moe

end
-- ==== Proof.MoeRow.lean ====
/-
The experts' kernel, one token at a time: its router's arithmetic read on a row of 128 logits, and that it is the
combination weights of the token.
-/
module

public import proofs.«01_k».proof.Proof.Gen.KernelIdeal.Skeleton
public import proofs.«01_k».proof.Proof.Spec
public import proofs.«01_k».proof.Proof.Routing
public import Idealize.ShloMosaic.Lib.Pointwise
public import Idealize.ShloMosaic.Lib.IdealHost

@[expose] public section

set_option maxRecDepth 16384

noncomputable section

namespace Cert.KernelIdeal.Moe

open Cert.KernelIdeal Cert.KernelIdeal.Gen Idealize.ShloMosaic Idealize.ShloMosaic.TcCoe Idealize.SL.Sem

/-! ## Literals -/

theorem lit32 : Ideal.ofBits FTy.f32 1107296256#32 = ((32 : ℝ) : EReal) := by
  simp [Ideal.ofBits, Ideal.ieee, -EReal.coe_mul]; norm_num
theorem lit128 : Ideal.ofBits FTy.f32 1124073472#32 = ((128 : ℝ) : EReal) := by
  simp [Ideal.ofBits, Ideal.ieee, -EReal.coe_mul]; norm_num
theorem litTop : Ideal.ofBits FTy.f32 2139095040#32 = ⊤ := by
  simp [Ideal.ofBits, Ideal.ieee]
theorem litBot : Ideal.ofBits FTy.f32 4286578688#32 = ⊥ := by
  simp [Ideal.ofBits, Ideal.ieee]
/-- The named mask is minus infinity. -/
theorem mask : Named.named (F := Ideal) κ "mask" (φ := .f32) 4048155338#32 = ⊥ :=
  IdealRules.named_const.ideal_named_scalar _ _ _ _ rfl

/-- The lane numbers. -/
abbrev lanes : IVec S512x128 32 := iota .tc S512x128 32 [1] iota_S512x128_d1_w32

/-- A lane as a number. -/
theorem lane_apply (r : Fin 512) (l : Fin 128) : k0_pay5 (F := Ideal) (ix2 r l) = ((l.val : ℝ) : EReal) := by
  pointwise [k0_pay5]
  show (((BitVec.ofNat 32 l.val).toInt : ℝ) : EReal) = _
  rw [show (BitVec.ofNat 32 l.val).toInt = (l.val : ℤ) from (by decide +kernel : ∀ l : Fin 128, (BitVec.ofNat 32 l.val).toInt = (l.val : ℤ)) l]
  simp

/-- A lane's group as a number. -/
theorem group_apply (r : Fin 512) (l : Fin 128) : k0_pay7 (F := Ideal) lanes 8#32 k0_pay6 (ix2 r l) = (((l.val / 8 : ℕ) : ℝ) : EReal) := by
  pointwise [k0_pay7, k0_pay6]
  exact congrArg (fun z : ℤ => ((z : ℝ) : EReal)) ((by decide +kernel : ∀ l : Fin 128, (Scalar.select
        (IntOp.andi
          (IntOp.cmpi CmpIPredicate.ne
            (IntOp.subi (BitVec.setWidth 32 (IntOp.cmpi CmpIPredicate.sgt (BitVec.ofNat 32 ↑l) 0#32))
              (BitVec.setWidth 32 (IntOp.cmpi CmpIPredicate.slt (BitVec.ofNat 32 ↑l) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 ↑l) 8#32) 0#32))
        (IntOp.subi (IntOp.divsi ArithUnit.vector (BitVec.ofNat 32 ↑l) 8#32) 1#32)
        (IntOp.divsi ArithUnit.vector (BitVec.ofNat 32 ↑l) 8#32)).toInt = ((l.val / 8 : ℕ) : ℤ)) l)

variable (v102 : FVec Ideal S512x128 .f32)

/-- The coarse logits, in lanes 32 to 35, the others masked. -/
theorem coarse_apply (r : Fin 512) (l : Fin 128) :
    k0_pay8 v102 lanes (ix2 r l) = if 32 ≤ l.val ∧ l.val < 36 then v102 (ix2 r l) else ⊥ := by
  pointwise [k0_pay8]
  rw [mask, show IntOp.andi (IntOp.cmpi CmpIPredicate.sge (BitVec.ofNat 32 ↑l) 32#32)
        (IntOp.cmpi CmpIPredicate.slt (BitVec.ofNat 32 ↑l) 36#32) = if 32 ≤ l.val ∧ l.val < 36 then 1#1 else 0#1 from
      (by decide +kernel : ∀ l : Fin 128, IntOp.andi (IntOp.cmpi CmpIPredicate.sge (BitVec.ofNat 32 ↑l) 32#32)
        (IntOp.cmpi CmpIPredicate.slt (BitVec.ofNat 32 ↑l) 36#32) = if 32 ≤ l.val ∧ l.val < 36 then 1#1 else 0#1) l]
  split_ifs <;> rfl

/-- The fine logits of the lanes of group `v146`, the others masked. -/
theorem fine_apply (v129 : FVec Ideal S512x128 .f32) (v146 : FVec Ideal S512x1 .f32) (r : Fin 512) (l : Fin 128) :
    k0_pay13 v102 lanes v129 v146 (ix2 r l) = if l.val < 32 ∧ v129 (ix2 r l) = v146 (ix2 r 0) then v102 (ix2 r l) else ⊥ := by
  pointwise [k0_pay13]
  rw [mask, show IntOp.cmpi CmpIPredicate.slt (BitVec.ofNat 32 ↑l) 32#32 = if l.val < 32 then 1#1 else 0#1 from
      (by decide +kernel : ∀ l : Fin 128, IntOp.cmpi CmpIPredicate.slt (BitVec.ofNat 32 ↑l) 32#32 = if l.val < 32 then 1#1 else 0#1) l]
  by_cases h : l.val < 32 <;> by_cases h' : v129 (ix2 r l) = v146 (ix2 r 0) <;> simp [h, h', Scalar.select, IntOp.andi]

/-- Lane `32 + x` holds the logit of group `x`. -/
def coarseLane (x : Fin 4) : Fin 128 := ⟨32 + x.val, by omega⟩
/-- Lane `8 g + e` holds the logit of expert `e` of group `g`. -/
def fineLane (g : Fin 4) (e : Fin 8) : Fin 128 := ⟨8 * g.val + e.val, by omega⟩

theorem coarseLane_mono : StrictMono coarseLane := fun x y h => by
  have : x.val < y.val := h
  exact Fin.mk_lt_mk.mpr (by omega)
theorem fineLane_mono (g : Fin 4) : StrictMono (fineLane g) := fun x y h => by
  have : x.val < y.val := h
  exact Fin.mk_lt_mk.mpr (by omega)

/-- A row of 128 logits: groups in lanes 32 to 35 and experts in lanes 0 to 31. -/
structure Row (v102 : FVec Ideal S512x128 .f32) (r : Fin 512) (c : Fin 4 → EReal) (f : Fin 4 → Fin 8 → EReal)
    (g : Fin 4) (a b : Fin 8) : Prop where
  coarse : ∀ x, v102 (ix2 r (coarseLane x)) = c x
  fine : ∀ x e, v102 (ix2 r (fineLane x e)) = f x e
  fin_c : ∀ x, LayerMath.Finite (c x)
  fin_f : ∀ x e, LayerMath.Finite (f x e)
  group : LayerMath.FirstMax c g
  first : LayerMath.FirstMax (f g) a
  second : LayerMath.FirstMax (LayerMath.without (f g) a) b

variable {v102} {r : Fin 512} {c : Fin 4 → EReal} {f : Fin 4 → Fin 8 → EReal} {g : Fin 4} {a b : Fin 8}

/-- A sum over the lanes of a term that is zero off an embedded part is the sum over the part. -/
theorem sum_lanes {n : Nat} (emb : Fin n → Fin 128) (he : Function.Injective emb) (w : Fin 128 → EReal) (v : Fin n → EReal)
    (hw : ∀ e, w (emb e) = v e) (h0 : ∀ l, (∀ e, emb e ≠ l) → w l = 0) : ∑ l, w l = ∑ e, v e :=
  (Fintype.sum_of_injective emb he v w (fun l hl => h0 l fun e h => hl ⟨e, h⟩) fun e => (hw e).symm).symm

theorem exp_bot_sub (x : EReal) : Ideal.exp (⊥ - x) = 0 := by
  rw [sub_eq_add_neg, EReal.bot_add, Ideal.exp_bot]

theorem Row.coarse_first (h : Row v102 r c f g a b) :
    LayerMath.FirstMax (fun l => k0_pay8 v102 lanes (ix2 r l)) (coarseLane g) := by
  refine h.group.spread coarseLane coarseLane_mono _ (fun e => ?_) (fun l hl => ?_) (h.fin_c g).ne_bot
  · rw [coarse_apply, if_pos ⟨by simp [coarseLane], by simp only [coarseLane]; omega⟩, h.coarse]
  · rw [coarse_apply, if_neg fun hh => hl ⟨l.val - 32, by omega⟩ (Fin.ext (by simp only [coarseLane]; omega))]

theorem Row.coarse_at (h : Row v102 r c f g a b) (x : Fin 4) : k0_pay8 v102 lanes (ix2 r (coarseLane x)) = c x := by
  rw [coarse_apply, if_pos ⟨by simp [coarseLane], by simp only [coarseLane]; omega⟩, h.coarse]

theorem Row.coarse_max (h : Row v102 r c f g a b) : k0_pay9 v102 lanes (ix2 r 0) = c g := by
  pointwise [k0_pay9]
  rw [litBot, h.coarse_first.fold_max ⊥ bot_le, h.coarse_at]

/-- The chosen group. -/
theorem Row.group_at (h : Row v102 r c f g a b) : k0_pay10 v102 lanes k0_pay5 (ix2 r 0) = ((g.val : ℝ) : EReal) := by
  pointwise [k0_pay10]
  rw [lit32, lit128, litTop]
  simp only [h.coarse_max, lane_apply]
  have hm := h.coarse_first
  have := hm.fold_min (fun l => ((l.val : ℝ) : EReal) - ((32 : ℝ) : EReal)) ((128 : ℝ) : EReal) ⊤
    (fun j hj => by
      rw [← EReal.coe_sub, ← EReal.coe_sub, EReal.coe_le_coe_iff]
      have : ((coarseLane g).val : ℝ) ≤ j.val := by exact_mod_cast hj
      linarith)
    (by rw [← EReal.coe_sub, EReal.coe_le_coe_iff]
        have : ((coarseLane g).val : ℝ) ≤ 128 := by exact_mod_cast (coarseLane g).isLt.le
        linarith)
    le_top
  rw [h.coarse_at] at this
  rw [this, ← EReal.coe_sub]
  simp [coarseLane]

/-- The group's softmax denominator. -/
theorem Row.group_sum (h : Row v102 r c f g a b) : k0_pay11 v102 lanes (ix2 r 0) = ∑ x, Ideal.exp (c x - c g) := by
  pointwise [k0_pay11]
  refine sum_lanes coarseLane coarseLane_mono.injective _ _ (fun e => ?_) fun l hl => ?_
  · rw [h.coarse_at, h.coarse_max]
  · rw [coarse_apply, if_neg fun hh => hl ⟨l.val - 32, by omega⟩ (Fin.ext (by simp only [coarseLane]; omega)), exp_bot_sub]

/-- The group's probability. -/
theorem Row.group_prob (h : Row v102 r c f g a b) :
    k0_pay12 (k0_pay11 v102 lanes) (Scalar.ofBits .f32 0x3F800000#32) (ix2 r 0) = LayerMath.groupProb c g := by
  pointwise [k0_pay12]
  rw [h.group_sum, LayerMath.groupProb]
  try rfl

/-- The lanes' groups. -/
abbrev groups : FVec Ideal S512x128 .f32 := k0_pay7 lanes 8#32 k0_pay6
/-- The chosen group of each row. -/
abbrev chosen (v102 : FVec Ideal S512x128 .f32) : FVec Ideal S512x1 .f32 := k0_pay10 v102 lanes k0_pay5

theorem Row.fine_at (h : Row v102 r c f g a b) (e : Fin 8) :
    k0_pay13 v102 lanes groups (chosen v102) (ix2 r (fineLane g e)) = f g e := by
  have hg : groups (ix2 r (fineLane g e)) = chosen v102 (ix2 r 0) := by
    rw [show chosen v102 (ix2 r 0) = _ from h.group_at, show groups (ix2 r (fineLane g e)) = _ from group_apply r _,
      show (fineLane g e).val / 8 = g.val by simp only [fineLane]; omega]
  rw [fine_apply, if_pos ⟨by simp only [fineLane]; omega, hg⟩, h.fine]

theorem Row.fine_off (h : Row v102 r c f g a b) (l : Fin 128) (hl : ∀ e, fineLane g e ≠ l) :
    k0_pay13 v102 lanes groups (chosen v102) (ix2 r l) = ⊥ := by
  rw [fine_apply, if_neg]
  rintro ⟨h1, h2⟩
  rw [show groups (ix2 r l) = _ from group_apply r l, show chosen v102 (ix2 r 0) = _ from h.group_at, EReal.coe_eq_coe_iff, Nat.cast_inj] at h2
  exact hl ⟨l.val % 8, by omega⟩ (Fin.ext (by simp only [fineLane]; omega))

theorem Row.fine_first (h : Row v102 r c f g a b) :
    LayerMath.FirstMax (fun l => k0_pay13 v102 lanes groups (chosen v102) (ix2 r l)) (fineLane g a) :=
  h.first.spread (fineLane g) (fineLane_mono g) _ h.fine_at h.fine_off (h.fin_f g a).ne_bot

theorem Row.fine_max (h : Row v102 r c f g a b) : k0_pay14 v102 lanes groups (chosen v102) (ix2 r 0) = f g a := by
  pointwise [k0_pay14]
  rw [litBot, h.fine_first.fold_max ⊥ bot_le, h.fine_at]

theorem Row.fine_sum (h : Row v102 r c f g a b) :
    k0_pay15 v102 lanes groups (chosen v102) (ix2 r 0) = LayerMath.expSum (f g) a := by
  pointwise [k0_pay15]
  refine sum_lanes (fineLane g) (fineLane_mono g).injective _ _ (fun e => ?_) fun l hl => ?_
  · rw [h.fine_at, h.fine_max]
  · rw [h.fine_off l hl, exp_bot_sub]

/-- The least lane number among the lanes that equal the greatest. -/
theorem fold_lane {w : Fin 128 → EReal} {i : Fin 128} (h : LayerMath.FirstMax w i) :
    Finset.univ.fold min ⊤ (fun l => if w l = w i then ((l.val : ℝ) : EReal) else ((128 : ℝ) : EReal)) = ((i.val : ℝ) : EReal) :=
  h.fold_min (fun l => ((l.val : ℝ) : EReal)) _ _ (fun j hj => by
      rw [EReal.coe_le_coe_iff]; exact_mod_cast hj)
    (by rw [EReal.coe_le_coe_iff]; exact_mod_cast i.isLt.le) le_top

/-- The first expert's lane. -/
theorem Row.first_at (h : Row v102 r c f g a b) :
    k0_pay16 v102 lanes k0_pay5 groups (chosen v102) (ix2 r 0) = (((fineLane g a).val : ℝ) : EReal) := by
  pointwise [k0_pay16]
  rw [lit128, litTop]
  simp only [h.fine_max, lane_apply]
  have := fold_lane h.fine_first
  rw [h.fine_at] at this
  exact this

theorem Row.rest_at (h : Row v102 r c f g a b) (l : Fin 128) :
    k0_pay17 v102 lanes k0_pay5 groups (chosen v102) (ix2 r l) =
      if l = fineLane g a then ⊥ else k0_pay13 v102 lanes groups (chosen v102) (ix2 r l) := by
  pointwise [k0_pay17]
  rw [mask, h.first_at, lane_apply]
  simp only [EReal.coe_eq_coe_iff, Nat.cast_inj, Fin.ext_iff]

theorem Row.second_finite (h : Row v102 r c f g a b) : LayerMath.without (f g) a b = f g b :=
  if_neg (LayerMath.second_ne (fun e => (h.fin_f g e).ne_bot) h.second)

theorem Row.rest_fine (h : Row v102 r c f g a b) (e : Fin 8) :
    k0_pay17 v102 lanes k0_pay5 groups (chosen v102) (ix2 r (fineLane g e)) = LayerMath.without (f g) a e := by
  rw [h.rest_at, h.fine_at, LayerMath.without]
  simp only [(fineLane_mono g).injective.eq_iff]

theorem Row.rest_first (h : Row v102 r c f g a b) :
    LayerMath.FirstMax (fun l => k0_pay17 v102 lanes k0_pay5 groups (chosen v102) (ix2 r l)) (fineLane g b) := by
  refine h.second.spread (fineLane g) (fineLane_mono g) _ h.rest_fine (fun l hl => ?_) ?_
  · rw [h.rest_at, h.fine_off l hl, ite_self]
  · rw [h.second_finite]; exact (h.fin_f g b).ne_bot

theorem Row.rest_max (h : Row v102 r c f g a b) :
    k0_pay18 v102 lanes k0_pay5 groups (chosen v102) (ix2 r 0) = f g b := by
  pointwise [k0_pay18]
  rw [litBot, h.rest_first.fold_max ⊥ bot_le, h.rest_fine, h.second_finite]

/-- The second expert's lane. -/
theorem Row.second_at (h : Row v102 r c f g a b) :
    k0_pay19 v102 lanes k0_pay5 groups (chosen v102) (ix2 r 0) = (((fineLane g b).val : ℝ) : EReal) := by
  pointwise [k0_pay19]
  rw [lit128, litTop]
  simp only [h.rest_max, lane_apply]
  have := fold_lane h.rest_first
  rw [h.rest_fine, h.second_finite] at this
  exact this

theorem Row.prob1_at (h : Row v102 r c f g a b) :
    k0_pay20 v102 lanes groups (chosen v102) (ix2 r 0) = LayerMath.prob1 (f g) a := by
  pointwise [k0_pay20]
  rw [h.fine_sum]; try rfl

theorem Row.prob2_at (h : Row v102 r c f g a b) :
    k0_pay21 v102 lanes k0_pay5 groups (chosen v102) (ix2 r 0) = LayerMath.prob2 (f g) a b := by
  pointwise [k0_pay21]
  rw [h.fine_sum, h.rest_max, h.fine_max]; try rfl

theorem Row.total_at (h : Row v102 r c f g a b) :
    k0_pay22 v102 lanes k0_pay5 groups (chosen v102) (ix2 r 0) = LayerMath.prob1 (f g) a + LayerMath.prob2 (f g) a b := by
  pointwise [k0_pay22]
  rw [h.prob1_at, h.prob2_at]

/-- The first expert's part of the weights. -/
theorem Row.first_part (h : Row v102 r c f g a b) (q : Ideal .f32)
    (hq : k0_pay12 (k0_pay11 v102 lanes) q (ix2 r 0) = LayerMath.groupProb c g) (e : Fin 32) :
    k0_pay23 v102 lanes k0_pay5 groups (chosen v102) (k0_pay11 v102 lanes) q (ix2 r ⟨e.val, by omega⟩) =
      if e.val = 8 * g.val + a.val then LayerMath.groupProb c g *
        Ideal.div (LayerMath.prob1 (f g) a) (LayerMath.prob1 (f g) a + LayerMath.prob2 (f g) a b) else 0 := by
  pointwise [k0_pay23]
  rw [hq, lane_apply, h.first_at, h.prob1_at, h.total_at]
  simp only [EReal.coe_eq_coe_iff, Nat.cast_inj, fineLane]

/-- The combination weights the router writes. -/
def combine (v102 : FVec Ideal S512x128 .f32) : FVec Ideal S512x128 .f32 :=
  k0_pay24 k0_pay5 (k0_pay12 (k0_pay11 v102 lanes) (Scalar.ofBits .f32 0x3F800000#32))
    (k0_pay19 v102 lanes k0_pay5 groups (chosen v102)) (k0_pay21 v102 lanes k0_pay5 groups (chosen v102))
    (k0_pay22 v102 lanes k0_pay5 groups (chosen v102))
    (k0_pay23 v102 lanes k0_pay5 groups (chosen v102) (k0_pay11 v102 lanes) (Scalar.ofBits .f32 0x3F800000#32))

/-- Lane `e`, for an expert `e`, is its weight. -/
theorem Row.combine_at (h : Row v102 r c f g a b) (e : Fin 32) :
    combine v102 (ix2 r ⟨e.val, by omega⟩) = LayerMath.weight c f g a b e := by
  have h12 := h.group_prob
  have h23 := h.first_part (Scalar.ofBits .f32 0x3F800000#32) h12 e
  unfold combine
  generalize k0_pay12 (k0_pay11 v102 lanes) (Scalar.ofBits .f32 0x3F800000#32) = p12 at h12 ⊢
  generalize k0_pay23 v102 lanes k0_pay5 groups (chosen v102) (k0_pay11 v102 lanes) (Scalar.ofBits .f32 0x3F800000#32) = p23 at h23 ⊢
  pointwise [k0_pay24]
  rw [h23, h12, lane_apply, h.second_at, h.prob2_at, h.total_at]
  simp only [EReal.coe_eq_coe_iff, Nat.cast_inj, fineLane, LayerMath.weight]

end Cert.KernelIdeal.Moe

end
-- ==== Proof.MoeState.lean ====
/-
The experts' kernel at one grid point: what its output block and its two scratch buffers hold after the point.
-/
module

public import proofs.«01_k».proof.Proof.Gen.KernelIdeal.Value
public import proofs.«01_k».proof.Proof.MoeBlocks
public import proofs.«01_k».proof.Proof.MoeRow
public import proofs.«01_k».proof.Proof.Spec
public import proofs.«01_k».proof.Proof.Routing
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Moe

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The router logits of a block of tokens. -/
abbrev logits (c : Dev nD) (t : Fin cfg0.N) : FVec Ideal S512x128 .f32 :=
  k0_pay4 (F := Ideal) (iblk m c 0 t) (iblk m c 1 t) (iblk m c 2 t) (iblk m c 3 t)

/-- One point's update of the output block `acc`, from the normalised tokens `hx` and the combination weights `w`. -/
def step (c : Dev nD) (t : Fin cfg0.N) (hx : FVec Ideal S512x1024 .bf16) (w : FVec Ideal S512x128 .f32)
    (acc : FVec Ideal S512x1024 .f32) : FVec Ideal S512x1024 .f32 :=
  k0_pay1 (F := Ideal) (BitVec.ofNat 32 (grid0.coords t 1)) (k0_pay25 hx (iblk m c 4 t) (iblk m c 5 t)) w lanes
    (k0_pay26 (grid0.coords t) w) (k0_pay27 (grid0.coords t) w) (Scalar.muli (BitVec.ofNat 32 (grid0.coords t 1)) 4#32)
    acc (iblk m c 6 t)

theorem hx_A (c : Dev nD) (t : Fin cfg0.N) (h0 : t.val % 8 = 0) :
    (outsAt0 m c t.val t.isLt).2.1 = k0_pay3 (F := Ideal) (iblk m c 0 t) (iblk m c 1 t) := by
  funext y
  rw [outsAt0_A m c t h0]; dsimp only; frame_out
  rfl

theorem comb_A (c : Dev nD) (t : Fin cfg0.N) (h0 : t.val % 8 = 0) :
    (outsAt0 m c t.val t.isLt).2.2 = combine (logits m c t) := by
  funext y
  rw [outsAt0_A m c t h0]; dsimp only; frame_out
  rfl

theorem out_A (c : Dev nD) (t : Fin cfg0.N) (h0 : t.val % 8 = 0) :
    (outsAt0 m c t.val t.isLt).1 = step m c t (k0_pay3 (F := Ideal) (iblk m c 0 t) (iblk m c 1 t)) (combine (logits m c t))
      (iblk m c 0 t) := by
  funext y
  rw [outsAt0_A m c t h0]; dsimp only; frame_out
  rfl

theorem hx_B (c : Dev nD) (t : Fin cfg0.N) (h0 : ¬t.val % 8 = 0) :
    (outsAt0 m c t.val t.isLt).2.1 = (outsAt0 m c (t.val - 1) (by omega)).2.1 := by
  rw [outsAt0_B m c t h0]; rfl

theorem comb_B (c : Dev nD) (t : Fin cfg0.N) (h0 : ¬t.val % 8 = 0) :
    (outsAt0 m c t.val t.isLt).2.2 = (outsAt0 m c (t.val - 1) (by omega)).2.2 := by
  rw [outsAt0_B m c t h0]; rfl

theorem out_B (c : Dev nD) (t : Fin cfg0.N) (h0 : ¬t.val % 8 = 0) :
    (outsAt0 m c t.val t.isLt).1 = step m c t (outsAt0 m c (t.val - 1) (by omega)).2.1
      (outsAt0 m c (t.val - 1) (by omega)).2.2 (outsAt0 m c (t.val - 1) (by omega)).1 := by
  funext y
  rw [outsAt0_B m c t h0]; dsimp only; frame_out
  rw [Idealize.ShloMosaic.read_unread_whole, Idealize.ShloMosaic.read_unread_whole]
  rfl

/-- The grid's second coordinate: which block of hidden columns. -/
theorem coord1 (t : Fin cfg0.N) : (grid0.coords t 1).val = t.val % 8 :=
  (by decide +kernel : ∀ t : Fin cfg0.N, (grid0.coords t 1).val = t.val % 8) t

/-- The sum over the lanes that picks lane `4 j + e` of a row. -/
theorem pick (w : Fin 128 → EReal) (j : Fin 8) (e : Fin 4) :
    ∑ x : Fin 128, Scalar.select (IntOp.cmpi CmpIPredicate.eq (BitVec.ofNat 32 x.val)
      (Scalar.addi (Scalar.muli (BitVec.ofNat 32 j.val) 4#32) (BitVec.ofNat 32 e.val))) (w x) 0 = w ⟨4 * j.val + e.val, by omega⟩ := by
  rw [Finset.sum_eq_single ⟨4 * j.val + e.val, by omega⟩]
  · rw [show IntOp.cmpi CmpIPredicate.eq (BitVec.ofNat 32 (4 * j.val + e.val))
      (Scalar.addi (Scalar.muli (BitVec.ofNat 32 j.val) 4#32) (BitVec.ofNat 32 e.val)) = 1#1 from
      (by decide +kernel : ∀ (j : Fin 8) (e : Fin 4), IntOp.cmpi CmpIPredicate.eq (BitVec.ofNat 32 (4 * j.val + e.val))
      (Scalar.addi (Scalar.muli (BitVec.ofNat 32 j.val) 4#32) (BitVec.ofNat 32 e.val)) = 1#1) j e]
    rfl
  · intro x _ hx
    rw [show IntOp.cmpi CmpIPredicate.eq (BitVec.ofNat 32 x.val)
      (Scalar.addi (Scalar.muli (BitVec.ofNat 32 j.val) 4#32) (BitVec.ofNat 32 e.val)) = 0#1 from
      (by decide +kernel : ∀ (x : Fin 128) (j : Fin 8) (e : Fin 4), x.val ≠ 4 * j.val + e.val → IntOp.cmpi CmpIPredicate.eq (BitVec.ofNat 32 x.val)
      (Scalar.addi (Scalar.muli (BitVec.ofNat 32 j.val) 4#32) (BitVec.ofNat 32 e.val)) = 0#1) x j e fun h => hx (Fin.ext h)]
    rfl
  · exact fun h => absurd (Finset.mem_univ _) h

variable (r : Fin 512) (l : Fin 1024)

theorem step_apply (c : Dev nD) (t : Fin cfg0.N) (hx : FVec Ideal S512x1024 .bf16) (w : FVec Ideal S512x128 .f32)
    (acc : FVec Ideal S512x1024 .f32) :
    step m c t hx w acc (ix2 r l) = acc (ix2 r l) + ∑ q : Fin 512,
      ((∑ k : Fin 1024, hx (ix2 r k) * iblk m c 4 t (ix2 k q)) * Ideal.logistic (∑ k : Fin 1024, hx (ix2 r k) * iblk m c 4 t (ix2 k q))
        * (∑ k : Fin 1024, hx (ix2 r k) * iblk m c 5 t (ix2 k q))) * w (ix2 r ⟨4 * (t.val % 8) + q.val / 128, by omega⟩)
        * iblk m c 6 t (ix2 q l) := by
  unfold step
  pointwise [k0_pay1, k0_pay25, k0_pay26, k0_pay27]
  refine congrArg (acc (ix2 r l) + ·) (Finset.sum_congr rfl fun q _ => congrArg (· * iblk m c 6 t (ix2 q l)) (congrArg (HMul.hMul _) ?_))
  rw [coord1]
  have hq := q.isLt
  have p0 := pick (fun x => w (ix2 r x)) ⟨t.val % 8, by omega⟩ 0
  have p1 := pick (fun x => w (ix2 r x)) ⟨t.val % 8, by omega⟩ 1
  have p2 := pick (fun x => w (ix2 r x)) ⟨t.val % 8, by omega⟩ 2
  have p3 := pick (fun x => w (ix2 r x)) ⟨t.val % 8, by omega⟩ 3
  split_ifs with h h' h''
  · exact p0.trans (congrArg (fun x => w (ix2 r x)) (Fin.ext (show 4 * (t.val % 8) + 0 = 4 * (t.val % 8) + q.val / 128 by omega)))
  · exact p1.trans (congrArg (fun x => w (ix2 r x)) (Fin.ext (show 4 * (t.val % 8) + 1 = 4 * (t.val % 8) + q.val / 128 by omega)))
  · exact p2.trans (congrArg (fun x => w (ix2 r x)) (Fin.ext (show 4 * (t.val % 8) + 2 = 4 * (t.val % 8) + q.val / 128 by omega)))
  · exact p3.trans (congrArg (fun x => w (ix2 r x)) (Fin.ext (show 4 * (t.val % 8) + 3 = 4 * (t.val % 8) + q.val / 128 by omega)))

/-! ## The points of one block of tokens -/

theorem norm_apply (c : Dev nD) (t : Fin cfg0.N) (k : Fin 1024) :
    k0_pay3 (F := Ideal) (iblk m c 0 t) (iblk m c 1 t) (ix2 r k) =
      LayerMath.rms (fun k => m ((c : Thread nD τ).loc main_arg0) (ix2 (row t r) k))
        (fun k => m ((c : Thread nD τ).loc main_arg1) (ix1 k)) k := by
  pointwise [k0_pay3, k0_pay2]
  simp only [blk0, blk1]
  rfl

/-- The tokens. -/
abbrev token (c : Dev nD) : S16384x1024.Idx → EReal := m ((c : Thread nD τ).loc main_arg0)

/-- Token `R`'s normalised entries. -/
abbrev normed (c : Dev nD) (R : Fin 16384) : Fin 1024 → EReal :=
  LayerMath.rms (fun k => m ((c : Thread nD τ).loc main_arg0) (ix2 R k)) (fun k => m ((c : Thread nD τ).loc main_arg1) (ix1 k))

/-- What hidden unit `f` of expert `e` adds to entry `l` of token `R`, with the combination weights `wt`. -/
def unit (c : Dev nD) (wt : Fin 16384 → Fin 32 → EReal) (R : Fin 16384) (l : Fin 1024) (e : Fin 32) (f : Fin 128) : EReal :=
  LayerMath.hidden (normed m c R) (fun k => m ((c : Thread nD τ).loc main_arg6) (ix3 e k f))
    (fun k => m ((c : Thread nD τ).loc main_arg7) (ix3 e k f)) * wt R e * m ((c : Thread nD τ).loc main_arg8) (ix3 e f l)

/-- The same by numbers, zero outside the ranges. -/
def unitN (c : Dev nD) (wt : Fin 16384 → Fin 32 → EReal) (R : Fin 16384) (l : Fin 1024) (e f : ℕ) : EReal :=
  if h : e < 32 ∧ f < 128 then unit m c wt R l ⟨e, h.1⟩ ⟨f, h.2⟩ else 0

theorem row_pred (t : Fin cfg0.N) (h0 : ¬t.val % 8 = 0) (r : Fin 512) (h : t.val - 1 < cfg0.N) :
    row ⟨t.val - 1, h⟩ r = row t r := Fin.ext (by show (t.val - 1) / 8 * 512 + r.val = t.val / 8 * 512 + r.val; omega)

variable (wt : Fin 16384 → Fin 32 → EReal)

/-- The normalised tokens are held in the first scratch. -/
theorem held_hx (c : Dev nD) : ∀ (n : ℕ) (h : n < cfg0.N) (r : Fin 512) (k : Fin 1024),
    (outsAt0 m c n h).2.1 (ix2 r k) = normed m c (row ⟨n, h⟩ r) k := by
  intro n
  induction n with
  | zero => intro h r k; rw [hx_A m c ⟨0, h⟩ rfl, norm_apply]
  | succ n ih =>
    intro h r k
    by_cases h0 : (n + 1) % 8 = 0
    · rw [hx_A m c ⟨n + 1, h⟩ h0, norm_apply]
    · rw [hx_B m c ⟨n + 1, h⟩ h0, ← row_pred ⟨n + 1, h⟩ h0 r (by show n < _; omega)]
      exact ih _ r k

/-- The combination weights are held in the second scratch. -/
theorem held_comb (c : Dev nD) (hw : ∀ (t : Fin cfg0.N) (r : Fin 512) (e : Fin 32),
      combine (logits m c t) (ix2 r ⟨e.val, by omega⟩) = wt (row t r) e) :
    ∀ (n : ℕ) (h : n < cfg0.N) (r : Fin 512) (e : Fin 32),
    (outsAt0 m c n h).2.2 (ix2 r ⟨e.val, by omega⟩) = wt (row ⟨n, h⟩ r) e := by
  intro n
  induction n with
  | zero => intro h r k; rw [comb_A m c ⟨0, h⟩ rfl, hw]
  | succ n ih =>
    intro h r k
    by_cases h0 : (n + 1) % 8 = 0
    · rw [comb_A m c ⟨n + 1, h⟩ h0, hw]
    · rw [comb_B m c ⟨n + 1, h⟩ h0, ← row_pred ⟨n + 1, h⟩ h0 r (by show n < _; omega)]
      exact ih _ r k

/-- One point adds its four experts' hidden units. -/
theorem step_units (c : Dev nD) (t : Fin cfg0.N) (hx : FVec Ideal S512x1024 .bf16) (w : FVec Ideal S512x128 .f32)
    (acc : FVec Ideal S512x1024 .f32) (hhx : ∀ k, hx (ix2 r k) = normed m c (row t r) k)
    (hw : ∀ e : Fin 32, w (ix2 r ⟨e.val, by omega⟩) = wt (row t r) e) :
    step m c t hx w acc (ix2 r l) = acc (ix2 r l) + ∑ q : Fin 512,
      unitN m c wt (row t r) l (4 * (t.val % 8) + q.val / 128) (q.val % 128) := by
  rw [step_apply]
  refine congrArg (acc (ix2 r l) + ·) (Finset.sum_congr rfl fun q _ => ?_)
  have hq := q.isLt
  have he : 4 * (t.val % 8) + q.val / 128 < 32 := by omega
  have hf : q.val % 128 < 128 := by omega
  have h1 : (col t q).val / 128 = 4 * (t.val % 8) + q.val / 128 := by show (t.val % 8 * 512 + q.val) / 128 = _; omega
  have h2 : (col t q).val % 128 = q.val % 128 := by show (t.val % 8 * 512 + q.val) % 128 = _; omega
  have e1 : (⟨(col t q).val / 128, by omega⟩ : Fin 32) = ⟨4 * (t.val % 8) + q.val / 128, he⟩ := Fin.ext h1
  have e2 : (⟨(col t q).val % 128, by omega⟩ : Fin 128) = ⟨q.val % 128, hf⟩ := Fin.ext h2
  rw [unitN, dif_pos ⟨he, hf⟩, unit, LayerMath.hidden, hw ⟨4 * (t.val % 8) + q.val / 128, he⟩]
  simp only [hhx, blk4, blk5, blk6, e1, e2]

/-- The output block after a point: the tokens and the hidden units of the blocks so far. -/
theorem held_out (c : Dev nD) (hw : ∀ (t : Fin cfg0.N) (r : Fin 512) (e : Fin 32),
      combine (logits m c t) (ix2 r ⟨e.val, by omega⟩) = wt (row t r) e) :
    ∀ (n : ℕ) (h : n < cfg0.N) (r : Fin 512) (l : Fin 1024),
    (outsAt0 m c n h).1 (ix2 r l) = token m c (ix2 (row ⟨n, h⟩ r) l)
      + ∑ j ∈ Finset.range (n % 8 + 1), ∑ q : Fin 512, unitN m c wt (row ⟨n, h⟩ r) l (4 * j + q.val / 128) (q.val % 128) := by
  have hA : ∀ (t : Fin cfg0.N), t.val % 8 = 0 → ∀ (r : Fin 512) (l : Fin 1024),
      (outsAt0 m c t.val t.isLt).1 (ix2 r l) = token m c (ix2 (row t r) l)
      + ∑ j ∈ Finset.range (t.val % 8 + 1), ∑ q : Fin 512, unitN m c wt (row t r) l (4 * j + q.val / 128) (q.val % 128) := by
    intro t h0 r l
    rw [out_A m c t h0, step_units m r l wt c t _ _ _ (fun k => norm_apply m r c t k) (hw t r), blk0, h0]
    simp
  intro n
  induction n with
  | zero => exact fun h r l => hA ⟨0, h⟩ rfl r l
  | succ n ih =>
    intro h r l
    by_cases h0 : (n + 1) % 8 = 0
    · exact hA ⟨n + 1, h⟩ h0 r l
    · have hn : n < cfg0.N := by omega
      have hr : row ⟨n, hn⟩ r = row ⟨n + 1, h⟩ r := row_pred ⟨n + 1, h⟩ h0 r hn
      have e := ih hn r l
      have := step_units m r l wt c ⟨n + 1, h⟩ (outsAt0 m c n hn).2.1 (outsAt0 m c n hn).2.2 (outsAt0 m c n hn).1
        (fun k => hr ▸ held_hx m c n hn r k) (fun e => hr ▸ held_comb m wt c hw n hn r e)
      rw [hr] at e
      rw [e, show n % 8 + 1 = (n + 1) % 8 by omega] at this
      rw [out_B m c ⟨n + 1, h⟩ h0, Finset.sum_range_succ, ← add_assoc]
      exact this

/-- The last point of a block of tokens leaves every expert's contribution. -/
theorem sum_units (u : ℕ → ℕ → EReal) :
    ∑ j ∈ Finset.range 8, ∑ q : Fin 512, u (4 * j + q.val / 128) (q.val % 128) = ∑ e : Fin 32, ∑ f : Fin 128, u e.val f.val := by
  have h1 : ∀ j, ∑ q : Fin 512, u (4 * j + q.val / 128) (q.val % 128) = ∑ a : Fin 4, ∑ f : Fin 128, u (4 * j + a.val) f.val := fun j =>
    Fin.sum_univ_mul_divmod 4 128 fun a f => u (4 * j + a) f
  simp only [h1]
  rw [Finset.sum_range]
  have := (Fin.sum_univ_mul_divmod 8 4 fun j a => ∑ f : Fin 128, u (4 * j + a) f.val).symm
  refine this.trans (Finset.sum_congr rfl fun e _ => ?_)
  rw [Nat.div_add_mod]

/-- THE ARRAY after the run: each token with its two experts' outputs added at their weights. -/
theorem final (c : Dev nD) (hw : ∀ (t : Fin cfg0.N) (r : Fin 512) (e : Fin 32),
      combine (logits m c t) (ix2 r ⟨e.val, by omega⟩) = wt (row t r) e) :
    (dats m 0 c).arrAt 7 cfg0.N = fun y : S16384x1024.Idx =>
      token m c y + ∑ e : Fin 32, ∑ f : Fin 128, unit m c wt (y 0) (y 1) e f := by
  refine (dats m 0 c).arrAt_eq_of_covers 7 _ (by decide +kernel) fun t hf y => ?_
  have h7 : t.val % 8 = 7 := (by decide +kernel : ∀ t : Fin cfg0.N, (cfg0.win 7).flush t = true → t.val % 8 = 7) t hf
  blk_simp
  rw [after0_7]
  idx_vars y
  rw [show ((View.whole main_v17).slice (win0_7.rect t)).emb (ix2 y0 y1) = ix2 (row t y0) y1 by blk_ext [idx7]]
  have := held_out m wt c hw t.val t.isLt y0 y1
  rw [h7, sum_units] at this
  refine this.trans ?_
  refine congrArg (_ + ·) (Finset.sum_congr rfl fun e _ => Finset.sum_congr rfl fun f _ => ?_)
  rw [unitN, dif_pos ⟨e.isLt, f.isLt⟩]
  rfl

end Cert.KernelIdeal.Moe

end
-- ==== Proof.MoeRouter.lean ====
/-
The experts' kernel on finite router arguments: its logits, its combination weights, and the array it leaves.
-/
module

public import proofs.«01_k».proof.Proof.MoeState
public import proofs.«01_k».proof.Proof.MoeSpec

@[expose] public section

set_option maxRecDepth 16384

noncomputable section

namespace Cert.KernelIdeal.Moe

open Cert.KernelIdeal Cert.KernelIdeal.Gen Idealize.ShloMosaic Idealize.ShloMosaic.TcCoe Idealize.SL.Sem
open Idealize.ShloMosaic.Pipeline (Dat)

/-- Entry `(R, l)` of the layer, of the nine arrays. -/
def G (x : S16384x1024.Idx → EReal) (g : S1024.Idx → EReal) (wrg : S1024x4.Idx → EReal) (brg : S4.Idx → EReal)
    (wre : S4x1024x8.Idx → EReal) (bre : S4x8.Idx → EReal) (w1 w3 : S32x1024x128.Idx → EReal) (w2 : S32x128x1024.Idx → EReal) :
    S16384x1024.Idx → EReal := fun y =>
  LayerMath.moe (fun k => x (ix2 (y 0) k)) (fun k => g (ix1 k)) (fun k x => wrg (ix2 k x)) (fun x => brg (ix1 x))
    (fun x k e => wre (ix3 x k e)) (fun x e => bre (ix2 x e)) (fun e k f => w1 (ix3 e k f)) (fun e k f => w3 (ix3 e k f))
    (fun e f l => w2 (ix3 e f l)) (y 1)

/-- The six arrays the routing reads are finite. -/
structure Fin6 (x : S16384x1024.Idx → EReal) (g : S1024.Idx → EReal) (wrg : S1024x4.Idx → EReal) (brg : S4.Idx → EReal)
    (wre : S4x1024x8.Idx → EReal) (bre : S4x8.Idx → EReal) : Prop where
  x : ∀ i, LayerMath.Finite (x i)
  g : ∀ i, LayerMath.Finite (g i)
  wrg : ∀ i, LayerMath.Finite (wrg i)
  brg : ∀ i, LayerMath.Finite (brg i)
  wre : ∀ i, LayerMath.Finite (wre i)
  bre : ∀ i, LayerMath.Finite (bre i)

variable (m : (ℓ : Loc nD τ sig) → Buf (Elt Ideal) ℓ) (ρ : Dev nD → PrngReg)

/-- The launch's router arguments are finite. -/
abbrev Fine (c : Dev nD) : Prop :=
  Fin6 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m} {c : Dev nD}

theorem normed_finite (h : Fine m c) (R : Fin 16384) (k : Fin 1024) : LayerMath.Finite (normed m c R k) :=
  LayerMath.rms_finite (fun _ => h.x _) (fun _ => h.g _) k

theorem weights_finite (h : Fine m c) (t : Fin cfg0.N) (k : Fin 1024) (l : Fin 128) : LayerMath.Finite (iblk m c 2 t (ix2 k l)) := by
  rw [blk2]
  split_ifs
  · exact h.wre _
  · exact h.wrg _
  · exact ⟨0, rfl⟩

/-- A logit of the kernel: the product with its column of weights, the terms for the roundings being zero. -/
theorem logits_apply (h : Fine m c) (t : Fin cfg0.N) (r : Fin 512) (l : Fin 128) :
    logits m c t (ix2 r l) = ∑ k, normed m c (row t r) k * iblk m c 2 t (ix2 k l) + iblk m c 3 t (ix2 0 l) := by
  have hn : ∀ k, k0_pay2 (F := Ideal) (iblk m c 0 t) (iblk m c 1 t) (ix2 r k) = normed m c (row t r) k := fun k => by
    refine Eq.trans ?_ (norm_apply m r c t k)
    pointwise [k0_pay3]
  unfold logits
  pointwise [k0_pay4]
  simp only [hn, (weights_finite h t _ l).sub_self, (normed_finite h (row t r) _).sub_self, mul_zero, zero_mul,
    Finset.sum_const_zero, add_zero]

/-- The row of logits of token `row t r`. -/
theorem row_logits (h : Fine m c) (t : Fin cfg0.N) (r : Fin 512) :
    let n := normed m c (row t r)
    let cc := LayerMath.coarse n (fun k x => m ((c : Thread nD τ).loc main_arg2) (ix2 k x)) (fun x => m ((c : Thread nD τ).loc main_arg3) (ix1 x))
    let ff := LayerMath.fine n (fun x k e => m ((c : Thread nD τ).loc main_arg4) (ix3 x k e)) (fun x e => m ((c : Thread nD τ).loc main_arg5) (ix2 x e))
    Row (logits m c t) r cc ff (LayerMath.top cc) (LayerMath.top (ff (LayerMath.top cc)))
      (LayerMath.top (LayerMath.without (ff (LayerMath.top cc)) (LayerMath.top (ff (LayerMath.top cc))))) := by
  intro n cc ff
  refine ⟨fun x => ?_, fun x e => ?_, LayerMath.coarse_finite (normed_finite h _) (fun _ _ => h.wrg _) (fun _ => h.brg _),
    LayerMath.fine_finite (normed_finite h _) (fun _ _ _ => h.wre _) (fun _ _ => h.bre _), LayerMath.top_spec _,
    LayerMath.top_spec _, LayerMath.top_spec _⟩
  · have h1 : ¬(coarseLane x).val < 32 := by simp [coarseLane]
    have h2 : (coarseLane x).val - 32 < 4 := by simp only [coarseLane]; omega
    have h3 : (⟨(coarseLane x).val - 32, h2⟩ : Fin 4) = x := Fin.ext (by simp [coarseLane])
    rw [logits_apply h, blk3]
    simp only [blk2, dif_neg h1, dif_pos h2, h3]
    rfl
  · have h1 : (fineLane x e).val < 32 := by simp only [fineLane]; omega
    have h2 : (⟨(fineLane x e).val / 8, by omega⟩ : Fin 4) = x := Fin.ext (by simp only [fineLane]; omega)
    have h3 : (⟨(fineLane x e).val % 8, by omega⟩ : Fin 8) = e := Fin.ext (by simp only [fineLane]; omega)
    rw [logits_apply h, blk3]
    simp only [blk2, dif_pos h1, h2, h3]
    rfl

/-- Token `R`'s weights. -/
def weights (m : (ℓ : Loc nD τ sig) → Buf (Elt Ideal) ℓ) (c : Dev nD) (R : Fin 16384) : Fin 32 → EReal :=
  LayerMath.routed
    (LayerMath.coarse (normed m c R) (fun k x => m ((c : Thread nD τ).loc main_arg2) (ix2 k x)) (fun x => m ((c : Thread nD τ).loc main_arg3) (ix1 x)))
    (LayerMath.fine (normed m c R) (fun x k e => m ((c : Thread nD τ).loc main_arg4) (ix3 x k e)) (fun x e => m ((c : Thread nD τ).loc main_arg5) (ix2 x e)))

/-- THE ARRAY the kernel leaves, on finite router arguments: the layer. -/
theorem final_G (h : Fine m c) :
    (dats m 0 c).arrAt 7 cfg0.N = G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  rw [final m (weights m c) c fun t r e => (row_logits h t r).combine_at e]
  funext y
  idx_vars y
  rfl

end Cert.KernelIdeal.Moe

end
-- ==== Proof.MoeRef.lean ====
/-
The reference's mixture of experts, stage by stage at a token's row: its result is the row of the layer the specification
states, when the router's arrays are finite.
-/
module

public import proofs.«01_k».proof.Proof.MoeRefOps
public import proofs.«01_k».proof.Proof.MoeRouter

@[expose] public section

set_option maxRecDepth 16384

noncomputable section

namespace Cert.ReferenceIdeal.Moe

open Cert.ReferenceIdeal Cert.ReferenceIdeal.Gen Idealize.ShloMosaic Idealize.ShloMosaic.TcCoe Idealize.SL.Sem

/-- The normalised row. -/
theorem hx_apply (x : FVec Ideal S16384x1024 .f32) (g : FVec Ideal S1024 .f32) (r : Fin 16384) (k : Fin 1024) :
    hxOf (F := Ideal) x g (ix2 r k) = LayerMath.rms (fun k => x (ix2 r k)) (fun k => g (ix1 k)) k := by
  pointwise [hxOf]
  rfl

/-- The groups' logits. -/
theorem coarse_apply (h : FVec Ideal S16384x1024 .f32) (w : FVec Ideal S1024x4 .f32) (b : FVec Ideal S4 .f32) (r : Fin 16384) (l : Fin 4) :
    coarseOf (F := Ideal) h w b (ix2 r l)
      = LayerMath.coarse (fun k => h (ix2 r k)) (fun k x => w (ix2 k x)) (fun x => b (ix1 x)) l := by
  pointwise [coarseOf]
  rfl

/-- The experts' logits, group by group. -/
theorem fine_apply (h : FVec Ideal S16384x1024 .f32) (w : FVec Ideal S4x1024x8 .f32) (b : FVec Ideal S4x8 .f32) (r : Fin 16384) (l : Fin 4)
    (k : Fin 8) : fineOf (F := Ideal) h w b (ix3 r l k)
      = LayerMath.fine (fun k => h (ix2 r k)) (fun x k e => w (ix3 x k e)) (fun x e => b (ix2 x e)) l k := by
  pointwise [fineOf]
  rfl

/-- The groups' probabilities, from their greatest logit. -/
theorem pg_apply (v : FVec Ideal S16384x4 .f32) (r : Fin 16384) {g : Fin 4} (hg : LayerMath.FirstMax (fun x => v (ix2 r x)) g)
    (hv : LayerMath.Finite (v (ix2 r g))) : pgOf (F := Ideal) v (ix2 r g) = LayerMath.groupProb (fun x => v (ix2 r x)) g := by
  pointwise [pgOf]
  have hm : max (Ideal.ofBits FTy.f32 4286578688#32) (Finset.univ.fold max (Ideal.ofBits FTy.f32 4286578688#32) fun x => v (ix2 r x))
      = v (ix2 r g) := by
    rw [litBot, hg.fold_max _ bot_le]
    exact max_eq_right bot_le
  rw [hm, hv.sub_self, show Ideal.exp (0 : EReal) = 1 by rw [← EReal.coe_zero, Ideal.exp_coe, Real.exp_zero]; rfl]
  rfl

/-- The eight experts' probabilities, from their greatest logit. -/
theorem soft_apply (v : FVec Ideal S16384x8 .f32) (r : Fin 16384) {a : Fin 8} (ha : LayerMath.FirstMax (fun x => v (ix2 r x)) a)
    (e : Fin 8) : softOf (F := Ideal) v (ix2 r e)
      = Ideal.div (Ideal.exp (v (ix2 r e) - v (ix2 r a))) (LayerMath.expSum (fun x => v (ix2 r x)) a) := by
  pointwise [softOf]
  have hm : max (Ideal.ofBits FTy.f32 4286578688#32) (Finset.univ.fold max (Ideal.ofBits FTy.f32 4286578688#32) fun x => v (ix2 r x))
      = v (ix2 r a) := by
    rw [litBot, ha.fold_max _ bot_le]
    exact max_eq_right bot_le
  rw [hm]
  rfl

/-- A group's index is not negative, so it is not shifted. -/
theorem wrapped (g : Fin 4) : Scalar.select (IntOp.cmpi CmpIPredicate.slt (BitVec.ofNat 32 g.val) 0#32) (IntOp.addi (BitVec.ofNat 32 g.val) 4#32)
    (BitVec.ofNat 32 g.val) = BitVec.ofNat 32 g.val := by
  revert g; decide

/-- A group's index is among the four. -/
theorem inRange (g : Fin 4) : Finset.fold IntOp.andi (1#1) (fun _ : Fin 1 => IntOp.andi (IntOp.cmpi CmpIPredicate.sge (BitVec.ofNat 32 g.val) 0#32)
    (IntOp.cmpi CmpIPredicate.sle (BitVec.ofNat 32 g.val) 3#32)) Finset.univ = 1#1 := by
  revert g; decide

/-- The chosen group's probability. -/
theorem pgsel_apply (v : FVec Ideal S16384x4 .f32) (i : IVec S16384 32) (r : Fin 16384) (g : Fin 4) (hi : i (ix1 r) = BitVec.ofNat 32 g.val) :
    pgselOf (F := Ideal) v i (ix2 r 0) = v (ix2 r g) := by
  pointwise [pgselOf]
  rw [hi, wrapped, inRange, gather_pg v _ r g (by
    show Scalar.select (IntOp.cmpi CmpIPredicate.slt (i (ix1 r)) 0#32) (IntOp.addi (i (ix1 r)) 4#32) (i (ix1 r)) = _
    rw [hi, wrapped])]
  rfl

/-- The chosen group's logits. -/
theorem finesel_apply (v : FVec Ideal S16384x4x8 .f32) (i : IVec S16384 32) (r : Fin 16384) (g : Fin 4) (hi : i (ix1 r) = BitVec.ofNat 32 g.val)
    (e : Fin 8) : fineselOf (F := Ideal) v i (ix2 r e) = v (ix3 r g e) := by
  pointwise [fineselOf]
  rw [hi, wrapped, inRange]
  have hI : (select (cmpi CmpIPredicate.slt (broadcastInDim S16384x1x1 ![0] bcast_S16384_S16384x1x1_0 i)
      (broadcastInDim S16384x1x1 ![] bcast_S_S16384x1x1 (constantI S_ 32 0#32)))
      (addi (broadcastInDim S16384x1x1 ![0] bcast_S16384_S16384x1x1_0 i) (broadcastInDim S16384x1x1 ![] bcast_S_S16384x1x1 (constantI S_ 32 4#32)))
      (broadcastInDim S16384x1x1 ![0] bcast_S16384_S16384x1x1_0 i) : IVec S16384x1x1 32) (ix3 r 0 0) = BitVec.ofNat 32 g.val := by
    pointwise []
    rw [hi, wrapped]
  generalize (select (cmpi CmpIPredicate.slt (broadcastInDim S16384x1x1 ![0] bcast_S16384_S16384x1x1_0 i)
      (broadcastInDim S16384x1x1 ![] bcast_S_S16384x1x1 (constantI S_ 32 0#32)))
      (addi (broadcastInDim S16384x1x1 ![0] bcast_S16384_S16384x1x1_0 i) (broadcastInDim S16384x1x1 ![] bcast_S_S16384x1x1 (constantI S_ 32 4#32)))
      (broadcastInDim S16384x1x1 ![0] bcast_S16384_S16384x1x1_0 i) : IVec S16384x1x1 32) = I at hI ⊢
  exact (show Scalar.select 1#1 _ _ = _ from rfl).trans (gather_fine v I r g e hI)

/-- The two probabilities over their sum. -/
theorem topn_apply (v : FVec Ideal S16384x2 .f32) (r : Fin 16384) (l : Fin 2) :
    topnOf (F := Ideal) v (ix2 r l) = Ideal.div (v (ix2 r l)) (v (ix2 r 0) + v (ix2 r 1)) := by
  pointwise [topnOf]
  rw [Fin.sum_univ_two]

/-- Whether a chosen expert is expert `e`, as a number. -/
theorem cmp_lane (g : Fin 4) (a : Fin 8) (e : Fin 32) :
    (FloatOps.uitofp (F := Ideal) .f32 (IntOp.cmpi .eq (IntOp.addi (IntOp.muli (BitVec.ofNat 32 g.val) 8#32) (BitVec.ofNat 32 a.val))
      (BitVec.ofNat 32 e.val)) : EReal) = if e.val = 8 * g.val + a.val then 1 else 0 := by
  have h : IntOp.cmpi .eq (IntOp.addi (IntOp.muli (BitVec.ofNat 32 g.val) 8#32) (BitVec.ofNat 32 a.val)) (BitVec.ofNat 32 e.val)
      = if e.val = 8 * g.val + a.val then 1#1 else 0#1 := by
    revert g a e; decide
  rw [h]
  split_ifs
  · show (((1#1 : BitVec 1).toNat : ℝ) : EReal) = 1
    simp
  · show (((0#1 : BitVec 1).toNat : ℝ) : EReal) = 0
    simp

/-- The experts' weights. -/
theorem comb_apply (i : IVec S16384 32) (j : IVec S16384x2 32) (p : FVec Ideal S16384x1 .f32) (n : FVec Ideal S16384x2 .f32) (r : Fin 16384)
    {g : Fin 4} {a b : Fin 8} (hi : i (ix1 r) = BitVec.ofNat 32 g.val) (h0 : j (ix2 r 0) = BitVec.ofNat 32 a.val)
    (h1 : j (ix2 r 1) = BitVec.ofNat 32 b.val) (e : Fin 32) :
    combOf (F := Ideal) i j p n (ix2 r e)
      = (if e.val = 8 * g.val + a.val then (p (ix2 r 0) * n (ix2 r 0) : EReal) else 0)
        + (if e.val = 8 * g.val + b.val then (p (ix2 r 0) * n (ix2 r 1) : EReal) else 0) := by
  pointwise [combOf]
  rw [Fin.sum_univ_two, hi, h0, h1, cmp_lane, cmp_lane]
  split_ifs <;> simp

/-- The result, from the row, its norm, its weights and its gated hidden units. -/
theorem out_apply (x h : FVec Ideal S16384x1024 .f32) (w : FVec Ideal S16384x32 .f32) (w1 w3 : FVec Ideal S32x1024x128 .f32)
    (w2 : FVec Ideal S32x128x1024 .f32) (r : Fin 16384) (l : Fin 1024) :
    outOf (F := Ideal) x h w (siluOf (upOf h w1)) w3 w2 (ix2 r l)
      = x (ix2 r l) + ∑ e : Fin 32, ∑ f : Fin 128,
          LayerMath.hidden (fun k => h (ix2 r k)) (fun k => w1 (ix3 e k f)) (fun k => w3 (ix3 e k f)) * w (ix2 r e) * w2 (ix3 e f l) := by
  have hs : ∀ (e : Fin 32) (f : Fin 128), siluOf (F := Ideal) (upOf h w1) (ix3 r e f)
      = (∑ k, h (ix2 r k) * w1 (ix3 e k f)) * Ideal.logistic (∑ k, h (ix2 r k) * w1 (ix3 e k f)) := fun e f => by
    have hu : upOf (F := Ideal) h w1 (ix3 r e f) = ∑ k, h (ix2 r k) * w1 (ix3 e k f) := by pointwise [upOf]
    rw [← hu]
    generalize upOf (F := Ideal) h w1 = u
    pointwise [siluOf]
    rfl
  generalize siluOf (F := Ideal) (upOf h w1) = q at hs
  pointwise [outOf]
  simp only [hs]
  rfl

/-- The reference's result is the layer of its arguments' contents, if the router's arrays are finite. -/
theorem rOut_eq (V : Valuation τ sig (Elt Ideal))
    (h : KernelIdeal.Moe.Fin6 (V (Proc.devRef .tc main_arg0)) (V (Proc.devRef .tc main_arg1)) (V (Proc.devRef .tc main_arg2))
      (V (Proc.devRef .tc main_arg3)) (V (Proc.devRef .tc main_arg4)) (V (Proc.devRef .tc main_arg5))) :
    rOut V = KernelIdeal.Moe.G (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
      (V (Proc.devRef .tc main_arg7)) (V (Proc.devRef .tc main_arg8)) := by
  funext y
  idx_vars y
  set x := V (Proc.devRef .tc main_arg0)
  set γ := V (Proc.devRef .tc main_arg1)
  set wrg := V (Proc.devRef .tc main_arg2)
  set brg := V (Proc.devRef .tc main_arg3)
  set wre := V (Proc.devRef .tc main_arg4)
  set bre := V (Proc.devRef .tc main_arg5)
  have hh : ∀ k, rHx V (ix2 y0 k) = LayerMath.rms (fun k => x (ix2 y0 k)) (fun k => γ (ix1 k)) k := fun k => hx_apply x γ y0 k
  have hf : ∀ k, LayerMath.Finite (rHx V (ix2 y0 k)) := fun k => by
    rw [hh]; exact LayerMath.rms_finite (fun _ => h.x _) (fun _ => h.g _) k
  have hc : ∀ l, rCoarse V (ix2 y0 l) = LayerMath.coarse (fun k => rHx V (ix2 y0 k)) (fun k x => wrg (ix2 k x)) (fun x => brg (ix1 x)) l :=
    coarse_apply (rHx V) wrg brg y0
  have hcf : ∀ l, LayerMath.Finite (rCoarse V (ix2 y0 l)) := fun l => by
    rw [hc]; exact LayerMath.coarse_finite hf (fun _ _ => h.wrg _) (fun _ => h.brg _) l
  have hg := LayerMath.top_spec fun l => rCoarse V (ix2 y0 l)
  set g := LayerMath.top fun l => rCoarse V (ix2 y0 l) with hgd
  have hi : rGrp V (ix1 y0) = BitVec.ofNat 32 g.val := grp_apply _ y0 g hg (hcf g).ne_bot
  have hp : rPgsel V (ix2 y0 0) = LayerMath.groupProb (fun l => rCoarse V (ix2 y0 l)) g :=
    (pgsel_apply _ _ y0 g hi).trans (pg_apply _ y0 hg (hcf g))
  have he : ∀ e, rFinesel V (ix2 y0 e) = rFine V (ix3 y0 g e) := finesel_apply _ _ y0 g hi
  have hv : ∀ l e, rFine V (ix3 y0 l e)
      = LayerMath.fine (fun k => rHx V (ix2 y0 k)) (fun x k e => wre (ix3 x k e)) (fun x e => bre (ix2 x e)) l e :=
    fine_apply (rHx V) wre bre y0
  have hef : ∀ e, LayerMath.Finite (rFinesel V (ix2 y0 e)) := fun e => by
    rw [he, hv]; exact LayerMath.fine_finite hf (fun _ _ _ => h.wre _) (fun _ _ => h.bre _) g e
  have ha := LayerMath.top_spec fun e => rFinesel V (ix2 y0 e)
  set a := LayerMath.top fun e => rFinesel V (ix2 y0 e) with had
  have hb := LayerMath.top_spec (LayerMath.without (fun e => rFinesel V (ix2 y0 e)) a)
  set b := LayerMath.top (LayerMath.without (fun e => rFinesel V (ix2 y0 e)) a) with hbd
  have hsm : ∀ e, rSoft V (ix2 y0 e) = Ideal.div (Ideal.exp (rFinesel V (ix2 y0 e) - rFinesel V (ix2 y0 a)))
      (LayerMath.expSum (fun x => rFinesel V (ix2 y0 x)) a) := soft_apply (rFinesel V) y0 ha
  have hs : ∀ e e', rSoft V (ix2 y0 e) < rSoft V (ix2 y0 e') ↔ rFinesel V (ix2 y0 e) < rFinesel V (ix2 y0 e') := fun e e' => by
    rw [hsm, hsm]; exact LayerMath.softmax_lt _ hef a e e'
  obtain ⟨⟨hv0, hv1⟩, hi0, hi1⟩ := top_apply (rSoft V) y0 ha hb (fun e => (hef e).ne_bot) hs
  have hfe : (fun e => rFinesel V (ix2 y0 e)) = fun e => rFine V (ix3 y0 g e) := funext he
  have q0 : rSoft V (ix2 y0 a) = LayerMath.prob1 (fun e => rFine V (ix3 y0 g e)) a := by
    rw [hsm, (hef a).sub_self, hfe, show Ideal.exp (0 : EReal) = 1 by rw [← EReal.coe_zero, Ideal.exp_coe, Real.exp_zero]; rfl]
    rfl
  have q1 : rSoft V (ix2 y0 b) = LayerMath.prob2 (fun e => rFine V (ix3 y0 g e)) a b := by
    rw [hsm, hfe, he, he]; rfl
  have n0 : rTopn V (ix2 y0 0) = Ideal.div (rSoft V (ix2 y0 a)) (rSoft V (ix2 y0 a) + rSoft V (ix2 y0 b)) := by
    rw [← hv0, ← hv1]; exact topn_apply (rTopv V) y0 0
  have n1 : rTopn V (ix2 y0 1) = Ideal.div (rSoft V (ix2 y0 b)) (rSoft V (ix2 y0 a) + rSoft V (ix2 y0 b)) := by
    rw [← hv0, ← hv1]; exact topn_apply (rTopv V) y0 1
  have hw : ∀ e, rComb V (ix2 y0 e) = LayerMath.weight (fun l => rCoarse V (ix2 y0 l)) (fun x e => rFine V (ix3 y0 x e)) g a b e := fun e => by
    refine (comb_apply (rGrp V) (rTopi V) (rPgsel V) (rTopn V) y0 hi hi0 hi1 e).trans ?_
    rw [n0, n1, q0, q1, hp]
    rfl
  refine (out_apply x (rHx V) (rComb V) _ _ _ y0 y1).trans ?_
  have hH : (fun k => rHx V (ix2 y0 k)) = LayerMath.rms (fun k => x (ix2 y0 k)) (fun k => γ (ix1 k)) := funext hh
  have hC : (fun l => rCoarse V (ix2 y0 l)) = LayerMath.coarse (LayerMath.rms (fun k => x (ix2 y0 k)) (fun k => γ (ix1 k)))
      (fun k x => wrg (ix2 k x)) (fun x => brg (ix1 x)) := by
    rw [← hH]; exact funext hc
  have hF : (fun l e => rFine V (ix3 y0 l e)) = LayerMath.fine (LayerMath.rms (fun k => x (ix2 y0 k)) (fun k => γ (ix1 k)))
      (fun x k e => wre (ix3 x k e)) (fun x e => bre (ix2 x e)) := by
    rw [← hH]; exact funext fun l => funext fun e => hv l e
  have hr : ∀ e, rComb V (ix2 y0 e) = LayerMath.routed (LayerMath.coarse (LayerMath.rms (fun k => x (ix2 y0 k)) (fun k => γ (ix1 k)))
      (fun k x => wrg (ix2 k x)) (fun x => brg (ix1 x))) (LayerMath.fine (LayerMath.rms (fun k => x (ix2 y0 k)) (fun k => γ (ix1 k)))
      (fun x k e => wre (ix3 x k e)) (fun x e => bre (ix2 x e))) e := fun e => by
    rw [hw, ← hC, ← hF]
    unfold LayerMath.routed
    rw [← hgd]
    beta_reduce
    rw [← hfe, ← had, ← hbd]
  simp only [hr]
  rw [hH]
  rfl

end Cert.ReferenceIdeal.Moe

end
-- ==== Proof.MoePre.lean ====
/-
The precondition, that the arrays the router reads are finite, entry by entry; and the two programs' runs under it.
-/
module

public import proofs.«01_k».proof.Defs
public import proofs.«01_k».proof.Proof.MoeRef
public import proofs.«01_k».proof.Proof.Gen.Pre_finite_router
public import Idealize.ShloMosaic.Lib.ReduceAll
public import Idealize.ShloMosaic.Lib.Affine

@[expose] public section

set_option maxRecDepth 16384

noncomputable section

namespace Cert.Pre_finite_router

open Idealize.ShloMosaic Idealize.ShloMosaic.IntOp Idealize.ShloMosaic.Host Idealize.SL.Sem
open Facts

theorem infLit : Ideal.ofBits FTy.f32 2139095040#32 = ⊤ := by
  simp [Ideal.ofBits, Ideal.ieee]

/-- An entry whose absolute value is below infinity is finite. -/
theorem entry_finite {s : Shape} (x : FVec Ideal s .f32) (b : S_.BroadcastsInDim s (![] : Fin 0 → Fin s.rank)) (i : s.Idx)
    (h : cmpf .olt (Host.absf x) (broadcastInDim s ![] b (constant S_ .f32 0x7F800000#32)) i = 1#1) : LayerMath.Finite (x i) := by
  refine LayerMath.Finite.of_abs_lt ?_
  have h' : BitVec.ofBool (decide (max (x i) (-(x i)) < Ideal.ofBits FTy.f32 2139095040#32)) = 1#1 := h
  rw [infLit] at h'
  by_contra hn
  rw [decide_eq_false hn] at h'
  exact absurd h' (by decide)

instance : Subsingleton S_.Idx := ⟨fun a b => funext fun i => i.elim0⟩

/-- The precondition says that the six arrays are finite. -/
theorem finite_of_pre [Facts] (x : FVec Ideal S16384x1024 .f32) (g : FVec Ideal S1024 .f32) (wrg : FVec Ideal S1024x4 .f32) (brg : FVec Ideal S4 .f32)
    (wre : FVec Ideal S4x1024x8 .f32) (bre : FVec Ideal S4x8 .f32) (w1 w3 : FVec Ideal S32x1024x128 .f32) (w2 : FVec Ideal S32x128x1024 .f32)
    (h : fn (F := Ideal) x g wrg brg wre bre w1 w3 w2 = fun _ => 1#1) : KernelIdeal.Moe.Fin6 x g wrg brg wre bre := by
  have h0 := congrFun h (fun i => i.elim0)
  unfold fn fn_part1 at h0
  obtain ⟨h0, e5⟩ := andi_eq_one.mp h0
  obtain ⟨h0, e4⟩ := andi_eq_one.mp h0
  obtain ⟨h0, e3⟩ := andi_eq_one.mp h0
  obtain ⟨h0, e2⟩ := andi_eq_one.mp h0
  obtain ⟨e0, e1⟩ := andi_eq_one.mp h0
  exact ⟨fun i => entry_finite x _ i (reduce_andi_all _ _ _ _ _ e0 i), fun i => entry_finite g _ i (reduce_andi_all _ _ _ _ _ e1 i),
    fun i => entry_finite wrg _ i (reduce_andi_all _ _ _ _ _ e2 i), fun i => entry_finite brg _ i (reduce_andi_all _ _ _ _ _ e3 i),
    fun i => entry_finite wre _ i (reduce_andi_all _ _ _ _ _ e4 i), fun i => entry_finite bre _ i (reduce_andi_all _ _ _ _ _ e5 i)⟩

end Cert.Pre_finite_router

namespace Cert.KernelIdeal.Moe

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The kernel's run leaves the layer of its arguments in its result array, if the router's arrays are finite. -/
theorem run (h : ∀ c : Dev nD, Fine m c) : θ_run defs (onTc (τ := τ) (main (F := Ideal))) ⟨m, fun _ => 0, ρ⟩ fun r => ∀ c : Dev nD,
      r.2.mem ((c.tc : Thread nD τ).loc main_v17) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ hr c => ⟨(hr c).1.trans (final_G (h c)), (hr c).2⟩) (Value.run_blocks m ρ)

end Cert.KernelIdeal.Moe

namespace Cert.ReferenceIdeal.Moe

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The reference's run leaves the layer of its arguments in its result array, if the router's arrays are finite. -/
theorem run_value (h : ∀ c : Dev nD, KernelIdeal.Moe.Fin6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :
    θ_run defs (onTc (τ := τ) (main (F := Ideal))) ⟨m, fun _ => 0, ρ⟩ fun r => ∀ c : Dev nD,
      r.2.mem ((c.tc : Thread nD τ).loc main_v73) = KernelIdeal.Moe.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ hr c => ⟨(hr c).1.trans (rOut_eq _ (h c)), (hr c).2⟩) (run m ρ)

end Cert.ReferenceIdeal.Moe

end
-- ==== Proof.FoxMath.lean ====
/-
Softmax-weighted sums over extended reals, gathered block by block: the running maximum, the running normaliser and the
running weighted sum, each rescaled when a larger score arrives.
-/
module

public import Idealize.ShloMosaic.PureOps.Ideal.Laws
public import Mathlib.Data.EReal.Inv
public import Mathlib.Analysis.SpecialFunctions.Exp

@[expose] public section

noncomputable section

namespace FoxMath

open Idealize.ShloMosaic

variable {ι : Type} [DecidableEq ι]

/-- The largest score on a set of keys. -/
abbrev top (s : ι → EReal) (S : Finset ι) : EReal := S.sup s
/-- The sum over a set of keys of `exp (score - m)` times a weight. -/
abbrev wsum (s x : ι → EReal) (m : EReal) (S : Finset ι) : EReal := ∑ k ∈ S, Ideal.exp (s k - m) * x k

theorem exp_bot_sub (r : ℝ) : Ideal.exp ((⊥ : EReal) - (r : EReal)) = 0 := by
  rw [EReal.bot_sub]; rfl
theorem exp_real (a b : ℝ) : Ideal.exp ((a : EReal) - (b : EReal)) = ((Real.exp (a - b) : ℝ) : EReal) := by
  rw [← EReal.coe_sub]; rfl

/-- Rescaling one term from one maximum to another. -/
theorem rescale (a r : ℝ) (s : EReal) (hs : s ≠ ⊤) :
    Ideal.exp ((a : EReal) - (r : EReal)) * Ideal.exp (s - (a : EReal)) = Ideal.exp (s - (r : EReal)) := by
  induction s using EReal.rec with
  | bot => rw [exp_bot_sub, exp_bot_sub, mul_zero]
  | top => exact absurd rfl hs
  | coe s => rw [exp_real, exp_real, exp_real, ← EReal.coe_mul, ← Real.exp_add]; congr 2; ring

theorem mul_sum_real (c : ℝ) (hc : 0 ≤ c) (f : ι → EReal) (S : Finset ι) : (c : EReal) * ∑ k ∈ S, f k = ∑ k ∈ S, (c : EReal) * f k := by
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

theorem top_ne_top (s : ι → EReal) (S : Finset ι) (h : ∀ k ∈ S, s k ≠ ⊤) : top s S ≠ ⊤ := by
  have : top s S < ⊤ := (Finset.sup_lt_iff (bot_lt_top)).mpr fun k hk => lt_top_iff_ne_top.mpr (h k hk)
  exact this.ne

/-- Gathering one more block: the earlier sum rescaled, plus the block's own. -/
theorem gather (s x : ι → EReal) (S T : Finset ι) (hd : Disjoint S T) (h : ∀ k ∈ S, s k ≠ ⊤) (r : ℝ) :
    Ideal.exp (top s S - (r : EReal)) * wsum s x (top s S) S + wsum s x r T = wsum s x r (S ∪ T) := by
  have e : Ideal.exp (top s S - (r : EReal)) * wsum s x (top s S) S = wsum s x r S := by
    have ht := top_ne_top s S h
    generalize hM : top s S = M at ht ⊢
    induction M using EReal.rec with
    | bot =>
      rw [exp_bot_sub, zero_mul]
      refine (Finset.sum_eq_zero fun k hk => ?_).symm
      have : s k = ⊥ := le_bot_iff.mp (hM ▸ Finset.le_sup hk)
      rw [this, exp_bot_sub, zero_mul]
    | top => exact absurd rfl ht
    | coe M =>
      rw [exp_real, mul_sum_real _ (Real.exp_pos _).le]
      refine Finset.sum_congr rfl fun k hk => ?_
      rw [← exp_real, ← mul_assoc, rescale _ _ _ (h k hk)]
  rw [e]
  exact (Finset.sum_union hd).symm

/-- Keys whose score is `⊥` change neither the maximum nor the sums. -/
theorem top_univ [Fintype ι] (s : ι → EReal) (S : Finset ι) (h : ∀ k, k ∉ S → s k = ⊥) : top s S = Finset.univ.sup s := by
  refine le_antisymm (Finset.sup_mono (Finset.subset_univ S)) (Finset.sup_le fun k _ => ?_)
  by_cases hk : k ∈ S
  · exact Finset.le_sup hk
  · rw [h k hk]; exact bot_le
theorem wsum_univ [Fintype ι] (s x : ι → EReal) (S : Finset ι) (r : ℝ) (h : ∀ k, k ∉ S → s k = ⊥) : wsum s x r S = wsum s x r Finset.univ := by
  refine Finset.sum_subset (Finset.subset_univ S) fun k _ hk => ?_
  rw [h k hk, exp_bot_sub, zero_mul]

/-- The normaliser is a positive real. -/
theorem norm_pos (s : ι → EReal) (S : Finset ι) (h : ∀ k ∈ S, s k ≠ ⊤) (k₀ : ι) (hk : k₀ ∈ S) (r : ℝ) (hr : s k₀ ≠ ⊥) :
    ∃ L : ℝ, 0 < L ∧ ∑ k ∈ S, Ideal.exp (s k - r) = (L : EReal) := by
  have key : ∀ k ∈ S, ∃ y : ℝ, 0 ≤ y ∧ Ideal.exp (s k - r) = (y : EReal) ∧ (s k ≠ ⊥ → 0 < y) := by
    intro k hk
    have := h k hk
    generalize s k = a at this
    induction a using EReal.rec with
    | bot => exact ⟨0, le_rfl, by rw [exp_bot_sub]; rfl, fun h => absurd rfl h⟩
    | top => exact absurd rfl this
    | coe a => exact ⟨_, (Real.exp_pos _).le, exp_real a r, fun _ => Real.exp_pos _⟩
  choose! y hy0 hy hyp using key
  refine ⟨∑ k ∈ S, y k, Finset.sum_pos' hy0 ⟨k₀, hk, hyp k₀ hk hr⟩, ?_⟩
  rw [Finset.sum_congr rfl hy]
  exact (map_sum (⟨⟨Real.toEReal, rfl⟩, EReal.coe_add⟩ : ℝ →+ EReal) y S).symm

/-- Dividing the weighted sum by the normaliser is weighting with the divided exponentials. -/
theorem div_sum (e x : ι → EReal) (S : Finset ι) (L : ℝ) (hL : 0 < L) :
    Ideal.div (∑ k ∈ S, e k * x k) (L : EReal) = ∑ k ∈ S, Ideal.div (e k) (L : EReal) * x k := by
  have h0 : ¬ ((L : EReal) = 0) := by exact_mod_cast hL.ne'
  unfold Ideal.div
  simp only [if_neg h0]
  rw [← EReal.coe_inv, mul_comm, mul_sum_real _ (inv_pos.mpr hL).le]
  exact Finset.sum_congr rfl fun k _ => by rw [← mul_assoc, mul_comm (e k)]

end FoxMath

end
-- ==== Proof.FoxPays.lean ====
/-
The forgetting attention: what one grid point computes, entry by entry.
-/
module

public import proofs.«01_k».proof.Proof.Gen.FoxIdeal.Skeleton
public import proofs.«01_k».proof.Proof.FoxMath
public import Idealize.ShloMosaic.Lib.Pointwise

@[expose] public section

set_option maxRecDepth 16384

noncomputable section

namespace Cert.FoxIdeal.Math

open Cert.FoxIdeal Cert.FoxIdeal.Gen Idealize.ShloMosaic Idealize.ShloMosaic.TcCoe

/-- The new maximum, normaliser and weighted sum of one row, from its scores against a block of keys. -/
abbrev mNew (sc : Fin 512 → EReal) (mp : EReal) : EReal := max mp (Finset.univ.sup sc)
abbrev lNew (sc : Fin 512 → EReal) (mp lp : EReal) : EReal :=
  Ideal.exp (mp - mNew sc mp) * lp + ∑ c, Ideal.exp (sc c - mNew sc mp)
abbrev aNew (sc v : Fin 512 → EReal) (mp ap : EReal) : EReal :=
  Ideal.exp (mp - mNew sc mp) * ap + ∑ c, Ideal.exp (sc c - mNew sc mp) * v c

theorem negInf : (Ideal.ofBits FTy.f32 4286578688#32 : EReal) = ⊥ := by
  simp [Ideal.ofBits, Ideal.ieee, -EReal.coe_mul]
theorem mask_bot : (Named.named κ "mask" 4048155338#32 : Ideal FTy.f32) = ⊥ := rfl
theorem zeroBf : (Ideal.ofBits FTy.bf16 0#16 : EReal) = 0 := by
  simp [Ideal.ofBits, Ideal.ieee, -EReal.coe_mul]
theorem zeroF : (Ideal.ofBits FTy.f32 0#32 : EReal) = 0 := by
  simp [Ideal.ofBits, Ideal.ieee, -EReal.coe_mul]

variable (k4 : Vec Ideal S1x1x512x256 .bf16) (k2 : FVec Ideal S512x256 .bf16) (q3 : Vec Ideal S1x512x256 .bf16) (m3 l3 : Vec Ideal S1x512x1 .f32) (a3 : Vec Ideal S1x512x128 .f32) (v2 : Vec Ideal S512x128 .bf16)

theorem p26 (r c : Fin 512) : k0_pay26 k4 q3 (ix2 r c) = ∑ l : Fin 256, q3 (ix3 0 r l) * k4 (ix4 0 0 c l) := by
  pointwise [k0_pay26, k0_pay25]
theorem p35 (r c : Fin 512) : k0_pay35 k2 q3 (ix2 r c) = ∑ l : Fin 256, q3 (ix3 0 r l) * k2 (ix2 c l) := by
  pointwise [k0_pay35]
theorem p28 (r : Fin 512) : k0_pay28 k4 q3 m3 (ix2 r 0) = mNew (fun c => k0_pay26 k4 q3 (ix2 r c)) (m3 (ix3 0 r 0)) := by
  pointwise [k0_pay28, k0_pay27]
  rw [negInf]; rfl
theorem p29 (r : Fin 512) : k0_pay29 k4 q3 m3 (ix2 r 0) = Ideal.exp (m3 (ix3 0 r 0) - k0_pay28 k4 q3 m3 (ix2 r 0)) := by
  pointwise [k0_pay29, k0_pay27]
theorem p30 (r c : Fin 512) : k0_pay30 k4 q3 m3 (ix2 r c) = Ideal.exp (k0_pay26 k4 q3 (ix2 r c) - k0_pay28 k4 q3 m3 (ix2 r 0)) := by
  pointwise [k0_pay30]
theorem p31 (r : Fin 512) : k0_pay31 k4 q3 m3 l3 (ix3 0 r 0) = k0_pay29 k4 q3 m3 (ix2 r 0) * l3 (ix3 0 r 0) + ∑ c, k0_pay30 k4 q3 m3 (ix2 r c) := by
  pointwise [k0_pay31]
theorem p32 (r : Fin 512) (d : Fin 128) : k0_pay32 k4 v2 q3 m3 a3 (ix2 r d) = k0_pay29 k4 q3 m3 (ix2 r 0) * a3 (ix3 0 r d) + ∑ c, k0_pay30 k4 q3 m3 (ix2 r c) * v2 (ix2 c d) := by
  pointwise [k0_pay32]
theorem p33 (x : FVec Ideal S512x128 .f32) (r : Fin 512) (d : Fin 128) : k0_pay33 x (ix3 0 r d) = x (ix2 r d) := by
  pointwise [k0_pay33]
theorem p34 (x : FVec Ideal S512x1 .f32) (r : Fin 512) : k0_pay34 x (ix3 0 r 0) = x (ix2 r 0) := by
  pointwise [k0_pay34]
theorem p37 (r : Fin 512) : k0_pay37 k2 q3 m3 (ix2 r 0) = mNew (fun c => k0_pay35 k2 q3 (ix2 r c)) (m3 (ix3 0 r 0)) := by
  pointwise [k0_pay37, k0_pay36]
  rw [negInf]; rfl
theorem p38 (r : Fin 512) : k0_pay38 k2 q3 m3 (ix2 r 0) = Ideal.exp (m3 (ix3 0 r 0) - k0_pay37 k2 q3 m3 (ix2 r 0)) := by
  pointwise [k0_pay38, k0_pay36]
theorem p39 (r c : Fin 512) : k0_pay39 k2 q3 m3 (ix2 r c) = Ideal.exp (k0_pay35 k2 q3 (ix2 r c) - k0_pay37 k2 q3 m3 (ix2 r 0)) := by
  pointwise [k0_pay39]
theorem p40 (r : Fin 512) : k0_pay40 k2 q3 m3 l3 (ix3 0 r 0) = k0_pay38 k2 q3 m3 (ix2 r 0) * l3 (ix3 0 r 0) + ∑ c, k0_pay39 k2 q3 m3 (ix2 r c) := by
  pointwise [k0_pay40]
theorem p5 (r : Fin 512) (d : Fin 128) : k0_pay5 (k0_pay41 k2 q3 m3 a3) (k0_pay42 k2 v2 q3 m3) (ix3 0 r d) = k0_pay38 k2 q3 m3 (ix2 r 0) * a3 (ix3 0 r d) + ∑ c, k0_pay39 k2 q3 m3 (ix2 r c) * v2 (ix2 c d) := by
  pointwise [k0_pay5, k0_pay41, k0_pay42]
theorem p6 (x : FVec Ideal S512x1 .f32) (r : Fin 512) : k0_pay6 x (ix3 0 r 0) = x (ix2 r 0) := by
  pointwise [k0_pay6]
theorem p8 (r : Fin 512) (l : Fin 256) : k0_pay8 k4 (ix2 r l) = k4 (ix4 0 0 r l) := by
  pointwise [k0_pay8]
theorem p25 (r : Fin 512) (l : Fin 256) : k0_pay25 k4 (ix2 r l) = k4 (ix4 0 0 r l) := by
  pointwise [k0_pay25]
theorem p43 (r : Fin 512) (l : Fin 256) : k0_pay43 k4 (ix2 r l) = k4 (ix4 0 0 r l) := by
  pointwise [k0_pay43]
/-- Key `c` of the diagonal block is not after query `r`. -/
theorem not_after (r c : Fin 512) : (IntOp.cmpi .sle (BitVec.ofNat 32 c.val) (BitVec.ofNat 32 r.val) = 1#1) ↔ c.val ≤ r.val := by
  have hc : (BitVec.ofNat 32 c.val).toInt = c.val := (by decide +kernel : ∀ x : Fin 512, (BitVec.ofNat 32 x.val).toInt = x.val) c
  have hr : (BitVec.ofNat 32 r.val).toInt = r.val := (by decide +kernel : ∀ x : Fin 512, (BitVec.ofNat 32 x.val).toInt = x.val) r
  simp only [IntOp.cmpi, BitVec.sle, hc, hr]
  by_cases h : (c.val : Int) ≤ r.val
  · simp [h]; omega
  · simp [h]; omega
theorem p44 (r c : Fin 512) : @Eq EReal (k0_pay44 k4 q3 (ix2 r c)) (if c.val ≤ r.val then ∑ l : Fin 256, q3 (ix3 0 r l) * k4 (ix4 0 0 c l) else ⊥) := by
  refine Eq.trans (b := if IntOp.cmpi .sle (BitVec.ofNat 32 c.val) (BitVec.ofNat 32 r.val) = 1#1 then ∑ l : Fin 256, q3 (ix3 0 r l) * k4 (ix4 0 0 c l) else ⊥) ?_ (if_congr (not_after r c) rfl rfl)
  pointwise [k0_pay44, k0_pay43]
  rw [mask_bot]; rfl
theorem p53 (r c : Fin 512) : @Eq EReal (k0_pay53 k2 q3 (ix2 r c)) (if c.val ≤ r.val then ∑ l : Fin 256, q3 (ix3 0 r l) * k2 (ix2 c l) else ⊥) := by
  refine Eq.trans (b := if IntOp.cmpi .sle (BitVec.ofNat 32 c.val) (BitVec.ofNat 32 r.val) = 1#1 then ∑ l : Fin 256, q3 (ix3 0 r l) * k2 (ix2 c l) else ⊥) ?_ (if_congr (not_after r c) rfl rfl)
  pointwise [k0_pay53]
  rw [mask_bot]; rfl
theorem p46 (r : Fin 512) : k0_pay46 k4 q3 m3 (ix2 r 0) = mNew (fun c => k0_pay44 k4 q3 (ix2 r c)) (m3 (ix3 0 r 0)) := by
  pointwise [k0_pay46, k0_pay45]
  rw [negInf]; rfl
theorem p47 (r : Fin 512) : k0_pay47 k4 q3 m3 (ix2 r 0) = Ideal.exp (m3 (ix3 0 r 0) - k0_pay46 k4 q3 m3 (ix2 r 0)) := by
  pointwise [k0_pay47, k0_pay45]
theorem p48 (r c : Fin 512) : k0_pay48 k4 q3 m3 (ix2 r c) = Ideal.exp (k0_pay44 k4 q3 (ix2 r c) - k0_pay46 k4 q3 m3 (ix2 r 0)) := by
  pointwise [k0_pay48]
theorem p49 (r : Fin 512) : k0_pay49 k4 q3 m3 l3 (ix3 0 r 0) = k0_pay47 k4 q3 m3 (ix2 r 0) * l3 (ix3 0 r 0) + ∑ c, k0_pay48 k4 q3 m3 (ix2 r c) := by
  pointwise [k0_pay49]
theorem p51 (r : Fin 512) (d : Fin 128) : k0_pay51 v2 (k0_pay48 k4 q3 m3) (k0_pay50 k4 q3 m3 a3) (ix3 0 r d) = k0_pay47 k4 q3 m3 (ix2 r 0) * a3 (ix3 0 r d) + ∑ c, k0_pay48 k4 q3 m3 (ix2 r c) * v2 (ix2 c d) := by
  pointwise [k0_pay51, k0_pay50]
theorem p52 (x : FVec Ideal S512x1 .f32) (r : Fin 512) : k0_pay52 x (ix3 0 r 0) = x (ix2 r 0) := by
  pointwise [k0_pay52]
theorem p55 (r : Fin 512) : k0_pay55 k2 q3 m3 (ix2 r 0) = mNew (fun c => k0_pay53 k2 q3 (ix2 r c)) (m3 (ix3 0 r 0)) := by
  pointwise [k0_pay55, k0_pay54]
  rw [negInf]; rfl
theorem p56 (r : Fin 512) : k0_pay56 k2 q3 m3 (ix2 r 0) = Ideal.exp (m3 (ix3 0 r 0) - k0_pay55 k2 q3 m3 (ix2 r 0)) := by
  pointwise [k0_pay56, k0_pay54]
theorem p57 (r c : Fin 512) : k0_pay57 k2 q3 m3 (ix2 r c) = Ideal.exp (k0_pay53 k2 q3 (ix2 r c) - k0_pay55 k2 q3 m3 (ix2 r 0)) := by
  pointwise [k0_pay57]
theorem p58 (r : Fin 512) : k0_pay58 k2 q3 m3 l3 (ix2 r 0) = k0_pay56 k2 q3 m3 (ix2 r 0) * l3 (ix3 0 r 0) + ∑ c, k0_pay57 k2 q3 m3 (ix2 r c) := by
  pointwise [k0_pay58]
theorem p59 (x : FVec Ideal S512x1 .f32) (r : Fin 512) : k0_pay59 x (ix3 0 r 0) = x (ix2 r 0) := by
  pointwise [k0_pay59]
theorem p60 (r : Fin 512) (d : Fin 128) : k0_pay60 v2 (k0_pay56 k2 q3 m3) (k0_pay57 k2 q3 m3) a3 (ix3 0 r d) = k0_pay56 k2 q3 m3 (ix2 r 0) * a3 (ix3 0 r d) + ∑ c, k0_pay57 k2 q3 m3 (ix2 r c) * v2 (ix2 c d) := by
  pointwise [k0_pay60]
theorem p61 (x : FVec Ideal S512x1 .f32) (r : Fin 512) : k0_pay61 x (ix3 0 r 0) = x (ix2 r 0) := by
  pointwise [k0_pay61]
theorem p2 (h : Fin 2) (r : Fin 512) : @Eq EReal ((k0_pay2 (F := Ideal)) (ix3 h r 0)) ⊥ := by
  pointwise [k0_pay2]
  exact mask_bot
theorem p3 (h : Fin 2) (r : Fin 512) : @Eq EReal ((k0_pay3 (F := Ideal)) (ix3 h r 0)) 0 := by
  pointwise [k0_pay3]
theorem p4 (h : Fin 2) (r : Fin 512) (d : Fin 128) : @Eq EReal ((k0_pay4 (F := Ideal)) (ix3 h r d)) 0 := by
  pointwise [k0_pay4]
/-- The lanes of the first head of the pair. -/
theorem lane_head : ∀ d : Fin 128, (IntOp.cmpi .eq (k0_pay62 (ix2 0 d)) 0#32 = 1#1) ↔ d.val / 64 = 0 := by
  decide +kernel
theorem p7 (a0 : Vec Ideal S1x512x128 .f32) (l0 : Vec Ideal S1x512x1 .f32) (a1 : Vec Ideal S1x512x128 .f32) (l1 : Vec Ideal S1x512x1 .f32) (r : Fin 512) (d : Fin 128) :
    @Eq EReal (k0_pay7 k0_pay62 0#32 a0 l0 a1 l1 (ix2 r d)) (if d.val / 64 = 0 then Ideal.div (a0 (ix3 0 r d)) (l0 (ix3 0 r 0)) else Ideal.div (a1 (ix3 0 r d)) (l1 (ix3 0 r 0))) := by
  refine Eq.trans (b := if IntOp.cmpi .eq (k0_pay62 (ix2 0 d)) 0#32 = 1#1 then Ideal.div (a0 (ix3 0 r d)) (l0 (ix3 0 r 0)) else Ideal.div (a1 (ix3 0 r d)) (l1 (ix3 0 r 0))) ?_ (if_congr (lane_head d) rfl rfl)
  pointwise [k0_pay7]
  rfl

end Cert.FoxIdeal.Math

end
-- ==== Proof.FoxStep.lean ====
/-
The forgetting attention: what one grid point leaves in the running maxima, normalisers and weighted sums, entry by entry.
-/
module

public import proofs.«01_k».proof.Proof.Gen.FoxIdeal.Flash
public import proofs.«01_k».proof.Proof.FoxPays
public import Idealize.ShloMosaic.Lib.Pipeline.ValueKit
public import Idealize.ShloMosaic.Lib.VecWindow

@[expose] public section

set_option maxRecDepth 16384

noncomputable section

namespace Cert.FoxIdeal.Math

open Cert.FoxIdeal Cert.FoxIdeal.Gen Idealize.ShloMosaic Idealize.ShloMosaic.TcCoe

variable (ch : Fin 1) (m : (ℓ : Loc nD τ sig) → Buf (Elt Ideal) ℓ) (ρ : Dev nD → PrngReg)

/-! ## A buffer of two heads, read and written one head at a time -/

section Heads

variable {n : Nat} {e : EltTy} {off : Fin 3 → Nat}

/-- A buffer of two heads, 512 rows each. -/
abbrev Two (n : Nat) : Shape := ⟨3, ![2, 512, n]⟩
/-- One head's rows. -/
abbrev One (n : Nat) : Shape := ⟨3, ![1, 512, n]⟩

theorem emb_head (o : Nat) (h : Fin 2) (ho : h.val = o) (inb : ∀ a, (![o, 0, 0] : Fin 3 → Nat) a + (One n).size a ≤ (Two n).size a) (r : Fin 512) (l : Fin n) :
    (Rect.unit (s := Two n) ![o, 0, 0] (One n).size inb).emb (ix3 0 r l) = ix3 h r l := by
  refine Rect.emb_eq_of_coords _ _ _ fun a => ?_
  show ((ix3 h r l : (Two n).Idx) a).val = (![o, 0, 0] : Fin 3 → Nat) a + 1 * ((ix3 0 r l : (One n).Idx) a).val
  subst ho
  fin_cases a
  · show h.val = h.val + 1 * 0; omega
  · show r.val = 0 + 1 * r.val; omega
  · show l.val = 0 + 1 * l.val; omega

theorem not_mem_head (o : Nat) (k : Fin 2) (hk : o ≠ k.val) (inb : ∀ a, (![o, 0, 0] : Fin 3 → Nat) a + (One n).size a ≤ (Two n).size a) (r : Fin 512) (l : Fin n) :
    (ix3 k r l : (Two n).Idx) ∉ (Rect.unit (s := Two n) ![o, 0, 0] (One n).size inb).set := by
  refine Rect.not_mem_set_of_axis _ _ 0 o 1 rfl rfl rfl ?_
  show k.val < o ∨ o + 1 ≤ k.val
  omega

variable {Val : EltTy → Type} [∀ e, Nonempty (Val e)]

/-- After a store to each head, and whatever was stored before: a head's entry is the one stored to it. -/
theorem canon_head0 (inb1 : ∀ a, (![1, 0, 0] : Fin 3 → Nat) a + (One n).size a ≤ (Two n).size a) (inb0 : ∀ a, (![0, 0, 0] : Fin 3 → Nat) a + (One n).size a ≤ (Two n).size a)
    (w1 w0 : (One n).Idx → Val e) (L : List (View.Piece Val (Two n) e)) (r : Fin 512) (l : Fin n) :
    View.canon (⟨Rect.unit (s := Two n) ![1, 0, 0] (One n).size inb1, w1⟩ :: ⟨Rect.unit (s := Two n) ![0, 0, 0] (One n).size inb0, w0⟩ :: L) (ix3 0 r l) = w0 (ix3 0 r l) := by
  refine (View.canon_cons_of_not_mem (⟨Rect.unit (s := Two n) ![1, 0, 0] (One n).size inb1, w1⟩ : View.Piece Val (Two n) e) _ (not_mem_head (n := n) 1 0 (by decide) inb1 r l)).trans ?_
  have := View.canon_cons_emb (Val := Val) (Rect.unit (s := Two n) ![0, 0, 0] (One n).size inb0) w0 L (ix3 0 r l)
  rwa [emb_head (n := n) 0 0 rfl inb0 r l] at this

theorem canon_head1 (inb1 : ∀ a, (![1, 0, 0] : Fin 3 → Nat) a + (One n).size a ≤ (Two n).size a)
    (w1 : (One n).Idx → Val e) (L : List (View.Piece Val (Two n) e)) (r : Fin 512) (l : Fin n) :
    View.canon (⟨Rect.unit (s := Two n) ![1, 0, 0] (One n).size inb1, w1⟩ :: L) (ix3 1 r l) = w1 (ix3 0 r l) := by
  have := View.canon_cons_emb (Val := Val) (Rect.unit (s := Two n) ![1, 0, 0] (One n).size inb1) w1 L (ix3 0 r l)
  rwa [emb_head (n := n) 1 1 rfl inb1 r l] at this

/-- The second head's entry is not touched by a store to the first. -/
theorem canon_skip0 (inb0 : ∀ a, (![0, 0, 0] : Fin 3 → Nat) a + (One n).size a ≤ (Two n).size a)
    (w0 : (One n).Idx → Val e) (L : List (View.Piece Val (Two n) e)) (r : Fin 512) (l : Fin n) :
    View.canon (⟨Rect.unit (s := Two n) ![0, 0, 0] (One n).size inb0, w0⟩ :: L) (ix3 1 r l) = View.canon L (ix3 1 r l) :=
  View.canon_cons_of_not_mem (⟨Rect.unit (s := Two n) ![0, 0, 0] (One n).size inb0, w0⟩ : View.Piece Val (Two n) e) _ (not_mem_head (n := n) 0 1 (by decide) inb0 r l)

end Heads

/-- What a list of stores leaves in a scratch buffer. -/
theorem left1 (L : List (View.Piece (Elt Ideal) S2x512x1 .f32)) (x : S2x512x1.Idx) :
    (View.writes scM0_1.view (Elt Ideal) (View.junk scM0_1.view) L : S2x512x1.Idx → EReal) x = View.canon L x :=
  congrFun (View.read_writes_junk_eq_canon scM0_1.view L) x
theorem left2 (L : List (View.Piece (Elt Ideal) S2x512x1 .f32)) (x : S2x512x1.Idx) :
    (View.writes scM0_2.view (Elt Ideal) (View.junk scM0_2.view) L : S2x512x1.Idx → EReal) x = View.canon L x :=
  congrFun (View.read_writes_junk_eq_canon scM0_2.view L) x
theorem left3 (L : List (View.Piece (Elt Ideal) S2x512x128 .f32)) (x : S2x512x128.Idx) :
    (View.writes scM0_3.view (Elt Ideal) (View.junk scM0_3.view) L : S2x512x128.Idx → EReal) x = View.canon L x :=
  congrFun (View.read_writes_junk_eq_canon scM0_3.view L) x
theorem left0 (L : List (View.Piece (Elt Ideal) S2x512x256 .bf16)) (x : S2x512x256.Idx) :
    (View.writes scM0_0.view (Elt Ideal) (View.junk scM0_0.view) L : S2x512x256.Idx → EReal) x = View.canon L x :=
  congrFun (View.read_writes_junk_eq_canon scM0_0.view L) x

/-! ## Loads -/

theorem ld0_0 (x : S2x512x256.Idx → EReal) (inb) (r : Fin 512) (l : Fin 256) :
    @Eq EReal (View.readAt (Elt Ideal) (View.whole cc0_scratch0) (Rect.unit (s := S2x512x256) ![0, 0, 0] ![1, 512, 256] inb).toLoadRect x (ix3 0 r l)) (x (ix3 0 r l)) :=
  congrArg x (emb_head (n := 256) 0 0 rfl inb r l)
theorem cv0_0 (L : List (View.Piece (Elt Ideal) S2x512x256 .bf16)) (inb) (r : Fin 512) (l : Fin 256) :
    @Eq EReal (View.readCov (View.whole cc0_scratch0) L (Rect.unit (s := S2x512x256) ![0, 0, 0] ![1, 512, 256] inb).toLoadRect (ix3 0 r l)) (View.canon L (ix3 0 r l)) :=
  (congrFun (View.readCov_eq_canon' (View.whole cc0_scratch0) L (Rect.unit (s := S2x512x256) ![0, 0, 0] ![1, 512, 256] inb).toLoadRect) (ix3 0 r l)).trans
    (congrArg (View.canon L) (emb_head (n := 256) 0 0 rfl inb r l))
theorem ld0_1 (x : S2x512x256.Idx → EReal) (inb) (r : Fin 512) (l : Fin 256) :
    @Eq EReal (View.readAt (Elt Ideal) (View.whole cc0_scratch0) (Rect.unit (s := S2x512x256) ![1, 0, 0] ![1, 512, 256] inb).toLoadRect x (ix3 0 r l)) (x (ix3 1 r l)) :=
  congrArg x (emb_head (n := 256) 1 1 rfl inb r l)
theorem cv0_1 (L : List (View.Piece (Elt Ideal) S2x512x256 .bf16)) (inb) (r : Fin 512) (l : Fin 256) :
    @Eq EReal (View.readCov (View.whole cc0_scratch0) L (Rect.unit (s := S2x512x256) ![1, 0, 0] ![1, 512, 256] inb).toLoadRect (ix3 0 r l)) (View.canon L (ix3 1 r l)) :=
  (congrFun (View.readCov_eq_canon' (View.whole cc0_scratch0) L (Rect.unit (s := S2x512x256) ![1, 0, 0] ![1, 512, 256] inb).toLoadRect) (ix3 0 r l)).trans
    (congrArg (View.canon L) (emb_head (n := 256) 1 1 rfl inb r l))
theorem ld1_0 (x : S2x512x1.Idx → EReal) (inb) (r : Fin 512) (l : Fin 1) :
    @Eq EReal (View.readAt (Elt Ideal) (View.whole cc0_scratch1) (Rect.unit (s := S2x512x1) ![0, 0, 0] ![1, 512, 1] inb).toLoadRect x (ix3 0 r l)) (x (ix3 0 r l)) :=
  congrArg x (emb_head (n := 1) 0 0 rfl inb r l)
theorem cv1_0 (L : List (View.Piece (Elt Ideal) S2x512x1 .f32)) (inb) (r : Fin 512) (l : Fin 1) :
    @Eq EReal (View.readCov (View.whole cc0_scratch1) L (Rect.unit (s := S2x512x1) ![0, 0, 0] ![1, 512, 1] inb).toLoadRect (ix3 0 r l)) (View.canon L (ix3 0 r l)) :=
  (congrFun (View.readCov_eq_canon' (View.whole cc0_scratch1) L (Rect.unit (s := S2x512x1) ![0, 0, 0] ![1, 512, 1] inb).toLoadRect) (ix3 0 r l)).trans
    (congrArg (View.canon L) (emb_head (n := 1) 0 0 rfl inb r l))
theorem ld1_1 (x : S2x512x1.Idx → EReal) (inb) (r : Fin 512) (l : Fin 1) :
    @Eq EReal (View.readAt (Elt Ideal) (View.whole cc0_scratch1) (Rect.unit (s := S2x512x1) ![1, 0, 0] ![1, 512, 1] inb).toLoadRect x (ix3 0 r l)) (x (ix3 1 r l)) :=
  congrArg x (emb_head (n := 1) 1 1 rfl inb r l)
theorem cv1_1 (L : List (View.Piece (Elt Ideal) S2x512x1 .f32)) (inb) (r : Fin 512) (l : Fin 1) :
    @Eq EReal (View.readCov (View.whole cc0_scratch1) L (Rect.unit (s := S2x512x1) ![1, 0, 0] ![1, 512, 1] inb).toLoadRect (ix3 0 r l)) (View.canon L (ix3 1 r l)) :=
  (congrFun (View.readCov_eq_canon' (View.whole cc0_scratch1) L (Rect.unit (s := S2x512x1) ![1, 0, 0] ![1, 512, 1] inb).toLoadRect) (ix3 0 r l)).trans
    (congrArg (View.canon L) (emb_head (n := 1) 1 1 rfl inb r l))
theorem ld2_0 (x : S2x512x1.Idx → EReal) (inb) (r : Fin 512) (l : Fin 1) :
    @Eq EReal (View.readAt (Elt Ideal) (View.whole cc0_scratch2) (Rect.unit (s := S2x512x1) ![0, 0, 0] ![1, 512, 1] inb).toLoadRect x (ix3 0 r l)) (x (ix3 0 r l)) :=
  congrArg x (emb_head (n := 1) 0 0 rfl inb r l)
theorem cv2_0 (L : List (View.Piece (Elt Ideal) S2x512x1 .f32)) (inb) (r : Fin 512) (l : Fin 1) :
    @Eq EReal (View.readCov (View.whole cc0_scratch2) L (Rect.unit (s := S2x512x1) ![0, 0, 0] ![1, 512, 1] inb).toLoadRect (ix3 0 r l)) (View.canon L (ix3 0 r l)) :=
  (congrFun (View.readCov_eq_canon' (View.whole cc0_scratch2) L (Rect.unit (s := S2x512x1) ![0, 0, 0] ![1, 512, 1] inb).toLoadRect) (ix3 0 r l)).trans
    (congrArg (View.canon L) (emb_head (n := 1) 0 0 rfl inb r l))
theorem ld2_1 (x : S2x512x1.Idx → EReal) (inb) (r : Fin 512) (l : Fin 1) :
    @Eq EReal (View.readAt (Elt Ideal) (View.whole cc0_scratch2) (Rect.unit (s := S2x512x1) ![1, 0, 0] ![1, 512, 1] inb).toLoadRect x (ix3 0 r l)) (x (ix3 1 r l)) :=
  congrArg x (emb_head (n := 1) 1 1 rfl inb r l)
theorem cv2_1 (L : List (View.Piece (Elt Ideal) S2x512x1 .f32)) (inb) (r : Fin 512) (l : Fin 1) :
    @Eq EReal (View.readCov (View.whole cc0_scratch2) L (Rect.unit (s := S2x512x1) ![1, 0, 0] ![1, 512, 1] inb).toLoadRect (ix3 0 r l)) (View.canon L (ix3 1 r l)) :=
  (congrFun (View.readCov_eq_canon' (View.whole cc0_scratch2) L (Rect.unit (s := S2x512x1) ![1, 0, 0] ![1, 512, 1] inb).toLoadRect) (ix3 0 r l)).trans
    (congrArg (View.canon L) (emb_head (n := 1) 1 1 rfl inb r l))
theorem ld3_0 (x : S2x512x128.Idx → EReal) (inb) (r : Fin 512) (l : Fin 128) :
    @Eq EReal (View.readAt (Elt Ideal) (View.whole cc0_scratch3) (Rect.unit (s := S2x512x128) ![0, 0, 0] ![1, 512, 128] inb).toLoadRect x (ix3 0 r l)) (x (ix3 0 r l)) :=
  congrArg x (emb_head (n := 128) 0 0 rfl inb r l)
theorem cv3_0 (L : List (View.Piece (Elt Ideal) S2x512x128 .f32)) (inb) (r : Fin 512) (l : Fin 128) :
    @Eq EReal (View.readCov (View.whole cc0_scratch3) L (Rect.unit (s := S2x512x128) ![0, 0, 0] ![1, 512, 128] inb).toLoadRect (ix3 0 r l)) (View.canon L (ix3 0 r l)) :=
  (congrFun (View.readCov_eq_canon' (View.whole cc0_scratch3) L (Rect.unit (s := S2x512x128) ![0, 0, 0] ![1, 512, 128] inb).toLoadRect) (ix3 0 r l)).trans
    (congrArg (View.canon L) (emb_head (n := 128) 0 0 rfl inb r l))
theorem ld3_1 (x : S2x512x128.Idx → EReal) (inb) (r : Fin 512) (l : Fin 128) :
    @Eq EReal (View.readAt (Elt Ideal) (View.whole cc0_scratch3) (Rect.unit (s := S2x512x128) ![1, 0, 0] ![1, 512, 128] inb).toLoadRect x (ix3 0 r l)) (x (ix3 1 r l)) :=
  congrArg x (emb_head (n := 128) 1 1 rfl inb r l)
theorem cv3_1 (L : List (View.Piece (Elt Ideal) S2x512x128 .f32)) (inb) (r : Fin 512) (l : Fin 128) :
    @Eq EReal (View.readCov (View.whole cc0_scratch3) L (Rect.unit (s := S2x512x128) ![1, 0, 0] ![1, 512, 128] inb).toLoadRect (ix3 0 r l)) (View.canon L (ix3 1 r l)) :=
  (congrFun (View.readCov_eq_canon' (View.whole cc0_scratch3) L (Rect.unit (s := S2x512x128) ![1, 0, 0] ![1, 512, 128] inb).toLoadRect) (ix3 0 r l)).trans
    (congrArg (View.canon L) (emb_head (n := 128) 1 1 rfl inb r l))

variable (c : Dev nD) (t : Fin (cfgA ch).N)

theorem sk1 (inb : ∀ a, (![0, 0, 0] : Fin 3 → Nat) a + (One 1).size a ≤ (Two 1).size a) (w : S1x512x1.Idx → Elt Ideal .f32) (L : List (View.Piece (Elt Ideal) S2x512x1 .f32)) (r : Fin 512) :
    View.canon ((⟨Rect.unit (s := S2x512x1) ![0, 0, 0] ![1, 512, 1] inb, w⟩ : View.Piece (Elt Ideal) S2x512x1 .f32) :: L) (ix3 1 r 0) = View.canon L (ix3 1 r 0) :=
  canon_skip0 (Val := Elt Ideal) (e := .f32) (n := 1) inb w L r 0
theorem sk3 (inb : ∀ a, (![0, 0, 0] : Fin 3 → Nat) a + (One 128).size a ≤ (Two 128).size a) (w : S1x512x128.Idx → Elt Ideal .f32) (L : List (View.Piece (Elt Ideal) S2x512x128 .f32)) (r : Fin 512) (d : Fin 128) :
    View.canon ((⟨Rect.unit (s := S2x512x128) ![0, 0, 0] ![1, 512, 128] inb, w⟩ : View.Piece (Elt Ideal) S2x512x128 .f32) :: L) (ix3 1 r d) = View.canon L (ix3 1 r d) :=
  canon_skip0 (Val := Elt Ideal) (e := .f32) (n := 128) inb w L r d
theorem wh1 (inb : ∀ a, (![0, 0, 0] : Fin 3 → Nat) a + S2x512x1.size a ≤ S2x512x1.size a) (w : S2x512x1.Idx → Elt Ideal .f32) (L : List (View.Piece (Elt Ideal) S2x512x1 .f32)) (x : S2x512x1.Idx) :
    View.canon ((⟨Rect.unit (s := S2x512x1) ![0, 0, 0] ![2, 512, 1] inb, w⟩ : View.Piece (Elt Ideal) S2x512x1 .f32) :: L) x = w x :=
  congrFun (View.canon_cons_unit_lit (Val := Elt Ideal) (S := S2x512x1) (e := .f32) (off := ![0, 0, 0]) inb w L (by decide)) x
theorem wh3 (inb : ∀ a, (![0, 0, 0] : Fin 3 → Nat) a + S2x512x128.size a ≤ S2x512x128.size a) (w : S2x512x128.Idx → Elt Ideal .f32) (L : List (View.Piece (Elt Ideal) S2x512x128 .f32)) (x : S2x512x128.Idx) :
    View.canon ((⟨Rect.unit (s := S2x512x128) ![0, 0, 0] ![2, 512, 128] inb, w⟩ : View.Piece (Elt Ideal) S2x512x128 .f32) :: L) x = w x :=
  congrFun (View.canon_cons_unit_lit (Val := Elt Ideal) (S := S2x512x128) (e := .f32) (off := ![0, 0, 0]) inb w L (by decide)) x
theorem ld4 {sig : RefSig} {κ : Kind} {sp : Space} {e : EltTy} (v : View sig κ sp S1x1x512x256 e) (x : S1x1x512x256.Idx → Elt Ideal e) (inb) (y : S1x1x512x256.Idx) :
    View.readAt (Elt Ideal) v (Rect.unit (s := S1x1x512x256) ![0, 0, 0, 0] ![1, 1, 512, 256] inb).toLoadRect (v.rep x) y = x y :=
  congrFun (View.readAt_rep_full v x inb) y
theorem ld2 {sig : RefSig} {κ : Kind} {sp : Space} {e : EltTy} (v : View sig κ sp S512x128 e) (x : S512x128.Idx → Elt Ideal e) (inb) (y : S512x128.Idx) :
    View.readAt (Elt Ideal) v (Rect.unit (s := S512x128) ![0, 0] ![512, 128] inb).toLoadRect (v.rep x) y = x y :=
  congrFun (View.readAt_rep_full v x inb) y

variable (prev : (S512x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3))

/-- The scores of a query row against a block of keys, over all lanes. -/
abbrev full (qh : S2x512x256.Idx → EReal) (k : S1x1x512x256.Idx → EReal) (h : Fin 2) (r : Fin 512) : Fin 512 → EReal :=
  fun j => ∑ l : Fin 256, qh (ix3 h r l) * k (ix4 0 0 j l)
/-- The same where keys after the query score minus infinity. -/
abbrev lower (qh : S2x512x256.Idx → EReal) (k : S1x1x512x256.Idx → EReal) (h : Fin 2) (r : Fin 512) : Fin 512 → EReal :=
  fun j => if j.val ≤ r.val then ∑ l : Fin 256, qh (ix3 h r l) * k (ix4 0 0 j l) else ⊥

/-! ## A block between the first and the diagonal -/

/-- A block between the first and the diagonal: the new maximum of the first head. -/
theorem D_m0 (q0 : ¬P0_0 ch t) (q1 : P0_1 ch t) (r : Fin 512) : @Eq EReal ((step0 ch m ρ c t prev).2.2.1 (ix3 0 r 0))
    (mNew (full prev.2.1 (iblk ch m ρ c 1 t) 0 r) (prev.2.2.1 (ix3 0 r 0))) := by
  rw [step0_D ch m ρ c t prev q0 q1]
  dsimp only
  delta kernelRun0_D
  dsimp only
  refine (left1 _ (ix3 0 r 0)).trans ?_
  refine (canon_head0 (n := 1) _ _ _ _ _ r 0).trans ?_
  change @Eq (Ideal .f32) (k0_pay34 (k0_pay28 _ _ _) _) _
  simp only [p34, p28, p26, kernelRun0_D.sl.r, kernelRun0_D.sl.r_1, kernelRun0_D.sl.r_2, kernelRun0_D.sl.v54, kernelRun0_D.sl.v64, kernelRun0_D.sl.v73, ld0_0, ld0_1, ld1_0, ld1_1, ld2_0, ld2_1, ld3_0, ld3_1, ld4, ld2]

/-- A block between the first and the diagonal: the new maximum of the second head. -/
theorem D_m1 (q0 : ¬P0_0 ch t) (q1 : P0_1 ch t) (r : Fin 512) : @Eq EReal ((step0 ch m ρ c t prev).2.2.1 (ix3 1 r 0))
    (mNew (full prev.2.1 (iblk ch m ρ c 1 t) 1 r) (prev.2.2.1 (ix3 1 r 0))) := by
  rw [step0_D ch m ρ c t prev q0 q1]
  dsimp only
  delta kernelRun0_D
  dsimp only
  refine (left1 _ (ix3 1 r 0)).trans ?_
  refine (canon_head1 (n := 1) _ _ _ r 0).trans ?_
  change @Eq (Ideal .f32) (k0_pay6 (k0_pay37 (k0_pay25 _) _ _) _) _
  simp only [p6, p37, p35, p25, kernelRun0_D.sl.r, kernelRun0_D.sl.r_1, kernelRun0_D.sl.r_2, kernelRun0_D.sl.v54, kernelRun0_D.sl.v64, kernelRun0_D.sl.v73, ld0_0, ld0_1, ld1_0, ld1_1, ld2_0, ld2_1, ld3_0, ld3_1, ld4, ld2]

/-- A block between the first and the diagonal: the new normaliser of the first head. -/
theorem D_l0 (q0 : ¬P0_0 ch t) (q1 : P0_1 ch t) (r : Fin 512) : @Eq EReal ((step0 ch m ρ c t prev).2.2.2.1 (ix3 0 r 0))
    (lNew (full prev.2.1 (iblk ch m ρ c 1 t) 0 r) (prev.2.2.1 (ix3 0 r 0)) (prev.2.2.2.1 (ix3 0 r 0))) := by
  rw [step0_D ch m ρ c t prev q0 q1]
  dsimp only
  delta kernelRun0_D
  dsimp only
  refine (left2 _ (ix3 0 r 0)).trans ?_
  refine (canon_head0 (n := 1) _ _ _ _ _ r 0).trans ?_
  change @Eq (Ideal .f32) (k0_pay31 _ _ _ _ _) _
  simp only [p31, p29, p30, p28, p26, kernelRun0_D.sl.r, kernelRun0_D.sl.r_1, kernelRun0_D.sl.r_2, kernelRun0_D.sl.v54, kernelRun0_D.sl.v64, kernelRun0_D.sl.v73, ld0_0, ld0_1, ld1_0, ld1_1, ld2_0, ld2_1, ld3_0, ld3_1, ld4, ld2]

/-- A block between the first and the diagonal: the new normaliser of the second head. -/
theorem D_l1 (q0 : ¬P0_0 ch t) (q1 : P0_1 ch t) (r : Fin 512) : @Eq EReal ((step0 ch m ρ c t prev).2.2.2.1 (ix3 1 r 0))
    (lNew (full prev.2.1 (iblk ch m ρ c 1 t) 1 r) (prev.2.2.1 (ix3 1 r 0)) (prev.2.2.2.1 (ix3 1 r 0))) := by
  rw [step0_D ch m ρ c t prev q0 q1]
  dsimp only
  delta kernelRun0_D
  dsimp only
  refine (left2 _ (ix3 1 r 0)).trans ?_
  refine (canon_head1 (n := 1) _ _ _ r 0).trans ?_
  change @Eq (Ideal .f32) (k0_pay40 (k0_pay25 _) _ _ _ _) _
  simp only [p40, p38, p39, p37, p35, p25, kernelRun0_D.sl.r, kernelRun0_D.sl.r_1, kernelRun0_D.sl.r_2, kernelRun0_D.sl.v54, kernelRun0_D.sl.v64, kernelRun0_D.sl.v73, ld0_0, ld0_1, ld1_0, ld1_1, ld2_0, ld2_1, ld3_0, ld3_1, ld4, ld2]

/-- A block between the first and the diagonal: the new weighted sum of the first head. -/
theorem D_a0 (q0 : ¬P0_0 ch t) (q1 : P0_1 ch t) (r : Fin 512) (d : Fin 128) : @Eq EReal ((step0 ch m ρ c t prev).2.2.2.2 (ix3 0 r d))
    (aNew (full prev.2.1 (iblk ch m ρ c 1 t) 0 r) (fun j => iblk ch m ρ c 2 t (ix2 j d)) (prev.2.2.1 (ix3 0 r 0)) (prev.2.2.2.2 (ix3 0 r d))) := by
  rw [step0_D ch m ρ c t prev q0 q1]
  dsimp only
  delta kernelRun0_D
  dsimp only
  refine (left3 _ (ix3 0 r d)).trans ?_
  refine (canon_head0 (n := 128) _ _ _ _ _ r d).trans ?_
  change @Eq (Ideal .f32) (k0_pay33 (k0_pay32 _ _ _ _ _) _) _
  simp only [p33, p32, p29, p30, p28, p26, kernelRun0_D.sl.r, kernelRun0_D.sl.r_1, kernelRun0_D.sl.r_2, kernelRun0_D.sl.v54, kernelRun0_D.sl.v64, kernelRun0_D.sl.v73, ld0_0, ld0_1, ld1_0, ld1_1, ld2_0, ld2_1, ld3_0, ld3_1, ld4, ld2]

/-- A block between the first and the diagonal: the new weighted sum of the second head. -/
theorem D_a1 (q0 : ¬P0_0 ch t) (q1 : P0_1 ch t) (r : Fin 512) (d : Fin 128) : @Eq EReal ((step0 ch m ρ c t prev).2.2.2.2 (ix3 1 r d))
    (aNew (full prev.2.1 (iblk ch m ρ c 1 t) 1 r) (fun j => iblk ch m ρ c 2 t (ix2 j d)) (prev.2.2.1 (ix3 1 r 0)) (prev.2.2.2.2 (ix3 1 r d))) := by
  rw [step0_D ch m ρ c t prev q0 q1]
  dsimp only
  delta kernelRun0_D
  dsimp only
  refine (left3 _ (ix3 1 r d)).trans ?_
  refine (canon_head1 (n := 128) _ _ _ r d).trans ?_
  change @Eq (Ideal .f32) (k0_pay5 (k0_pay41 (k0_pay25 _) _ _ _) (k0_pay42 (k0_pay25 _) _ _ _) _) _
  simp only [p5, p38, p39, p37, p35, p25, kernelRun0_D.sl.r, kernelRun0_D.sl.r_1, kernelRun0_D.sl.r_2, kernelRun0_D.sl.v54, kernelRun0_D.sl.v64, kernelRun0_D.sl.v73, ld0_0, ld0_1, ld1_0, ld1_1, ld2_0, ld2_1, ld3_0, ld3_1, ld4, ld2]

/-! ## The diagonal block, not the first -/

/-- The diagonal block, not the first: the new maximum of the first head. -/
theorem C_m0 (q0 : ¬P0_0 ch t) (q1 : ¬P0_1 ch t) (r : Fin 512) : @Eq EReal ((step0 ch m ρ c t prev).2.2.1 (ix3 0 r 0))
    (mNew (lower prev.2.1 (iblk ch m ρ c 1 t) 0 r) (prev.2.2.1 (ix3 0 r 0))) := by
  rw [step0_C ch m ρ c t prev q0 q1]
  dsimp only
  delta kernelRun0_C
  dsimp only
  refine (left1 _ (ix3 0 r 0)).trans ?_
  refine (canon_head0 (n := 1) _ _ _ _ _ r 0).trans ?_
  change @Eq (Ideal .f32) (k0_pay52 (k0_pay46 _ _ _) _) _
  simp only [p52, p46, p44, kernelRun0_C.sl.r, kernelRun0_C.sl.r_1, kernelRun0_C.sl.r_3, kernelRun0_C.sl.v123, kernelRun0_C.sl.v125, kernelRun0_C.sl.v129, kernelRun0_C.sl.v131, kernelRun0_C.sl.v64, kernelRun0_C.sl.v74, kernelRun0_C.sl.v83, kernelRun0_C.sl.v93, ld0_0, ld0_1, ld1_0, ld1_1, ld2_0, ld2_1, ld3_0, ld3_1, ld4, ld2]

/-- The diagonal block, not the first: the new maximum of the second head. -/
theorem C_m1 (q0 : ¬P0_0 ch t) (q1 : ¬P0_1 ch t) (r : Fin 512) : @Eq EReal ((step0 ch m ρ c t prev).2.2.1 (ix3 1 r 0))
    (mNew (lower prev.2.1 (iblk ch m ρ c 1 t) 1 r) (prev.2.2.1 (ix3 1 r 0))) := by
  rw [step0_C ch m ρ c t prev q0 q1]
  dsimp only
  delta kernelRun0_C
  dsimp only
  refine (left1 _ (ix3 1 r 0)).trans ?_
  refine (canon_head1 (n := 1) _ _ _ r 0).trans ?_
  change @Eq (Ideal .f32) (k0_pay61 (k0_pay55 (k0_pay43 _) _ _) _) _
  simp only [p61, p55, p53, p43, kernelRun0_C.sl.r, kernelRun0_C.sl.r_1, kernelRun0_C.sl.r_3, kernelRun0_C.sl.v123, kernelRun0_C.sl.v125, kernelRun0_C.sl.v129, kernelRun0_C.sl.v131, kernelRun0_C.sl.v64, kernelRun0_C.sl.v74, kernelRun0_C.sl.v83, kernelRun0_C.sl.v93, ld0_0, ld0_1, ld1_0, ld1_1, ld2_0, ld2_1, ld3_0, ld3_1, ld4, ld2]

/-- The diagonal block, not the first: the new normaliser of the first head. -/
theorem C_l0 (q0 : ¬P0_0 ch t) (q1 : ¬P0_1 ch t) (r : Fin 512) : @Eq EReal ((step0 ch m ρ c t prev).2.2.2.1 (ix3 0 r 0))
    (lNew (lower prev.2.1 (iblk ch m ρ c 1 t) 0 r) (prev.2.2.1 (ix3 0 r 0)) (prev.2.2.2.1 (ix3 0 r 0))) := by
  rw [step0_C ch m ρ c t prev q0 q1]
  dsimp only
  delta kernelRun0_C
  dsimp only
  refine (left2 _ (ix3 0 r 0)).trans ?_
  refine (canon_head0 (n := 1) _ _ _ _ _ r 0).trans ?_
  change @Eq (Ideal .f32) (k0_pay49 _ _ _ _ _) _
  simp only [p49, p47, p48, p46, p44, kernelRun0_C.sl.r, kernelRun0_C.sl.r_1, kernelRun0_C.sl.r_3, kernelRun0_C.sl.v123, kernelRun0_C.sl.v125, kernelRun0_C.sl.v129, kernelRun0_C.sl.v131, kernelRun0_C.sl.v64, kernelRun0_C.sl.v74, kernelRun0_C.sl.v83, kernelRun0_C.sl.v93, ld0_0, ld0_1, ld1_0, ld1_1, ld2_0, ld2_1, ld3_0, ld3_1, ld4, ld2]

/-- The diagonal block, not the first: the new normaliser of the second head. -/
theorem C_l1 (q0 : ¬P0_0 ch t) (q1 : ¬P0_1 ch t) (r : Fin 512) : @Eq EReal ((step0 ch m ρ c t prev).2.2.2.1 (ix3 1 r 0))
    (lNew (lower prev.2.1 (iblk ch m ρ c 1 t) 1 r) (prev.2.2.1 (ix3 1 r 0)) (prev.2.2.2.1 (ix3 1 r 0))) := by
  rw [step0_C ch m ρ c t prev q0 q1]
  dsimp only
  delta kernelRun0_C
  dsimp only
  refine (left2 _ (ix3 1 r 0)).trans ?_
  refine (canon_head1 (n := 1) _ _ _ r 0).trans ?_
  change @Eq (Ideal .f32) (k0_pay59 (k0_pay58 (k0_pay43 _) _ _ _) _) _
  simp only [p59, p58, p56, p57, p55, p53, p43, kernelRun0_C.sl.r, kernelRun0_C.sl.r_1, kernelRun0_C.sl.r_3, kernelRun0_C.sl.v123, kernelRun0_C.sl.v125, kernelRun0_C.sl.v129, kernelRun0_C.sl.v131, kernelRun0_C.sl.v64, kernelRun0_C.sl.v74, kernelRun0_C.sl.v83, kernelRun0_C.sl.v93, ld0_0, ld0_1, ld1_0, ld1_1, ld2_0, ld2_1, ld3_0, ld3_1, ld4, ld2]

/-- The diagonal block, not the first: the new weighted sum of the first head. -/
theorem C_a0 (q0 : ¬P0_0 ch t) (q1 : ¬P0_1 ch t) (r : Fin 512) (d : Fin 128) : @Eq EReal ((step0 ch m ρ c t prev).2.2.2.2 (ix3 0 r d))
    (aNew (lower prev.2.1 (iblk ch m ρ c 1 t) 0 r) (fun j => iblk ch m ρ c 2 t (ix2 j d)) (prev.2.2.1 (ix3 0 r 0)) (prev.2.2.2.2 (ix3 0 r d))) := by
  rw [step0_C ch m ρ c t prev q0 q1]
  dsimp only
  delta kernelRun0_C
  dsimp only
  refine (left3 _ (ix3 0 r d)).trans ?_
  refine (canon_head0 (n := 128) _ _ _ _ _ r d).trans ?_
  change @Eq (Ideal .f32) (k0_pay51 _ (k0_pay48 _ _ _) (k0_pay50 _ _ _ _) _) _
  simp only [p51, p47, p48, p46, p44, kernelRun0_C.sl.r, kernelRun0_C.sl.r_1, kernelRun0_C.sl.r_3, kernelRun0_C.sl.v123, kernelRun0_C.sl.v125, kernelRun0_C.sl.v129, kernelRun0_C.sl.v131, kernelRun0_C.sl.v64, kernelRun0_C.sl.v74, kernelRun0_C.sl.v83, kernelRun0_C.sl.v93, ld0_0, ld0_1, ld1_0, ld1_1, ld2_0, ld2_1, ld3_0, ld3_1, ld4, ld2]

/-- The diagonal block, not the first: the new weighted sum of the second head. -/
theorem C_a1 (q0 : ¬P0_0 ch t) (q1 : ¬P0_1 ch t) (r : Fin 512) (d : Fin 128) : @Eq EReal ((step0 ch m ρ c t prev).2.2.2.2 (ix3 1 r d))
    (aNew (lower prev.2.1 (iblk ch m ρ c 1 t) 1 r) (fun j => iblk ch m ρ c 2 t (ix2 j d)) (prev.2.2.1 (ix3 1 r 0)) (prev.2.2.2.2 (ix3 1 r d))) := by
  rw [step0_C ch m ρ c t prev q0 q1]
  dsimp only
  delta kernelRun0_C
  dsimp only
  refine (left3 _ (ix3 1 r d)).trans ?_
  refine (canon_head1 (n := 128) _ _ _ r d).trans ?_
  change @Eq (Ideal .f32) (k0_pay60 _ (k0_pay56 (k0_pay43 _) _ _) (k0_pay57 (k0_pay43 _) _ _) _ _) _
  simp only [p60, p56, p57, p55, p53, p43, kernelRun0_C.sl.r, kernelRun0_C.sl.r_1, kernelRun0_C.sl.r_3, kernelRun0_C.sl.v123, kernelRun0_C.sl.v125, kernelRun0_C.sl.v129, kernelRun0_C.sl.v131, kernelRun0_C.sl.v64, kernelRun0_C.sl.v74, kernelRun0_C.sl.v83, kernelRun0_C.sl.v93, ld0_0, ld0_1, ld1_0, ld1_1, ld2_0, ld2_1, ld3_0, ld3_1, ld4, ld2]

/-- At the diagonal block the output is each head's weighted sum over its normaliser. -/
theorem C_out (q0 : ¬P0_0 ch t) (q1 : ¬P0_1 ch t) (r : Fin 512) (d : Fin 128) : @Eq EReal ((step0 ch m ρ c t prev).1 (ix2 r d))
    (if d.val / 64 = 0 then Ideal.div ((step0 ch m ρ c t prev).2.2.2.2 (ix3 0 r d)) ((step0 ch m ρ c t prev).2.2.2.1 (ix3 0 r 0))
      else Ideal.div ((step0 ch m ρ c t prev).2.2.2.2 (ix3 1 r d)) ((step0 ch m ρ c t prev).2.2.2.1 (ix3 1 r 0))) := by
  rw [step0_C ch m ρ c t prev q0 q1]
  dsimp only
  delta out0_C_3 kernelRun0_C
  dsimp only
  refine (congrFun (View.read_writes_junk_eq_canon _ _) _).trans ?_
  refine (congrFun (View.canon_cons_unit_lit _ _ _ (by decide)) _).trans ?_
  change @Eq (Ideal .bf16) (k0_pay7 k0_pay62 0#32 _ _ _ _ _) _
  refine (p7 _ _ _ _ r d).trans ?_
  rw [left3, left3, left2, left2]
  refine if_congr Iff.rfl ?_ ?_
  · exact congrArg₂ Ideal.div (cv3_0 _ _ r d) (cv2_0 _ _ r 0)
  · exact congrArg₂ Ideal.div (cv3_1 _ _ r d) (cv2_1 _ _ r 0)

/-! ## The first block, before the diagonal -/

/-- The masked query rows that stay in the scratch. -/
theorem B_q (q0 : P0_0 ch t) (q1 : P0_1 ch t) : @Eq (S2x512x256.Idx → EReal) ((step0 ch m ρ c t prev).2.1) (View.canon (Val := Elt Ideal) (e := .bf16) (kernelRun0_B.sl.HS0_2 (crd ch t) (ms0_0 ch t) (iblk ch m ρ c 0 t))) := by
  rw [step0_B ch m ρ c t prev q0 q1]
  dsimp only
  delta kernelRun0_B
  dsimp only
  exact funext fun x => left0 _ x
/-- The first block, before the diagonal: the new maximum of the first head. -/
theorem B_m0 (q0 : P0_0 ch t) (q1 : P0_1 ch t) (r : Fin 512) : @Eq EReal ((step0 ch m ρ c t prev).2.2.1 (ix3 0 r 0))
    (mNew (full (step0 ch m ρ c t prev).2.1 (iblk ch m ρ c 1 t) 0 r) ⊥) := by
  rw [B_q ch m ρ c t prev q0 q1]
  rw [step0_B ch m ρ c t prev q0 q1]
  dsimp only
  delta kernelRun0_B
  dsimp only
  refine (left1 _ (ix3 0 r 0)).trans ?_
  refine (canon_head0 (n := 1) _ _ _ _ _ r 0).trans ?_
  change @Eq (Ideal .f32) (k0_pay34 (k0_pay28 _ _ _) _) _
  simp only [p34, p28, p26, kernelRun0_B.sl.r, kernelRun0_B.sl.r_1, kernelRun0_B.sl.r_2, kernelRun0_B.sl.v16_1, kernelRun0_B.sl.v19, kernelRun0_B.sl.v29, kernelRun0_B.sl.v38, kernelRun0_B.sl.v51_1, kernelRun0_B.sl.v54_1, kernelRun0_B.sl.v64, kernelRun0_B.sl.v73, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_B.sl.HS1_1, kernelRun0_B.sl.HS1_2, kernelRun0_B.sl.HS2_1, kernelRun0_B.sl.HS2_2, kernelRun0_B.sl.HS3_1, kernelRun0_B.sl.HS3_2]

/-- The first block, before the diagonal: the new maximum of the second head. -/
theorem B_m1 (q0 : P0_0 ch t) (q1 : P0_1 ch t) (r : Fin 512) : @Eq EReal ((step0 ch m ρ c t prev).2.2.1 (ix3 1 r 0))
    (mNew (full (step0 ch m ρ c t prev).2.1 (iblk ch m ρ c 1 t) 1 r) ⊥) := by
  rw [B_q ch m ρ c t prev q0 q1]
  rw [step0_B ch m ρ c t prev q0 q1]
  dsimp only
  delta kernelRun0_B
  dsimp only
  refine (left1 _ (ix3 1 r 0)).trans ?_
  refine (canon_head1 (n := 1) _ _ _ r 0).trans ?_
  change @Eq (Ideal .f32) (k0_pay6 (k0_pay37 (k0_pay25 _) _ _) _) _
  simp only [p6, p37, p35, p25, kernelRun0_B.sl.r, kernelRun0_B.sl.r_1, kernelRun0_B.sl.r_2, kernelRun0_B.sl.v16_1, kernelRun0_B.sl.v19, kernelRun0_B.sl.v29, kernelRun0_B.sl.v38, kernelRun0_B.sl.v51_1, kernelRun0_B.sl.v54_1, kernelRun0_B.sl.v64, kernelRun0_B.sl.v73, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_B.sl.HS1_1, kernelRun0_B.sl.HS1_2, kernelRun0_B.sl.HS2_1, kernelRun0_B.sl.HS2_2, kernelRun0_B.sl.HS3_1, kernelRun0_B.sl.HS3_2]

/-- The first block, before the diagonal: the new normaliser of the first head. -/
theorem B_l0 (q0 : P0_0 ch t) (q1 : P0_1 ch t) (r : Fin 512) : @Eq EReal ((step0 ch m ρ c t prev).2.2.2.1 (ix3 0 r 0))
    (lNew (full (step0 ch m ρ c t prev).2.1 (iblk ch m ρ c 1 t) 0 r) ⊥ 0) := by
  rw [B_q ch m ρ c t prev q0 q1]
  rw [step0_B ch m ρ c t prev q0 q1]
  dsimp only
  delta kernelRun0_B
  dsimp only
  refine (left2 _ (ix3 0 r 0)).trans ?_
  refine (canon_head0 (n := 1) _ _ _ _ _ r 0).trans ?_
  change @Eq (Ideal .f32) (k0_pay31 _ _ _ _ _) _
  simp only [p31, p29, p30, p28, p26, kernelRun0_B.sl.r, kernelRun0_B.sl.r_1, kernelRun0_B.sl.r_2, kernelRun0_B.sl.v16_1, kernelRun0_B.sl.v19, kernelRun0_B.sl.v29, kernelRun0_B.sl.v38, kernelRun0_B.sl.v51_1, kernelRun0_B.sl.v54_1, kernelRun0_B.sl.v64, kernelRun0_B.sl.v73, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_B.sl.HS1_1, kernelRun0_B.sl.HS1_2, kernelRun0_B.sl.HS2_1, kernelRun0_B.sl.HS2_2, kernelRun0_B.sl.HS3_1, kernelRun0_B.sl.HS3_2]

/-- The first block, before the diagonal: the new normaliser of the second head. -/
theorem B_l1 (q0 : P0_0 ch t) (q1 : P0_1 ch t) (r : Fin 512) : @Eq EReal ((step0 ch m ρ c t prev).2.2.2.1 (ix3 1 r 0))
    (lNew (full (step0 ch m ρ c t prev).2.1 (iblk ch m ρ c 1 t) 1 r) ⊥ 0) := by
  rw [B_q ch m ρ c t prev q0 q1]
  rw [step0_B ch m ρ c t prev q0 q1]
  dsimp only
  delta kernelRun0_B
  dsimp only
  refine (left2 _ (ix3 1 r 0)).trans ?_
  refine (canon_head1 (n := 1) _ _ _ r 0).trans ?_
  change @Eq (Ideal .f32) (k0_pay40 (k0_pay25 _) _ _ _ _) _
  simp only [p40, p38, p39, p37, p35, p25, kernelRun0_B.sl.r, kernelRun0_B.sl.r_1, kernelRun0_B.sl.r_2, kernelRun0_B.sl.v16_1, kernelRun0_B.sl.v19, kernelRun0_B.sl.v29, kernelRun0_B.sl.v38, kernelRun0_B.sl.v51_1, kernelRun0_B.sl.v54_1, kernelRun0_B.sl.v64, kernelRun0_B.sl.v73, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_B.sl.HS1_1, kernelRun0_B.sl.HS1_2, kernelRun0_B.sl.HS2_1, kernelRun0_B.sl.HS2_2, kernelRun0_B.sl.HS3_1, kernelRun0_B.sl.HS3_2]

/-- The first block, before the diagonal: the new weighted sum of the first head. -/
theorem B_a0 (q0 : P0_0 ch t) (q1 : P0_1 ch t) (r : Fin 512) (d : Fin 128) : @Eq EReal ((step0 ch m ρ c t prev).2.2.2.2 (ix3 0 r d))
    (aNew (full (step0 ch m ρ c t prev).2.1 (iblk ch m ρ c 1 t) 0 r) (fun j => iblk ch m ρ c 2 t (ix2 j d)) ⊥ 0) := by
  rw [B_q ch m ρ c t prev q0 q1]
  rw [step0_B ch m ρ c t prev q0 q1]
  dsimp only
  delta kernelRun0_B
  dsimp only
  refine (left3 _ (ix3 0 r d)).trans ?_
  refine (canon_head0 (n := 128) _ _ _ _ _ r d).trans ?_
  change @Eq (Ideal .f32) (k0_pay33 (k0_pay32 _ _ _ _ _) _) _
  simp only [p33, p32, p29, p30, p28, p26, kernelRun0_B.sl.r, kernelRun0_B.sl.r_1, kernelRun0_B.sl.r_2, kernelRun0_B.sl.v16_1, kernelRun0_B.sl.v19, kernelRun0_B.sl.v29, kernelRun0_B.sl.v38, kernelRun0_B.sl.v51_1, kernelRun0_B.sl.v54_1, kernelRun0_B.sl.v64, kernelRun0_B.sl.v73, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_B.sl.HS1_1, kernelRun0_B.sl.HS1_2, kernelRun0_B.sl.HS2_1, kernelRun0_B.sl.HS2_2, kernelRun0_B.sl.HS3_1, kernelRun0_B.sl.HS3_2]

/-- The first block, before the diagonal: the new weighted sum of the second head. -/
theorem B_a1 (q0 : P0_0 ch t) (q1 : P0_1 ch t) (r : Fin 512) (d : Fin 128) : @Eq EReal ((step0 ch m ρ c t prev).2.2.2.2 (ix3 1 r d))
    (aNew (full (step0 ch m ρ c t prev).2.1 (iblk ch m ρ c 1 t) 1 r) (fun j => iblk ch m ρ c 2 t (ix2 j d)) ⊥ 0) := by
  rw [B_q ch m ρ c t prev q0 q1]
  rw [step0_B ch m ρ c t prev q0 q1]
  dsimp only
  delta kernelRun0_B
  dsimp only
  refine (left3 _ (ix3 1 r d)).trans ?_
  refine (canon_head1 (n := 128) _ _ _ r d).trans ?_
  change @Eq (Ideal .f32) (k0_pay5 (k0_pay41 (k0_pay25 _) _ _ _) (k0_pay42 (k0_pay25 _) _ _ _) _) _
  simp only [p5, p38, p39, p37, p35, p25, kernelRun0_B.sl.r, kernelRun0_B.sl.r_1, kernelRun0_B.sl.r_2, kernelRun0_B.sl.v16_1, kernelRun0_B.sl.v19, kernelRun0_B.sl.v29, kernelRun0_B.sl.v38, kernelRun0_B.sl.v51_1, kernelRun0_B.sl.v54_1, kernelRun0_B.sl.v64, kernelRun0_B.sl.v73, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_B.sl.HS1_1, kernelRun0_B.sl.HS1_2, kernelRun0_B.sl.HS2_1, kernelRun0_B.sl.HS2_2, kernelRun0_B.sl.HS3_1, kernelRun0_B.sl.HS3_2]

/-! ## The first block, where it is the diagonal one -/

/-- The masked query rows that stay in the scratch. -/
theorem A_q (q0 : P0_0 ch t) (q1 : ¬P0_1 ch t) : @Eq (S2x512x256.Idx → EReal) ((step0 ch m ρ c t prev).2.1) (View.canon (Val := Elt Ideal) (e := .bf16) (kernelRun0_A.sl.HS0_2 (crd ch t) (ms0_0 ch t) (iblk ch m ρ c 0 t))) := by
  rw [step0_A ch m ρ c t prev q0 q1]
  dsimp only
  delta kernelRun0_A
  dsimp only
  exact funext fun x => left0 _ x
/-- The first block, where it is the diagonal one: the new maximum of the first head. -/
theorem A_m0 (q0 : P0_0 ch t) (q1 : ¬P0_1 ch t) (r : Fin 512) : @Eq EReal ((step0 ch m ρ c t prev).2.2.1 (ix3 0 r 0))
    (mNew (lower (step0 ch m ρ c t prev).2.1 (iblk ch m ρ c 1 t) 0 r) ⊥) := by
  rw [A_q ch m ρ c t prev q0 q1]
  rw [step0_A ch m ρ c t prev q0 q1]
  dsimp only
  delta kernelRun0_A
  dsimp only
  refine (left1 _ (ix3 0 r 0)).trans ?_
  refine (canon_head0 (n := 1) _ _ _ _ _ r 0).trans ?_
  change @Eq (Ideal .f32) (k0_pay52 (k0_pay46 _ _ _) _) _
  simp only [p52, p46, p44, kernelRun0_A.sl.r, kernelRun0_A.sl.r_1, kernelRun0_A.sl.r_3, kernelRun0_A.sl.v123, kernelRun0_A.sl.v125, kernelRun0_A.sl.v129, kernelRun0_A.sl.v131, kernelRun0_A.sl.v16_1, kernelRun0_A.sl.v24_1, kernelRun0_A.sl.v34_1, kernelRun0_A.sl.v43_1, kernelRun0_A.sl.v56, kernelRun0_A.sl.v64, kernelRun0_A.sl.v74_1, kernelRun0_A.sl.v83, kernelRun0_A.sl.v93, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_A.sl.HS1_1, kernelRun0_A.sl.HS1_2, kernelRun0_A.sl.HS2_1, kernelRun0_A.sl.HS2_2, kernelRun0_A.sl.HS3_1, kernelRun0_A.sl.HS3_2]

/-- The first block, where it is the diagonal one: the new maximum of the second head. -/
theorem A_m1 (q0 : P0_0 ch t) (q1 : ¬P0_1 ch t) (r : Fin 512) : @Eq EReal ((step0 ch m ρ c t prev).2.2.1 (ix3 1 r 0))
    (mNew (lower (step0 ch m ρ c t prev).2.1 (iblk ch m ρ c 1 t) 1 r) ⊥) := by
  rw [A_q ch m ρ c t prev q0 q1]
  rw [step0_A ch m ρ c t prev q0 q1]
  dsimp only
  delta kernelRun0_A
  dsimp only
  refine (left1 _ (ix3 1 r 0)).trans ?_
  refine (canon_head1 (n := 1) _ _ _ r 0).trans ?_
  change @Eq (Ideal .f32) (k0_pay61 (k0_pay55 (k0_pay43 _) _ _) _) _
  simp only [p61, p55, p53, p43, kernelRun0_A.sl.r, kernelRun0_A.sl.r_1, kernelRun0_A.sl.r_3, kernelRun0_A.sl.v123, kernelRun0_A.sl.v125, kernelRun0_A.sl.v129, kernelRun0_A.sl.v131, kernelRun0_A.sl.v16_1, kernelRun0_A.sl.v24_1, kernelRun0_A.sl.v34_1, kernelRun0_A.sl.v43_1, kernelRun0_A.sl.v56, kernelRun0_A.sl.v64, kernelRun0_A.sl.v74_1, kernelRun0_A.sl.v83, kernelRun0_A.sl.v93, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_A.sl.HS1_1, kernelRun0_A.sl.HS1_2, kernelRun0_A.sl.HS2_1, kernelRun0_A.sl.HS2_2, kernelRun0_A.sl.HS3_1, kernelRun0_A.sl.HS3_2]

/-- The first block, where it is the diagonal one: the new normaliser of the first head. -/
theorem A_l0 (q0 : P0_0 ch t) (q1 : ¬P0_1 ch t) (r : Fin 512) : @Eq EReal ((step0 ch m ρ c t prev).2.2.2.1 (ix3 0 r 0))
    (lNew (lower (step0 ch m ρ c t prev).2.1 (iblk ch m ρ c 1 t) 0 r) ⊥ 0) := by
  rw [A_q ch m ρ c t prev q0 q1]
  rw [step0_A ch m ρ c t prev q0 q1]
  dsimp only
  delta kernelRun0_A
  dsimp only
  refine (left2 _ (ix3 0 r 0)).trans ?_
  refine (canon_head0 (n := 1) _ _ _ _ _ r 0).trans ?_
  change @Eq (Ideal .f32) (k0_pay49 _ _ _ _ _) _
  simp only [p49, p47, p48, p46, p44, kernelRun0_A.sl.r, kernelRun0_A.sl.r_1, kernelRun0_A.sl.r_3, kernelRun0_A.sl.v123, kernelRun0_A.sl.v125, kernelRun0_A.sl.v129, kernelRun0_A.sl.v131, kernelRun0_A.sl.v16_1, kernelRun0_A.sl.v24_1, kernelRun0_A.sl.v34_1, kernelRun0_A.sl.v43_1, kernelRun0_A.sl.v56, kernelRun0_A.sl.v64, kernelRun0_A.sl.v74_1, kernelRun0_A.sl.v83, kernelRun0_A.sl.v93, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_A.sl.HS1_1, kernelRun0_A.sl.HS1_2, kernelRun0_A.sl.HS2_1, kernelRun0_A.sl.HS2_2, kernelRun0_A.sl.HS3_1, kernelRun0_A.sl.HS3_2]

/-- The first block, where it is the diagonal one: the new normaliser of the second head. -/
theorem A_l1 (q0 : P0_0 ch t) (q1 : ¬P0_1 ch t) (r : Fin 512) : @Eq EReal ((step0 ch m ρ c t prev).2.2.2.1 (ix3 1 r 0))
    (lNew (lower (step0 ch m ρ c t prev).2.1 (iblk ch m ρ c 1 t) 1 r) ⊥ 0) := by
  rw [A_q ch m ρ c t prev q0 q1]
  rw [step0_A ch m ρ c t prev q0 q1]
  dsimp only
  delta kernelRun0_A
  dsimp only
  refine (left2 _ (ix3 1 r 0)).trans ?_
  refine (canon_head1 (n := 1) _ _ _ r 0).trans ?_
  change @Eq (Ideal .f32) (k0_pay59 (k0_pay58 (k0_pay43 _) _ _ _) _) _
  simp only [p59, p58, p56, p57, p55, p53, p43, kernelRun0_A.sl.r, kernelRun0_A.sl.r_1, kernelRun0_A.sl.r_3, kernelRun0_A.sl.v123, kernelRun0_A.sl.v125, kernelRun0_A.sl.v129, kernelRun0_A.sl.v131, kernelRun0_A.sl.v16_1, kernelRun0_A.sl.v24_1, kernelRun0_A.sl.v34_1, kernelRun0_A.sl.v43_1, kernelRun0_A.sl.v56, kernelRun0_A.sl.v64, kernelRun0_A.sl.v74_1, kernelRun0_A.sl.v83, kernelRun0_A.sl.v93, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_A.sl.HS1_1, kernelRun0_A.sl.HS1_2, kernelRun0_A.sl.HS2_1, kernelRun0_A.sl.HS2_2, kernelRun0_A.sl.HS3_1, kernelRun0_A.sl.HS3_2]

/-- The first block, where it is the diagonal one: the new weighted sum of the first head. -/
theorem A_a0 (q0 : P0_0 ch t) (q1 : ¬P0_1 ch t) (r : Fin 512) (d : Fin 128) : @Eq EReal ((step0 ch m ρ c t prev).2.2.2.2 (ix3 0 r d))
    (aNew (lower (step0 ch m ρ c t prev).2.1 (iblk ch m ρ c 1 t) 0 r) (fun j => iblk ch m ρ c 2 t (ix2 j d)) ⊥ 0) := by
  rw [A_q ch m ρ c t prev q0 q1]
  rw [step0_A ch m ρ c t prev q0 q1]
  dsimp only
  delta kernelRun0_A
  dsimp only
  refine (left3 _ (ix3 0 r d)).trans ?_
  refine (canon_head0 (n := 128) _ _ _ _ _ r d).trans ?_
  change @Eq (Ideal .f32) (k0_pay51 _ (k0_pay48 _ _ _) (k0_pay50 _ _ _ _) _) _
  simp only [p51, p47, p48, p46, p44, kernelRun0_A.sl.r, kernelRun0_A.sl.r_1, kernelRun0_A.sl.r_3, kernelRun0_A.sl.v123, kernelRun0_A.sl.v125, kernelRun0_A.sl.v129, kernelRun0_A.sl.v131, kernelRun0_A.sl.v16_1, kernelRun0_A.sl.v24_1, kernelRun0_A.sl.v34_1, kernelRun0_A.sl.v43_1, kernelRun0_A.sl.v56, kernelRun0_A.sl.v64, kernelRun0_A.sl.v74_1, kernelRun0_A.sl.v83, kernelRun0_A.sl.v93, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_A.sl.HS1_1, kernelRun0_A.sl.HS1_2, kernelRun0_A.sl.HS2_1, kernelRun0_A.sl.HS2_2, kernelRun0_A.sl.HS3_1, kernelRun0_A.sl.HS3_2]

/-- The first block, where it is the diagonal one: the new weighted sum of the second head. -/
theorem A_a1 (q0 : P0_0 ch t) (q1 : ¬P0_1 ch t) (r : Fin 512) (d : Fin 128) : @Eq EReal ((step0 ch m ρ c t prev).2.2.2.2 (ix3 1 r d))
    (aNew (lower (step0 ch m ρ c t prev).2.1 (iblk ch m ρ c 1 t) 1 r) (fun j => iblk ch m ρ c 2 t (ix2 j d)) ⊥ 0) := by
  rw [A_q ch m ρ c t prev q0 q1]
  rw [step0_A ch m ρ c t prev q0 q1]
  dsimp only
  delta kernelRun0_A
  dsimp only
  refine (left3 _ (ix3 1 r d)).trans ?_
  refine (canon_head1 (n := 128) _ _ _ r d).trans ?_
  change @Eq (Ideal .f32) (k0_pay60 _ (k0_pay56 (k0_pay43 _) _ _) (k0_pay57 (k0_pay43 _) _ _) _ _) _
  simp only [p60, p56, p57, p55, p53, p43, kernelRun0_A.sl.r, kernelRun0_A.sl.r_1, kernelRun0_A.sl.r_3, kernelRun0_A.sl.v123, kernelRun0_A.sl.v125, kernelRun0_A.sl.v129, kernelRun0_A.sl.v131, kernelRun0_A.sl.v16_1, kernelRun0_A.sl.v24_1, kernelRun0_A.sl.v34_1, kernelRun0_A.sl.v43_1, kernelRun0_A.sl.v56, kernelRun0_A.sl.v64, kernelRun0_A.sl.v74_1, kernelRun0_A.sl.v83, kernelRun0_A.sl.v93, ld0_0, ld0_1, ld1_0, ld1_1, ld2_0, ld2_1, ld3_0, ld3_1, ld4, ld2, cv0_0, cv0_1, cv1_0, cv1_1, cv2_0, cv2_1, cv3_0, cv3_1, lNew, aNew, left0, full, lower, sk1, sk3, wh1, wh3, p2, p3, p4, kernelRun0_A.sl.HS1_1, kernelRun0_A.sl.HS1_2, kernelRun0_A.sl.HS2_1, kernelRun0_A.sl.HS2_2, kernelRun0_A.sl.HS3_1, kernelRun0_A.sl.HS3_2]

/-- Likewise where the first block is the diagonal one: the output is each head's weighted sum over its normaliser. -/
theorem A_out (q0 : P0_0 ch t) (q1 : ¬P0_1 ch t) (r : Fin 512) (d : Fin 128) : @Eq EReal ((step0 ch m ρ c t prev).1 (ix2 r d))
    (if d.val / 64 = 0 then Ideal.div ((step0 ch m ρ c t prev).2.2.2.2 (ix3 0 r d)) ((step0 ch m ρ c t prev).2.2.2.1 (ix3 0 r 0))
      else Ideal.div ((step0 ch m ρ c t prev).2.2.2.2 (ix3 1 r d)) ((step0 ch m ρ c t prev).2.2.2.1 (ix3 1 r 0))) := by
  rw [step0_A ch m ρ c t prev q0 q1]
  dsimp only
  delta out0_A_3 kernelRun0_A
  dsimp only
  refine (congrFun (View.read_writes_junk_eq_canon _ _) _).trans ?_
  refine (congrFun (View.canon_cons_unit_lit _ _ _ (by decide)) _).trans ?_
  change @Eq (Ideal .bf16) (k0_pay7 k0_pay62 0#32 _ _ _ _ _) _
  refine (p7 _ _ _ _ r d).trans ?_
  rw [left3, left3, left2, left2]
  refine if_congr Iff.rfl ?_ ?_
  · exact congrArg₂ Ideal.div (cv3_0 _ _ r d) (cv2_0 _ _ r 0)
  · exact congrArg₂ Ideal.div (cv3_1 _ _ r d) (cv2_1 _ _ r 0)

end Cert.FoxIdeal.Math

end
-- ==== Proof.FoxMask.lean ====
/-
The forgetting attention: the query rows that stay in the scratch, one head's lanes kept and the others zero.
-/
module

public import proofs.«01_k».proof.Proof.FoxStep

@[expose] public section

set_option maxRecDepth 16384

noncomputable section

namespace Cert.FoxIdeal.Math

open Cert.FoxIdeal Cert.FoxIdeal.Gen Idealize.ShloMosaic Idealize.ShloMosaic.TcCoe

/-- Lane `l` belongs to head `h` of pair `p`: one of its 64 channels, or one of its 8 gate lanes. -/
abbrev onLane (p : Fin 4) (h : Fin 2) (l : Fin 256) : Prop :=
  (l.val < 128 ∧ l.val / 64 = h.val) ∨ (128 ≤ l.val ∧ (l.val - 128) / 8 = 2 * p.val + h.val)

theorem p14 (v : FVec Ideal S512x256 .bf16) (p : Fin 4) (r : Fin 512) (l : Fin 256) :
    @Eq EReal (k0_pay14 v (Scalar.addi (Scalar.muli 2#32 (BitVec.ofNat 32 p.val)) 0#32) k0_pay9 k0_pay10 k0_pay11 8#32 k0_pay12 k0_pay13 (ix3 0 r l))
      (if onLane p 0 l then v (ix2 r l) else 0) := by
  pointwise [k0_pay14]
  refine if_congr ?_ rfl ?_
  · revert p l; decide +kernel
  · rfl
theorem p1A (v : FVec Ideal S512x256 .bf16) (p : Fin 4) (r : Fin 512) (l : Fin 256) :
    @Eq EReal (k0_pay1 v (Scalar.addi (Scalar.muli 2#32 (BitVec.ofNat 32 p.val)) 1#32) kernelRun0_A.sl.v117 (cmpi .sge kernelRun0_A.sl.v15 kernelRun0_A.sl.v18) kernelRun0_A.sl.v52 kernelRun0_A.sl.v71 kernelRun0_A.sl.v34 (ix3 0 r l))
      (if onLane p 1 l then v (ix2 r l) else 0) := by
  pointwise [k0_pay1]
  refine if_congr ?_ rfl ?_
  · revert p l; decide +kernel
  · rfl

variable (ch : Fin 1) (m : (ℓ : Loc nD τ sig) → Buf (Elt Ideal) ℓ) (ρ : Dev nD → PrngReg) (c : Dev nD) (t : Fin (cfgA ch).N)
variable (prev : (S512x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3))

/-- The pair of heads of a grid point. -/
abbrev pairOf : Fin 4 := crd ch t 1

theorem A_q0 (q0 : P0_0 ch t) (q1 : ¬P0_1 ch t) (r : Fin 512) (l : Fin 256) :
    @Eq EReal ((step0 ch m ρ c t prev).2.1 (ix3 0 r l)) (if onLane (pairOf ch t) 0 l then iblk ch m ρ c 0 t (ix4 0 0 r l) else 0) := by
  rw [A_q ch m ρ c t prev q0 q1]
  refine (canon_head0 (n := 256) _ _ _ _ _ r l).trans ?_
  change @Eq (Ideal .bf16) (k0_pay14 (k0_pay8 _) (Scalar.addi (Scalar.muli 2#32 (BitVec.ofNat 32 (pairOf ch t).val)) 0#32) k0_pay9 k0_pay10 k0_pay11 8#32 k0_pay12 k0_pay13 _) _
  refine (p14 _ (pairOf ch t) r l).trans ?_
  rw [p8]
  exact if_congr Iff.rfl (ld4 (ms0_0 ch t).view (iblk ch m ρ c 0 t) _ (ix4 0 0 r l)) rfl
theorem A_q1 (q0 : P0_0 ch t) (q1 : ¬P0_1 ch t) (r : Fin 512) (l : Fin 256) :
    @Eq EReal ((step0 ch m ρ c t prev).2.1 (ix3 1 r l)) (if onLane (pairOf ch t) 1 l then iblk ch m ρ c 0 t (ix4 0 0 r l) else 0) := by
  rw [A_q ch m ρ c t prev q0 q1]
  refine (canon_head1 (n := 256) _ _ _ r l).trans ?_
  change @Eq (Ideal .bf16) (k0_pay1 (k0_pay8 _) (Scalar.addi (Scalar.muli 2#32 (BitVec.ofNat 32 (pairOf ch t).val)) 1#32) kernelRun0_A.sl.v117 (cmpi .sge kernelRun0_A.sl.v15 kernelRun0_A.sl.v18) kernelRun0_A.sl.v52 kernelRun0_A.sl.v71 kernelRun0_A.sl.v34 _) _
  refine (p1A _ (pairOf ch t) r l).trans ?_
  rw [p8]
  exact if_congr Iff.rfl (ld4 (ms0_0 ch t).view (iblk ch m ρ c 0 t) _ (ix4 0 0 r l)) rfl
theorem B_q0 (q0 : P0_0 ch t) (q1 : P0_1 ch t) (r : Fin 512) (l : Fin 256) :
    @Eq EReal ((step0 ch m ρ c t prev).2.1 (ix3 0 r l)) (if onLane (pairOf ch t) 0 l then iblk ch m ρ c 0 t (ix4 0 0 r l) else 0) := by
  rw [B_q ch m ρ c t prev q0 q1]
  refine (canon_head0 (n := 256) _ _ _ _ _ r l).trans ?_
  change @Eq (Ideal .bf16) (k0_pay14 (k0_pay8 _) (Scalar.addi (Scalar.muli 2#32 (BitVec.ofNat 32 (pairOf ch t).val)) 0#32) k0_pay9 k0_pay10 k0_pay11 8#32 k0_pay12 k0_pay13 _) _
  refine (p14 _ (pairOf ch t) r l).trans ?_
  rw [p8]
  exact if_congr Iff.rfl (ld4 (ms0_0 ch t).view (iblk ch m ρ c 0 t) _ (ix4 0 0 r l)) rfl
theorem B_q1 (q0 : P0_0 ch t) (q1 : P0_1 ch t) (r : Fin 512) (l : Fin 256) :
    @Eq EReal ((step0 ch m ρ c t prev).2.1 (ix3 1 r l)) (if onLane (pairOf ch t) 1 l then iblk ch m ρ c 0 t (ix4 0 0 r l) else 0) := by
  rw [B_q ch m ρ c t prev q0 q1]
  refine (canon_head1 (n := 256) _ _ _ r l).trans ?_
  change @Eq (Ideal .bf16) (k0_pay1 (k0_pay8 _) (Scalar.addi (Scalar.muli 2#32 (BitVec.ofNat 32 (pairOf ch t).val)) 1#32) kernelRun0_A.sl.v117 (cmpi .sge kernelRun0_A.sl.v15 kernelRun0_A.sl.v18) kernelRun0_A.sl.v52 kernelRun0_A.sl.v71 kernelRun0_A.sl.v34 _) _
  refine (p1A _ (pairOf ch t) r l).trans ?_
  rw [p8]
  exact if_congr Iff.rfl (ld4 (ms0_0 ch t).view (iblk ch m ρ c 0 t) _ (ix4 0 0 r l)) rfl

end Cert.FoxIdeal.Math

end
-- ==== Proof.FoxSched.lean ====
/-
The forgetting attention: the order of the grid's points, and where each point's blocks lie in the arrays.
-/
module

public import proofs.«01_k».proof.Proof.FoxMask

@[expose] public section

set_option maxRecDepth 16384

noncomputable section

namespace Cert.FoxIdeal.Math

open Cert.FoxIdeal Cert.FoxIdeal.Gen Idealize.ShloMosaic Idealize.ShloMosaic.TcCoe

/-! ## A grid point: the sequence, the pair of heads, the query tile and the key tile -/

abbrev tb (t : Fin (cfgA 0).N) : Nat := t.val / 544
abbrev tp (t : Fin (cfgA 0).N) : Nat := t.val / 136 % 4
abbrev ts (t : Fin (cfgA 0).N) : Fin 136 := ⟨t.val % 136, Nat.mod_lt _ (by decide)⟩
abbrev tq (t : Fin (cfgA 0).N) : Nat := (pinT_0 0 (ix1 (ts t))).toNat
abbrev tk (t : Fin (cfgA 0).N) : Nat := (pinT_1 0 (ix1 (ts t))).toNat

theorem n_eq : (cfgA 0).N = 1088 := rfl
theorem small (s : Fin 136) : (pinT_0 0 (ix1 s)).toNat < 16 ∧ (pinT_1 0 (ix1 s)).toNat ≤ (pinT_0 0 (ix1 s)).toNat := by
  revert s; decide +kernel
theorem tb_lt (t : Fin (cfgA 0).N) : tb t < 2 := by have : t.val < 1088 := t.isLt; unfold tb; omega
theorem tp_lt (t : Fin (cfgA 0).N) : tp t < 4 := by unfold tp; omega
theorem tq_lt (t : Fin (cfgA 0).N) : tq t < 16 := (small (ts t)).1
theorem tk_le (t : Fin (cfgA 0).N) : tk t ≤ tq t := (small (ts t)).2
/-- The two tests of the kernel, at a grid point. -/
theorem tests : ∀ t : Fin (cfgA 0).N, (P0_0 0 t ↔ tk t = 0) ∧ (P0_1 0 t ↔ tk t < tq t) := by
  decide +kernel
theorem pair_eq : ∀ t : Fin (cfgA 0).N, (pairOf 0 t).val = tp t := by
  decide +kernel
/-- The point before one that is not a query tile's first: the key tile before, the rest the same. -/
theorem before : ∀ t : Fin (cfgA 0).N, tk t ≠ 0 → t.val ≠ 0 ∧ (t.val - 1) / 544 = tb t ∧ (t.val - 1) / 136 % 4 = tp t
    ∧ (pinT_0 0 (ix1 ⟨(t.val - 1) % 136, Nat.mod_lt _ (by decide)⟩)).toNat = tq t ∧ (pinT_1 0 (ix1 ⟨(t.val - 1) % 136, Nat.mod_lt _ (by decide)⟩)).toNat + 1 = tk t := by
  decide +kernel
theorem index0 : ∀ t : Fin (cfgA 0).N, ((cfgA 0).win 0).index t = ![tb t, tp t, tq t, 0] := by
  decide +kernel
theorem index1 : ∀ t : Fin (cfgA 0).N, ((cfgA 0).win 1).index t = ![tb t, tp t, tk t, 0] := by
  decide +kernel
theorem index2 : ∀ t : Fin (cfgA 0).N, ((cfgA 0).win 2).index t = ![tb t * 16 + tk t, tp t] := by
  decide +kernel
theorem index3 : ∀ t : Fin (cfgA 0).N, ((cfgA 0).win 3).index t = ![tb t * 16 + tq t, tp t] := by
  decide +kernel
theorem flush3 : ∀ t : Fin (cfgA 0).N, ((cfgA 0).win 3).flush t = true → tk t = tq t := by
  decide +kernel

/-! ## The blocks -/

variable (m : (ℓ : Loc nD τ sig) → Buf (Elt Ideal) ℓ) (ρ : Dev nD → PrngReg) (c : Dev nD)

theorem blkQ (t : Fin (cfgA 0).N) (r : Fin 512) (l : Fin 256) :
    @Eq EReal (iblk 0 m ρ c 0 t (ix4 0 0 r l)) (m ((c : Thread nD τ).loc main_arg2) (ix4 ⟨tb t, tb_lt t⟩ ⟨tp t, tp_lt t⟩ ⟨512 * tq t + r.val, by have := tq_lt t; omega⟩ l)) := by
  blk_simp [iblk]
  refine congrArg _ ?_
  blk_ext []
  · exact congrFun (index0 t) 0
  · exact congrFun (index0 t) 1
  · exact (congrArg (· * 512 + r.val) (congrFun (index0 t) 2)).trans (by show tq t * 512 + r.val = 512 * tq t + r.val; omega)
  · exact (congrArg (· * 256 + l.val) (congrFun (index0 t) 3)).trans (by show 0 * 256 + l.val = l.val; omega)
theorem blkK (t : Fin (cfgA 0).N) (r : Fin 512) (l : Fin 256) :
    @Eq EReal (iblk 0 m ρ c 1 t (ix4 0 0 r l)) (m ((c : Thread nD τ).loc main_arg3) (ix4 ⟨tb t, tb_lt t⟩ ⟨tp t, tp_lt t⟩ ⟨512 * tk t + r.val, by have := tq_lt t; have := tk_le t; omega⟩ l)) := by
  blk_simp [iblk]
  refine congrArg _ ?_
  blk_ext []
  · exact congrFun (index1 t) 0
  · exact congrFun (index1 t) 1
  · exact (congrArg (· * 512 + r.val) (congrFun (index1 t) 2)).trans (by show tk t * 512 + r.val = 512 * tk t + r.val; omega)
  · exact (congrArg (· * 256 + l.val) (congrFun (index1 t) 3)).trans (by show 0 * 256 + l.val = l.val; omega)
theorem blkV (t : Fin (cfgA 0).N) (r : Fin 512) (d : Fin 128) :
    @Eq EReal (iblk 0 m ρ c 2 t (ix2 r d)) (m ((c : Thread nD τ).loc main_arg4) (ix2 ⟨8192 * tb t + (512 * tk t + r.val), by have := tq_lt t; have := tk_le t; have := tb_lt t; omega⟩ ⟨128 * tp t + d.val, by have := tp_lt t; omega⟩)) := by
  blk_simp [iblk]
  refine congrArg _ ?_
  blk_ext []
  · exact (congrArg (· * 512 + r.val) (congrFun (index2 t) 0)).trans (by show (tb t * 16 + tk t) * 512 + r.val = 8192 * tb t + (512 * tk t + r.val); omega)
  · exact (congrArg (· * 128 + d.val) (congrFun (index2 t) 1)).trans (by show tp t * 128 + d.val = 128 * tp t + d.val; omega)

end Cert.FoxIdeal.Math

end
-- ==== Proof.FoxTraj.lean ====
/-
The forgetting attention: what the scratch buffers hold after each grid point, as statements about the arrays.
-/
module

public import proofs.«01_k».proof.Proof.FoxSched
public import proofs.«01_k».proof.Proof.FoxMath

@[expose] public section

set_option maxRecDepth 16384

noncomputable section

namespace Cert.FoxIdeal.Math

open Cert.FoxIdeal Cert.FoxIdeal.Gen Idealize.ShloMosaic Idealize.ShloMosaic.TcCoe FoxMath

/-! ## One block of keys after another -/

section Blocks

variable {ι : Type} [DecidableEq ι] (s x : ι → EReal) (S T : Finset ι) (e : Fin 512 → ι)

/-- The new maximum is the maximum over the keys so far and the block. -/
theorem max_step (hT : T = Finset.univ.image e) : mNew (fun j => s (e j)) (top s S) = top s (S ∪ T) := by
  unfold mNew top
  rw [hT, Finset.sup_union, Finset.sup_image]; rfl

theorem block_sum (hT : T = Finset.univ.image e) (hi : Function.Injective e) (r : EReal) :
    ∑ j, Ideal.exp (s (e j) - r) * x (e j) = wsum s x r T := by
  rw [hT, wsum, Finset.sum_image fun a _ b _ h => hi h]

/-- The new weighted sum is the weighted sum over the keys so far and the block. -/
theorem sum_step (hT : T = Finset.univ.image e) (hi : Function.Injective e) (hd : Disjoint S T) (h : ∀ k ∈ S, s k ≠ ⊤) (r : ℝ)
    (hr : top s (S ∪ T) = (r : EReal)) :
    aNew (fun j => s (e j)) (fun j => x (e j)) (top s S) (wsum s x (top s S) S) = wsum s x (top s (S ∪ T)) (S ∪ T) := by
  unfold aNew
  rw [max_step s S T e hT, block_sum s x T e hT hi, hr]
  exact gather s x S T hd h r

/-- The new sum of exponentials likewise. -/
theorem exp_step (hT : T = Finset.univ.image e) (hi : Function.Injective e) (hd : Disjoint S T) (h : ∀ k ∈ S, s k ≠ ⊤) (r : ℝ)
    (hr : top s (S ∪ T) = (r : EReal)) :
    lNew (fun j => s (e j)) (top s S) (wsum s (fun _ => 1) (top s S) S) = wsum s (fun _ => 1) (top s (S ∪ T)) (S ∪ T) := by
  rw [← sum_step s (fun _ => 1) S T e hT hi hd h r hr]
  simp only [aNew, lNew, mul_one]

end Blocks

/-! ## The scores, the values and the keys of the arrays -/

variable (m : (ℓ : Loc nD τ sig) → Buf (Elt Ideal) ℓ) (ρ : Dev nD → PrngReg) (c : Dev nD)

/-- An entry of the queries. -/
abbrev qAt (b : Fin 2) (p : Fin 4) (q : Fin 8192) (l : Fin 256) : EReal := m ((c : Thread nD τ).loc main_arg2) (ix4 b p q l)
/-- An entry of the keys. -/
abbrev kAt (b : Fin 2) (p : Fin 4) (q : Fin 8192) (l : Fin 256) : EReal := m ((c : Thread nD τ).loc main_arg3) (ix4 b p q l)
/-- The value of a key in a column of a pair's 128. -/
def val (b : Fin 2) (p : Fin 4) (d : Fin 128) (k : Fin 8192) : EReal :=
  m ((c : Thread nD τ).loc main_arg4) (ix2 ⟨8192 * b.val + k.val, by omega⟩ ⟨128 * p.val + d.val, by omega⟩)
/-- A query's entry on the lanes of one head, zero on the others. -/
def qOn (b : Fin 2) (p : Fin 4) (h : Fin 2) (q : Fin 8192) (l : Fin 256) : EReal := if onLane p h l then qAt m c b p q l else 0
/-- The product of a query on one head's lanes with a key. -/
def prod (b : Fin 2) (p : Fin 4) (h : Fin 2) (q k : Fin 8192) : EReal := ∑ l : Fin 256, qOn m c b p h q l * kAt m c b p k l
/-- The score: that product where the key is not after the query, else minus infinity. -/
def sc (b : Fin 2) (p : Fin 4) (h : Fin 2) (q k : Fin 8192) : EReal := if k.val ≤ q.val then prod m c b p h q k else ⊥

/-- The keys of the first `J` positions. -/
def pre (J : Nat) : Finset (Fin 8192) := Finset.univ.filter fun k => k.val < J
/-- A key tile's key. -/
def key (j : Nat) (hj : j < 16) (e : Fin 512) : Fin 8192 := ⟨512 * j + e.val, by omega⟩

theorem key_inj (j : Nat) (hj : j < 16) : Function.Injective (key j hj) := by
  intro a b h
  have : 512 * j + a.val = 512 * j + b.val := congrArg Fin.val h
  apply Fin.ext; omega
theorem pre_zero : pre 0 = ∅ := by
  unfold pre; exact Finset.filter_eq_empty_iff.mpr fun k _ => by omega
theorem pre_succ (j : Nat) (hj : j < 16) : pre (512 * j) ∪ Finset.univ.image (key j hj) = pre (512 * (j + 1)) := by
  ext k
  simp only [pre, Finset.mem_union, Finset.mem_filter, Finset.mem_univ, true_and, Finset.mem_image]
  constructor
  · rintro (h | ⟨e, rfl⟩)
    · omega
    · show 512 * j + e.val < _; omega
  · intro h
    by_cases h' : k.val < 512 * j
    · exact .inl h'
    · exact .inr ⟨⟨k.val - 512 * j, by omega⟩, Fin.ext (by show 512 * j + (k.val - 512 * j) = k.val; omega)⟩
theorem pre_disj (j : Nat) (hj : j < 16) : Disjoint (pre (512 * j)) (Finset.univ.image (key j hj)) := by
  rw [Finset.disjoint_left]
  intro k hk hk'
  simp only [pre, Finset.mem_filter, Finset.mem_univ, true_and, Finset.mem_image] at hk hk'
  obtain ⟨e, rfl⟩ := hk'
  have : 512 * j + e.val < 512 * j := hk
  omega

/-- Every entry of the queries and of the keys is real. -/
def Finite : Prop := (∀ b p q l, ∃ x : ℝ, qAt m c b p q l = (x : EReal)) ∧ ∀ b p q l, ∃ x : ℝ, kAt m c b p q l = (x : EReal)

variable {m c}

theorem sum_real {n : Nat} (f : Fin n → EReal) (h : ∀ i, ∃ x : ℝ, f i = (x : EReal)) : ∃ x : ℝ, ∑ i, f i = (x : EReal) := by
  choose g hg using h
  refine ⟨∑ i, g i, ?_⟩
  rw [show f = fun i => (g i : EReal) from funext hg]
  induction (Finset.univ : Finset (Fin n)) using Finset.induction_on with
  | empty => simp
  | insert a S ha ih => rw [Finset.sum_insert ha, Finset.sum_insert ha, EReal.coe_add, ih]

theorem prod_real (hf : Finite m c) (b : Fin 2) (p : Fin 4) (h : Fin 2) (q k : Fin 8192) : ∃ x : ℝ, prod m c b p h q k = (x : EReal) := by
  refine sum_real _ fun l => ?_
  obtain ⟨y, hy⟩ := hf.2 b p k l
  unfold qOn
  split
  · obtain ⟨x, hx⟩ := hf.1 b p q l
    exact ⟨x * y, by rw [hx, hy]; push_cast; rfl⟩
  · exact ⟨0, by rw [zero_mul]; rfl⟩

theorem sc_ne_top (hf : Finite m c) (b : Fin 2) (p : Fin 4) (h : Fin 2) (q k : Fin 8192) : sc m c b p h q k ≠ ⊤ := by
  unfold sc
  split
  · obtain ⟨x, hx⟩ := prod_real hf b p h q k
    rw [hx]; exact EReal.coe_ne_top x
  · exact bot_ne_top

theorem sc_self (hf : Finite m c) (b : Fin 2) (p : Fin 4) (h : Fin 2) (q k : Fin 8192) (hk : k.val ≤ q.val) : sc m c b p h q k ≠ ⊥ := by
  unfold sc
  rw [if_pos hk]
  obtain ⟨x, hx⟩ := prod_real hf b p h q k
  rw [hx]; exact EReal.coe_ne_bot x

/-- The largest score over a set with a key that is not after the query is real. -/
theorem top_real (hf : Finite m c) (b : Fin 2) (p : Fin 4) (h : Fin 2) (q k : Fin 8192) (hk : k.val ≤ q.val) (S : Finset (Fin 8192)) (hS : k ∈ S) :
    ∃ r : ℝ, top (sc m c b p h q) S = (r : EReal) := by
  have h1 : top (sc m c b p h q) S ≠ ⊤ := top_ne_top _ _ fun k _ => sc_ne_top hf b p h q k
  have h2 : top (sc m c b p h q) S ≠ ⊥ := fun e => sc_self hf b p h q k hk (le_bot_iff.mp (e ▸ Finset.le_sup (f := sc m c b p h q) hS))
  exact ⟨_, (EReal.coe_toReal h1 h2).symm⟩

variable (m c)

/-! ## The state after a grid point -/

abbrev bF (t : Fin (cfgA 0).N) : Fin 2 := ⟨tb t, tb_lt t⟩
abbrev pF (t : Fin (cfgA 0).N) : Fin 4 := ⟨tp t, tp_lt t⟩
abbrev qF (t : Fin (cfgA 0).N) (r : Fin 512) : Fin 8192 := ⟨512 * tq t + r.val, by have := tq_lt t; omega⟩
theorem tk_lt (t : Fin (cfgA 0).N) : tk t < 16 := lt_of_le_of_lt (tk_le t) (tq_lt t)

/-- The scores of one head of a point's query row. -/
abbrev scT (t : Fin (cfgA 0).N) (h : Fin 2) (r : Fin 512) : Fin 8192 → EReal := sc m c (bF t) (pF t) h (qF t r)
abbrev valT (t : Fin (cfgA 0).N) (d : Fin 128) : Fin 8192 → EReal := val m c (bF t) (pF t) d

/-- The state of the scratch buffers, for the keys of the set `S`, one head. -/
def Holds (t : Fin (cfgA 0).N) (h : Fin 2) (S : Finset (Fin 8192))
    (M L : S2x512x1.Idx → EReal) (A : S2x512x128.Idx → EReal) : Prop :=
  ∀ r, M (ix3 h r 0) = top (scT m c t h r) S
    ∧ L (ix3 h r 0) = wsum (scT m c t h r) (fun _ => 1) (top (scT m c t h r) S) S
    ∧ ∀ d, A (ix3 h r d) = wsum (scT m c t h r) (valT m c t d) (top (scT m c t h r) S) S

/-- The queries in their scratch buffer. -/
def Masked (t : Fin (cfgA 0).N) (h : Fin 2) (Q : S2x512x256.Idx → EReal) : Prop :=
  ∀ r l, Q (ix3 h r l) = qOn m c (bF t) (pF t) h (qF t r) l

variable {m c}

theorem block_prod (t : Fin (cfgA 0).N) (h : Fin 2) (Q : S2x512x256.Idx → EReal) (hQ : Masked m c t h Q) (r j : Fin 512) :
    ∑ l : Fin 256, Q (ix3 h r l) * iblk 0 m ρ c 1 t (ix4 0 0 j l) = prod m c (bF t) (pF t) h (qF t r) (key (tk t) (tk_lt t) j) := by
  refine Finset.sum_congr rfl fun l _ => ?_
  rw [hQ r l, blkK]; rfl

/-- The scores of a key tile before the diagonal. -/
theorem full_eq (t : Fin (cfgA 0).N) (h : Fin 2) (Q : S2x512x256.Idx → EReal) (hQ : Masked m c t h Q) (hlt : tk t < tq t) (r : Fin 512) :
    full Q (iblk 0 m ρ c 1 t) h r = fun j => scT m c t h r (key (tk t) (tk_lt t) j) := by
  funext j
  have hle : (key (tk t) (tk_lt t) j).val ≤ (qF t r).val := by show 512 * tk t + j.val ≤ 512 * tq t + r.val; omega
  rw [scT, sc, if_pos hle]
  exact block_prod ρ t h Q hQ r j

/-- The scores of the key tile on the diagonal. -/
theorem lower_eq (t : Fin (cfgA 0).N) (h : Fin 2) (Q : S2x512x256.Idx → EReal) (hQ : Masked m c t h Q) (he : tk t = tq t) (r : Fin 512) :
    lower Q (iblk 0 m ρ c 1 t) h r = fun j => scT m c t h r (key (tk t) (tk_lt t) j) := by
  funext j
  rw [scT, sc]
  refine if_congr (show j.val ≤ r.val ↔ 512 * tk t + j.val ≤ 512 * tq t + r.val by omega) (block_prod ρ t h Q hQ r j) rfl

theorem val_eq (t : Fin (cfgA 0).N) (d : Fin 128) : (fun j : Fin 512 => (iblk 0 m ρ c 2 t (ix2 j d) : EReal)) = fun j => valT m c t d (key (tk t) (tk_lt t) j) := by
  funext j
  exact blkV m ρ c t j d

/-- One key tile: from the keys before it to the keys up to it. -/
theorem tile_step (hf : Finite m c) (t : Fin (cfgA 0).N) (h : Fin 2) (M L M' L' : S2x512x1.Idx → EReal) (A A' : S2x512x128.Idx → EReal)
    (hs : Holds m c t h (pre (512 * tk t)) M L A)
    (hm : ∀ r, M' (ix3 h r 0) = mNew (fun j => scT m c t h r (key (tk t) (tk_lt t) j)) (M (ix3 h r 0)))
    (hl : ∀ r, L' (ix3 h r 0) = lNew (fun j => scT m c t h r (key (tk t) (tk_lt t) j)) (M (ix3 h r 0)) (L (ix3 h r 0)))
    (ha : ∀ r d, A' (ix3 h r d) = aNew (fun j => scT m c t h r (key (tk t) (tk_lt t) j)) (fun j => valT m c t d (key (tk t) (tk_lt t) j)) (M (ix3 h r 0)) (A (ix3 h r d))) :
    Holds m c t h (pre (512 * (tk t + 1))) M' L' A' := by
  intro r
  obtain ⟨e1, e2, e3⟩ := hs r
  have hmem : key (tk t) (tk_lt t) 0 ∈ pre (512 * tk t) ∪ Finset.univ.image (key (tk t) (tk_lt t)) :=
    Finset.mem_union_right _ (Finset.mem_image_of_mem _ (Finset.mem_univ _))
  obtain ⟨x, hx⟩ := top_real hf (bF t) (pF t) h (qF t r) (key (tk t) (tk_lt t) 0)
    (by show 512 * tk t + 0 ≤ 512 * tq t + r.val; have := tk_le t; omega) _ hmem
  rw [← pre_succ (tk t) (tk_lt t)]
  have hn : ∀ k ∈ pre (512 * tk t), scT m c t h r k ≠ ⊤ := fun k _ => sc_ne_top hf _ _ _ _ k
  refine ⟨?_, ?_, fun d => ?_⟩
  · rw [hm r, e1]; exact max_step _ _ _ _ rfl
  · rw [hl r, e1, e2]; exact exp_step _ _ _ _ rfl (key_inj _ _) (pre_disj _ _) hn x hx
  · rw [ha r d, e1, e3 d]; exact sum_step _ _ _ _ _ rfl (key_inj _ _) (pre_disj _ _) hn x hx

/-- No keys: the state a query tile begins with. -/
theorem holds_none (t : Fin (cfgA 0).N) (h : Fin 2) : Holds m c t h (pre (512 * 0)) (fun _ => ⊥) (fun _ => 0) (fun _ => 0) := by
  intro r
  rw [Nat.mul_zero, pre_zero]
  exact ⟨rfl, Finset.sum_empty.symm, fun d => Finset.sum_empty.symm⟩

end Cert.FoxIdeal.Math

end
-- ==== Proof.FoxPre.lean ====
/-
The precondition of the forgetting attention: the two tables are the schedule's, and the queries and keys are finite.
-/
module

public import proofs.«01_k».proof.Defs
public import proofs.«01_k».proof.Proof.FoxTraj
public import proofs.«01_k».proof.Proof.Gen.Fox.Flash
public import proofs.«01_k».proof.Proof.Gen.Pre_causal_finite
public import Idealize.ShloMosaic.Lib.ReduceAll
public import Idealize.ShloMosaic.Lib.Affine

@[expose] public section

set_option maxRecDepth 16384

noncomputable section

namespace Cert.Pre_causal_finite

open Idealize.ShloMosaic Idealize.ShloMosaic.IntOp Idealize.ShloMosaic.Host Idealize.SL.Sem
open Facts

theorem infLit : Ideal.ofBits FTy.f32 2139095040#32 = ⊤ := by
  simp [Ideal.ofBits, Ideal.ieee]

/-- An entry whose absolute value is below infinity is a real number. -/
theorem entry_real {s : Shape} (x : FVec Ideal s .f32) (b : S_.BroadcastsInDim s (![] : Fin 0 → Fin s.rank)) (i : s.Idx)
    (h : cmpf .olt (Host.absf x) (broadcastInDim s ![] b (constant S_ .f32 0x7F800000#32)) i = 1#1) : ∃ y : ℝ, (x i : EReal) = y := by
  have h' : BitVec.ofBool (decide (max (x i : EReal) (-(x i : EReal)) < Ideal.ofBits FTy.f32 2139095040#32)) = 1#1 := h
  rw [infLit] at h'
  have hl : max (x i : EReal) (-(x i : EReal)) < ⊤ := by
    by_contra hn
    rw [decide_eq_false hn] at h'
    exact absurd h' (by decide)
  obtain ⟨h0, h1⟩ := max_lt_iff.mp hl
  refine ⟨(x i : EReal).toReal, (EReal.coe_toReal h0.ne ?_).symm⟩
  intro hb
  rw [hb] at h1
  exact absurd h1 (by simp)

/-- Words found equal entry by entry are equal. -/
theorem words_eq {s : Shape} (x y : IVec s 32) (i : s.Idx) (h : cmpi .eq x y i = 1#1) : x i = y i := by
  have h' : BitVec.ofBool (x i == y i) = 1#1 := h
  by_contra hn
  rw [beq_eq_false_iff_ne.mpr hn] at h'
  exact absurd h' (by decide)

instance : Subsingleton S_.Idx := ⟨fun a b => funext fun i => i.elim0⟩

variable [Facts] {F : FTy → Type} [FloatOps F]

/-- The precondition says that the first table is the schedule's query tiles, -/
theorem table0 (a0 a1 : IVec S136 32) (q k : FVec F S2x4x8192x256 .bf16) (v : FVec F S16384x512 .bf16) (h : fn a0 a1 q k v = fun _ => 1#1) :
    a0 = fun i => lit0 (S136.rowMajor i) := by
  have h0 := congrFun h (fun i => i.elim0)
  unfold fn fn_part1 at h0
  obtain ⟨h0, -⟩ := andi_eq_one.mp h0
  obtain ⟨h0, -⟩ := andi_eq_one.mp h0
  obtain ⟨e0, -⟩ := andi_eq_one.mp h0
  exact funext fun i => words_eq _ _ i (reduce_andi_all _ _ _ _ _ e0 i)
/-- and the second its key tiles, -/
theorem table1 (a0 a1 : IVec S136 32) (q k : FVec F S2x4x8192x256 .bf16) (v : FVec F S16384x512 .bf16) (h : fn a0 a1 q k v = fun _ => 1#1) :
    a1 = fun i => lit1 (S136.rowMajor i) := by
  have h0 := congrFun h (fun i => i.elim0)
  unfold fn fn_part1 at h0
  obtain ⟨h0, -⟩ := andi_eq_one.mp h0
  obtain ⟨h0, -⟩ := andi_eq_one.mp h0
  obtain ⟨-, e1⟩ := andi_eq_one.mp h0
  exact funext fun i => words_eq _ _ i (reduce_andi_all _ _ _ _ _ e1 i)
/-- and that the queries and the keys are real numbers. -/
theorem real_of_pre (a0 a1 : IVec S136 32) (q k : FVec Ideal S2x4x8192x256 .bf16) (v : FVec Ideal S16384x512 .bf16) (h : fn (F := Ideal) a0 a1 q k v = fun _ => 1#1) :
    (∀ i, ∃ y : ℝ, (q i : EReal) = y) ∧ ∀ i, ∃ y : ℝ, (k i : EReal) = y := by
  have h0 := congrFun h (fun i => i.elim0)
  unfold fn fn_part1 at h0
  obtain ⟨h0, e3⟩ := andi_eq_one.mp h0
  obtain ⟨-, e2⟩ := andi_eq_one.mp h0
  exact ⟨fun i => entry_real (extf .f32 q bitsLt_bf16_f32) _ i (reduce_andi_all _ _ _ _ _ e2 i), fun i => entry_real (extf .f32 k bitsLt_bf16_f32) _ i (reduce_andi_all _ _ _ _ _ e3 i)⟩

end Cert.Pre_causal_finite

namespace Cert.FoxIdeal.Math

open Cert.FoxIdeal Cert.FoxIdeal.Gen Idealize.ShloMosaic Idealize.ShloMosaic.TcCoe Idealize.SL.Sem

theorem lit0_eq : ∀ s : Fin 136, Pre_causal_finite.lit0 (Pre_causal_finite.S136.rowMajor (ix1 s)) = pinT_0 0 (ix1 s) := by decide +kernel
theorem lit1_eq : ∀ s : Fin 136, Pre_causal_finite.lit1 (Pre_causal_finite.S136.rowMajor (ix1 s)) = pinT_1 0 (ix1 s) := by decide +kernel

/-- The tables the kernel's run is proved at are the schedule's. -/
theorem pinned (m : (ℓ : Loc nD τ sig) → Buf (Elt Ideal) ℓ) (h : Pre_FoxIdeal m) : Pinned 0 m :=
  ⟨fun c => (Pre_causal_finite.table0 _ _ _ _ _ (h c)).trans (by funext i; idx_vars i; exact lit0_eq i0),
    fun c => (Pre_causal_finite.table1 _ _ _ _ _ (h c)).trans (by funext i; idx_vars i; exact lit1_eq i0)⟩

/-- The queries and keys of a memory of which the precondition holds are finite. -/
theorem finite (m : (ℓ : Loc nD τ sig) → Buf (Elt Ideal) ℓ) (h : Pre_FoxIdeal m) (c : Dev nD) : Finite m c :=
  ⟨fun _ _ _ _ => (Pre_causal_finite.real_of_pre _ _ _ _ _ (h c)).1 _, fun _ _ _ _ => (Pre_causal_finite.real_of_pre _ _ _ _ _ (h c)).2 _⟩

end Cert.FoxIdeal.Math

namespace Cert.Fox.Math

open Cert.Fox Cert.Fox.Gen Idealize.ShloMosaic Idealize.ShloMosaic.TcCoe Idealize.SL.Sem

theorem lit0_eq : ∀ s : Fin 136, Pre_causal_finite.lit0 (Pre_causal_finite.S136.rowMajor (ix1 s)) = pinT_0 0 (ix1 s) := by decide +kernel
theorem lit1_eq : ∀ s : Fin 136, Pre_causal_finite.lit1 (Pre_causal_finite.S136.rowMajor (ix1 s)) = pinT_1 0 (ix1 s) := by decide +kernel

/-- The same of the version's own program. -/
theorem pinned (m : (ℓ : Loc nD τ sig) → Buf (Elt Bits) ℓ) (h : Pre_Fox m) : Pinned 0 m :=
  ⟨fun c => (Pre_causal_finite.table0 _ _ _ _ _ (h c)).trans (by funext i; idx_vars i; exact lit0_eq i0),
    fun c => (Pre_causal_finite.table1 _ _ _ _ _ (h c)).trans (by funext i; idx_vars i; exact lit1_eq i0)⟩

end Cert.Fox.Math

end
-- ==== Proof.FoxInv.lean ====
/-
The forgetting attention: the state after every grid point, and what a query tile's last point writes.
-/
module

public import proofs.«01_k».proof.Proof.FoxTraj

@[expose] public section

set_option maxRecDepth 16384

noncomputable section

namespace Cert.FoxIdeal.Math

open Cert.FoxIdeal Cert.FoxIdeal.Gen Idealize.ShloMosaic Idealize.ShloMosaic.TcCoe FoxMath

variable (m : (ℓ : Loc nD τ sig) → Buf (Elt Ideal) ℓ) (ρ : Dev nD → PrngReg) (c : Dev nD) (t : Fin (cfgA 0).N)
variable (prev : (S512x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3))

/-- The scratch buffers hold a point's queries, and both heads' state for the keys of a set. -/
def Inv (S : Finset (Fin 8192)) : Prop := (∀ h, Masked m c t h prev.2.1) ∧ ∀ h, Holds m c t h S prev.2.2.1 prev.2.2.2.1 prev.2.2.2.2

/-- A point that is not a query tile's first leaves the queries as they are. -/
theorem D_q (q0 : ¬P0_0 0 t) (q1 : P0_1 0 t) : (step0 0 m ρ c t prev).2.1 = prev.2.1 := by
  rw [step0_D 0 m ρ c t prev q0 q1]
  dsimp only
  delta kernelRun0_D
  rfl
theorem C_q (q0 : ¬P0_0 0 t) (q1 : ¬P0_1 0 t) : (step0 0 m ρ c t prev).2.1 = prev.2.1 := by
  rw [step0_C 0 m ρ c t prev q0 q1]
  dsimp only
  delta kernelRun0_C
  rfl

variable {m}

/-- The state a query tile's first key tile begins with. -/
theorem start (hk : tk t = 0) (h : Fin 2) : Holds m c t h (pre (512 * tk t)) (fun _ => ⊥) (fun _ => 0) (fun _ => 0) := by
  rw [hk]; exact holds_none t h

/-- The first key tile, on the diagonal. -/
theorem inv_A (hf : Finite m c) (q0 : P0_0 0 t) (q1 : ¬P0_1 0 t) (hk : tk t = 0) (he : tk t = tq t) :
    Inv m c t (step0 0 m ρ c t prev) (pre (512 * (tk t + 1))) := by
  have hp : pairOf 0 t = pF t := Fin.ext (pair_eq t)
  have hQ : ∀ h, Masked m c t h (step0 0 m ρ c t prev).2.1 := Fin.forall_fin_two.mpr
    ⟨fun r l => (A_q0 0 m ρ c t prev q0 q1 r l).trans (by rw [hp, blkQ]; rfl),
     fun r l => (A_q1 0 m ρ c t prev q0 q1 r l).trans (by rw [hp, blkQ]; rfl)⟩
  refine ⟨hQ, Fin.forall_fin_two.mpr ⟨?_, ?_⟩⟩
  · exact tile_step hf t 0 (fun _ => ⊥) (fun _ => 0) _ _ (fun _ => 0) _ (start c t hk 0)
      (fun r => (A_m0 0 m ρ c t prev q0 q1 r).trans (congrArg (fun s => mNew s _) (lower_eq ρ t 0 _ (hQ 0) he r)))
      (fun r => (A_l0 0 m ρ c t prev q0 q1 r).trans (congrArg (fun s => lNew s _ _) (lower_eq ρ t 0 _ (hQ 0) he r)))
      (fun r d => (A_a0 0 m ρ c t prev q0 q1 r d).trans (congrArg₂ (fun s v => aNew s v _ _) (lower_eq ρ t 0 _ (hQ 0) he r) (val_eq ρ t d)))
  · exact tile_step hf t 1 (fun _ => ⊥) (fun _ => 0) _ _ (fun _ => 0) _ (start c t hk 1)
      (fun r => (A_m1 0 m ρ c t prev q0 q1 r).trans (congrArg (fun s => mNew s _) (lower_eq ρ t 1 _ (hQ 1) he r)))
      (fun r => (A_l1 0 m ρ c t prev q0 q1 r).trans (congrArg (fun s => lNew s _ _) (lower_eq ρ t 1 _ (hQ 1) he r)))
      (fun r d => (A_a1 0 m ρ c t prev q0 q1 r d).trans (congrArg₂ (fun s v => aNew s v _ _) (lower_eq ρ t 1 _ (hQ 1) he r) (val_eq ρ t d)))

/-- The first key tile, before the diagonal. -/
theorem inv_B (hf : Finite m c) (q0 : P0_0 0 t) (q1 : P0_1 0 t) (hk : tk t = 0) (hlt : tk t < tq t) :
    Inv m c t (step0 0 m ρ c t prev) (pre (512 * (tk t + 1))) := by
  have hp : pairOf 0 t = pF t := Fin.ext (pair_eq t)
  have hQ : ∀ h, Masked m c t h (step0 0 m ρ c t prev).2.1 := Fin.forall_fin_two.mpr
    ⟨fun r l => (B_q0 0 m ρ c t prev q0 q1 r l).trans (by rw [hp, blkQ]; rfl),
     fun r l => (B_q1 0 m ρ c t prev q0 q1 r l).trans (by rw [hp, blkQ]; rfl)⟩
  refine ⟨hQ, Fin.forall_fin_two.mpr ⟨?_, ?_⟩⟩
  · exact tile_step hf t 0 (fun _ => ⊥) (fun _ => 0) _ _ (fun _ => 0) _ (start c t hk 0)
      (fun r => (B_m0 0 m ρ c t prev q0 q1 r).trans (congrArg (fun s => mNew s _) (full_eq ρ t 0 _ (hQ 0) hlt r)))
      (fun r => (B_l0 0 m ρ c t prev q0 q1 r).trans (congrArg (fun s => lNew s _ _) (full_eq ρ t 0 _ (hQ 0) hlt r)))
      (fun r d => (B_a0 0 m ρ c t prev q0 q1 r d).trans (congrArg₂ (fun s v => aNew s v _ _) (full_eq ρ t 0 _ (hQ 0) hlt r) (val_eq ρ t d)))
  · exact tile_step hf t 1 (fun _ => ⊥) (fun _ => 0) _ _ (fun _ => 0) _ (start c t hk 1)
      (fun r => (B_m1 0 m ρ c t prev q0 q1 r).trans (congrArg (fun s => mNew s _) (full_eq ρ t 1 _ (hQ 1) hlt r)))
      (fun r => (B_l1 0 m ρ c t prev q0 q1 r).trans (congrArg (fun s => lNew s _ _) (full_eq ρ t 1 _ (hQ 1) hlt r)))
      (fun r d => (B_a1 0 m ρ c t prev q0 q1 r d).trans (congrArg₂ (fun s v => aNew s v _ _) (full_eq ρ t 1 _ (hQ 1) hlt r) (val_eq ρ t d)))

/-- A later key tile, on the diagonal. -/
theorem inv_C (hf : Finite m c) (q0 : ¬P0_0 0 t) (q1 : ¬P0_1 0 t) (he : tk t = tq t) (hi : Inv m c t prev (pre (512 * tk t))) :
    Inv m c t (step0 0 m ρ c t prev) (pre (512 * (tk t + 1))) := by
  have hQ := hi.1
  refine ⟨by rw [C_q m ρ c t prev q0 q1]; exact hQ, Fin.forall_fin_two.mpr ⟨?_, ?_⟩⟩
  · exact tile_step hf t 0 prev.2.2.1 prev.2.2.2.1 _ _ prev.2.2.2.2 _ (hi.2 0)
      (fun r => (C_m0 0 m ρ c t prev q0 q1 r).trans (congrArg (fun s => mNew s _) (lower_eq ρ t 0 _ (hQ 0) he r)))
      (fun r => (C_l0 0 m ρ c t prev q0 q1 r).trans (congrArg (fun s => lNew s _ _) (lower_eq ρ t 0 _ (hQ 0) he r)))
      (fun r d => (C_a0 0 m ρ c t prev q0 q1 r d).trans (congrArg₂ (fun s v => aNew s v _ _) (lower_eq ρ t 0 _ (hQ 0) he r) (val_eq ρ t d)))
  · exact tile_step hf t 1 prev.2.2.1 prev.2.2.2.1 _ _ prev.2.2.2.2 _ (hi.2 1)
      (fun r => (C_m1 0 m ρ c t prev q0 q1 r).trans (congrArg (fun s => mNew s _) (lower_eq ρ t 1 _ (hQ 1) he r)))
      (fun r => (C_l1 0 m ρ c t prev q0 q1 r).trans (congrArg (fun s => lNew s _ _) (lower_eq ρ t 1 _ (hQ 1) he r)))
      (fun r d => (C_a1 0 m ρ c t prev q0 q1 r d).trans (congrArg₂ (fun s v => aNew s v _ _) (lower_eq ρ t 1 _ (hQ 1) he r) (val_eq ρ t d)))

/-- A later key tile, before the diagonal. -/
theorem inv_D (hf : Finite m c) (q0 : ¬P0_0 0 t) (q1 : P0_1 0 t) (hlt : tk t < tq t) (hi : Inv m c t prev (pre (512 * tk t))) :
    Inv m c t (step0 0 m ρ c t prev) (pre (512 * (tk t + 1))) := by
  have hQ := hi.1
  refine ⟨by rw [D_q m ρ c t prev q0 q1]; exact hQ, Fin.forall_fin_two.mpr ⟨?_, ?_⟩⟩
  · exact tile_step hf t 0 prev.2.2.1 prev.2.2.2.1 _ _ prev.2.2.2.2 _ (hi.2 0)
      (fun r => (D_m0 0 m ρ c t prev q0 q1 r).trans (congrArg (fun s => mNew s _) (full_eq ρ t 0 _ (hQ 0) hlt r)))
      (fun r => (D_l0 0 m ρ c t prev q0 q1 r).trans (congrArg (fun s => lNew s _ _) (full_eq ρ t 0 _ (hQ 0) hlt r)))
      (fun r d => (D_a0 0 m ρ c t prev q0 q1 r d).trans (congrArg₂ (fun s v => aNew s v _ _) (full_eq ρ t 0 _ (hQ 0) hlt r) (val_eq ρ t d)))
  · exact tile_step hf t 1 prev.2.2.1 prev.2.2.2.1 _ _ prev.2.2.2.2 _ (hi.2 1)
      (fun r => (D_m1 0 m ρ c t prev q0 q1 r).trans (congrArg (fun s => mNew s _) (full_eq ρ t 1 _ (hQ 1) hlt r)))
      (fun r => (D_l1 0 m ρ c t prev q0 q1 r).trans (congrArg (fun s => lNew s _ _) (full_eq ρ t 1 _ (hQ 1) hlt r)))
      (fun r d => (D_a1 0 m ρ c t prev q0 q1 r d).trans (congrArg₂ (fun s v => aNew s v _ _) (full_eq ρ t 1 _ (hQ 1) hlt r) (val_eq ρ t d)))

/-- The same query tile at another point: the same state. -/
theorem inv_congr (t' : Fin (cfgA 0).N) (hb : tb t' = tb t) (hp : tp t' = tp t) (hq : tq t' = tq t) (S : Finset (Fin 8192))
    (h : Inv m c t' prev S) : Inv m c t prev S := by
  have eb : bF t' = bF t := Fin.ext hb
  have ep : pF t' = pF t := Fin.ext hp
  have eq : ∀ r, qF t' r = qF t r := fun r => Fin.ext (by show 512 * tq t' + r.val = 512 * tq t + r.val; rw [hq])
  obtain ⟨h1, h2⟩ := h
  refine ⟨fun h r l => ?_, fun h r => ?_⟩
  · have := h1 h r l; rwa [eb, ep, eq] at this
  · have := h2 h r; unfold scT valT at this ⊢; rwa [eb, ep, eq] at this

/-- After every grid point: the state for the keys up to and with the point's key tile. -/
theorem inv (hf : Finite m c) (n : Nat) : ∀ hn : n < (cfgA 0).N, Inv m c ⟨n, hn⟩ (traj0 0 m ρ c n hn) (pre (512 * (tk ⟨n, hn⟩ + 1))) := by
  induction n using Nat.strong_induction_on with
  | _ n ih =>
    intro hn
    have e := traj0_eq 0 m ρ c ⟨n, hn⟩
    simp only at e
    rw [e]
    generalize ht : (⟨n, hn⟩ : Fin (cfgA 0).N) = t
    have hv : t.val = n := by rw [← ht]
    obtain ⟨t0, t1⟩ := tests t
    have hle := tk_le t
    by_cases hk : tk t = 0
    · have q0 := t0.mpr hk
      by_cases hlt : tk t < tq t
      · exact inv_B ρ c t _ hf q0 (t1.mpr hlt) hk hlt
      · exact inv_A ρ c t _ hf q0 (fun h => hlt (t1.mp h)) hk (by omega)
    · have q0 : ¬P0_0 0 t := fun h => hk (t0.mp h)
      obtain ⟨h0, hb, hp, hq, hj⟩ := before t hk
      have hn' : t.val - 1 < (cfgA 0).N := by have := t.isLt; omega
      have hprev : prev0 0 m ρ c t = traj0 0 m ρ c (t.val - 1) hn' := by unfold prev0; rw [dif_neg h0]
      have hi := ih (t.val - 1) (by omega) hn'
      rw [show tk ⟨t.val - 1, hn'⟩ + 1 = tk t from hj] at hi
      have hi' := inv_congr c t _ ⟨t.val - 1, hn'⟩ hb hp hq _ hi
      rw [hprev]
      by_cases hlt : tk t < tq t
      · exact inv_D ρ c t _ hf q0 (t1.mpr hlt) hlt hi'
      · exact inv_C ρ c t _ hf q0 (fun h => hlt (t1.mp h)) (by omega) hi'

/-! ## What a query tile's last point writes -/

/-- Softmax attention of scores and values over all keys. -/
def attend (s v : Fin 8192 → EReal) : EReal :=
  ∑ k, Ideal.div (Ideal.exp (s k - Finset.univ.sup s)) (∑ k', Ideal.exp (s k' - Finset.univ.sup s)) * v k

/-- The weighted sum over the normaliser, for the keys up to the query, is the attention over all keys. -/
theorem attend_eq (hf : Finite m c) (b : Fin 2) (p : Fin 4) (h : Fin 2) (q : Fin 8192) (v : Fin 8192 → EReal) (J : Nat) (hJ : q.val < J) :
    Ideal.div (wsum (sc m c b p h q) v (top (sc m c b p h q) (pre J)) (pre J))
      (wsum (sc m c b p h q) (fun _ => 1) (top (sc m c b p h q) (pre J)) (pre J)) = attend (sc m c b p h q) v := by
  have hq : q ∈ pre J := by simp only [pre, Finset.mem_filter, Finset.mem_univ, true_and]; exact hJ
  have hout : ∀ k, k ∉ pre J → sc m c b p h q k = ⊥ := by
    intro k hk
    simp only [pre, Finset.mem_filter, Finset.mem_univ, true_and] at hk
    unfold sc; exact if_neg (by omega)
  obtain ⟨r, hr⟩ := top_real hf b p h q q le_rfl (pre J) hq
  have hu : Finset.univ.sup (sc m c b p h q) = (r : EReal) := by rw [← hr]; exact (top_univ _ _ hout).symm
  rw [hr, wsum_univ _ _ _ r hout, wsum_univ _ _ _ r hout]
  unfold attend
  rw [hu]
  obtain ⟨L, hL, hs⟩ := norm_pos (sc m c b p h q) Finset.univ (fun k _ => sc_ne_top hf b p h q k) q (Finset.mem_univ _) r (sc_self hf b p h q q le_rfl)
  simp only [wsum, mul_one]
  rw [hs]
  exact div_sum _ _ _ L hL

/-- The output of a query tile: the attention of the column's head. -/
theorem out_eq (hf : Finite m c) (he : tk t = tq t) (r : Fin 512) (d : Fin 128) (h : Fin 2) (hd : d.val / 64 = h.val) :
    @Eq EReal ((traj0 0 m ρ c t.val t.isLt).1 (ix2 r d)) (attend (scT m c t h r) (valT m c t d)) := by
  have hi := inv ρ c hf t.val t.isLt
  obtain ⟨t0, t1⟩ := tests t
  have q1 : ¬P0_1 0 t := fun h => by have := t1.mp h; omega
  have key : @Eq EReal ((traj0 0 m ρ c t.val t.isLt).1 (ix2 r d))
      (Ideal.div ((traj0 0 m ρ c t.val t.isLt).2.2.2.2 (ix3 h r d)) ((traj0 0 m ρ c t.val t.isLt).2.2.2.1 (ix3 h r 0))) := by
    rw [traj0_eq 0 m ρ c t]
    have o : @Eq EReal ((step0 0 m ρ c t (prev0 0 m ρ c t)).1 (ix2 r d))
        (if d.val / 64 = 0 then Ideal.div ((step0 0 m ρ c t (prev0 0 m ρ c t)).2.2.2.2 (ix3 0 r d)) ((step0 0 m ρ c t (prev0 0 m ρ c t)).2.2.2.1 (ix3 0 r 0))
          else Ideal.div ((step0 0 m ρ c t (prev0 0 m ρ c t)).2.2.2.2 (ix3 1 r d)) ((step0 0 m ρ c t (prev0 0 m ρ c t)).2.2.2.1 (ix3 1 r 0))) := by
      by_cases q0 : P0_0 0 t
      · exact A_out 0 m ρ c t _ q0 q1 r d
      · exact C_out 0 m ρ c t _ q0 q1 r d
    refine o.trans ?_
    match h, hd with
    | 0, hd => exact if_pos hd
    | 1, hd => exact if_neg (by rw [hd]; decide)
  obtain ⟨-, e2, e3⟩ := hi.2 h r
  rw [key]
  have := congrArg₂ Ideal.div (e3 d) e2
  refine this.trans ?_
  exact attend_eq c hf (bF t) (pF t) h (qF t r) _ _ (by show 512 * tq t + r.val < 512 * (tk t + 1); omega)

end Cert.FoxIdeal.Math

end
-- ==== Proof.FoxRef.lean ====
/-
The forgetting attention's reference, stage by stage: its result at an entry.
-/
module

public import proofs.«01_k».proof.Proof.Gen.FoxRefIdeal.Run
public import proofs.«01_k».proof.Proof.FoxInv
public import Idealize.ShloMosaic.Lib.Pointwise

@[expose] public section

set_option maxRecDepth 16384

noncomputable section

namespace Cert.FoxRefIdeal.Math

open Cert.FoxRefIdeal Cert.FoxRefIdeal.Gen Cert.FoxRefIdeal.Value Idealize.ShloMosaic Idealize.ShloMosaic.TcCoe Idealize.SL.Sem

variable {F : FTy → Type} [FloatOps F]

/-- The heads' 64 channels. -/
def chOf (a : FVec F S2x4x8192x256 .bf16) : FVec F S2x8x8192x64 .f32 :=
  shapeCast _ (transpose S2x4x2x8192x64 [0, 1, 3, 2, 4] (shapeCast _ (extractStridedSlice S2x4x8192x128 ![0, 0, 0, 0] (extf .f32 a bitsLt_bf16_f32) slices_S2x4x8192x256_S2x4x8192x128_0_0_0_0) shapeCasts_S2x4x8192x128_S2x4x8192x2x64) transposes_S2x4x8192x2x64_S2x4x2x8192x64_0_1_3_2_4) shapeCasts_S2x4x2x8192x64_S2x8x8192x64

/-- The 64 gate lanes, head by head. -/
def lnOf (a : FVec F S2x4x8192x256 .bf16) : FVec F S2x4x8192x8x8 .f32 :=
  shapeCast _ (extractStridedSlice S2x4x8192x64 ![0, 0, 0, 128] (extf .f32 a bitsLt_bf16_f32) slices_S2x4x8192x256_S2x4x8192x64_0_0_0_128) shapeCasts_S2x4x8192x64_S2x4x8192x8x8

/-- Pair 0's two heads' gate lanes. -/
def pk0Of (g : FVec F S2x4x8192x8x8 .f32) : FVec F S2x1x8192x2x8 .f32 :=
  broadcastInDim S2x1x8192x2x8 ![0, 2, 3, 4] bcast_S2x8192x2x8_S2x1x8192x2x8_0_2_3_4 (shapeCast _ (extractStridedSlice S2x1x8192x2x8 ![0, 0, 0, 0, 0] g slices_S2x4x8192x8x8_S2x1x8192x2x8_0_0_0_0_0) shapeCasts_S2x1x8192x2x8_S2x8192x2x8)

/-- Pair 1's two heads' gate lanes. -/
def pk1Of (g : FVec F S2x4x8192x8x8 .f32) : FVec F S2x1x8192x2x8 .f32 :=
  broadcastInDim S2x1x8192x2x8 ![0, 2, 3, 4] bcast_S2x8192x2x8_S2x1x8192x2x8_0_2_3_4 (shapeCast _ (extractStridedSlice S2x1x8192x2x8 ![0, 1, 0, 2, 0] g slices_S2x4x8192x8x8_S2x1x8192x2x8_0_1_0_2_0) shapeCasts_S2x1x8192x2x8_S2x8192x2x8)

/-- Pair 2's two heads' gate lanes. -/
def pk2Of (g : FVec F S2x4x8192x8x8 .f32) : FVec F S2x1x8192x2x8 .f32 :=
  broadcastInDim S2x1x8192x2x8 ![0, 2, 3, 4] bcast_S2x8192x2x8_S2x1x8192x2x8_0_2_3_4 (shapeCast _ (extractStridedSlice S2x1x8192x2x8 ![0, 2, 0, 4, 0] g slices_S2x4x8192x8x8_S2x1x8192x2x8_0_2_0_4_0) shapeCasts_S2x1x8192x2x8_S2x8192x2x8)

/-- Pair 3's two heads' gate lanes. -/
def pk3Of (g : FVec F S2x4x8192x8x8 .f32) : FVec F S2x1x8192x2x8 .f32 :=
  broadcastInDim S2x1x8192x2x8 ![0, 2, 3, 4] bcast_S2x8192x2x8_S2x1x8192x2x8_0_2_3_4 (shapeCast _ (extractStridedSlice S2x1x8192x2x8 ![0, 3, 0, 6, 0] g slices_S2x4x8192x8x8_S2x1x8192x2x8_0_3_0_6_0) shapeCasts_S2x1x8192x2x8_S2x8192x2x8)

/-- The four pairs' gate lanes, one after another. -/
def ctOf (x0 x1 x2 x3 : FVec F S2x1x8192x2x8 .f32) : FVec F S2x4x8192x2x8 .f32 :=
  (concatenate S2x4x8192x2x8 1 [⟨S2x1x8192x2x8, (x0 : (⟨S2x1x8192x2x8, .f32⟩ : BufTy).Contents (Elt F))⟩, ⟨S2x1x8192x2x8, (x1 : (⟨S2x1x8192x2x8, .f32⟩ : BufTy).Contents (Elt F))⟩, ⟨S2x1x8192x2x8, (x2 : (⟨S2x1x8192x2x8, .f32⟩ : BufTy).Contents (Elt F))⟩, ⟨S2x1x8192x2x8, (x3 : (⟨S2x1x8192x2x8, .f32⟩ : BufTy).Contents (Elt F))⟩] concatenates_S2x1x8192x2x8_S2x1x8192x2x8_S2x1x8192x2x8_S2x1x8192x2x8_S2x4x8192x2x8_d1 : (⟨S2x4x8192x2x8, .f32⟩ : BufTy).Contents (Elt F))

/-- A head's gate lanes, of the pairs'. -/
def hdOf (x : FVec F S2x4x8192x2x8 .f32) : FVec F S2x8x8192x8 .f32 :=
  shapeCast _ (transpose S2x4x2x8192x8 [0, 1, 3, 2, 4] x transposes_S2x4x8192x2x8_S2x4x2x8192x8_0_1_3_2_4) shapeCasts_S2x4x2x8192x8_S2x8x8192x8

/-- The heads' 8 gate lanes. -/
def gtOf (a : FVec F S2x4x8192x256 .bf16) : FVec F S2x8x8192x8 .f32 :=
  hdOf (ctOf (pk0Of (lnOf a)) (pk1Of (lnOf a)) (pk2Of (lnOf a)) (pk3Of (lnOf a)))

/-- The masked scores. -/
def scOf (q k : FVec F S2x8x8192x64 .f32) (cq ck : FVec F S2x8x8192x8 .f32) : FVec F S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (addf (Host.dotGeneral dot_S2x8x8192x64_S2x8x8192x64_S2x8x8192x8192_3_3_2_2_01_01 none q k) (Host.dotGeneral dot_S2x8x8192x8_S2x8x8192x8_S2x8x8192x8192_3_3_2_2_01_01 none cq ck)) (broadcastInDim S2x8x8192x8192 ![] bcast_S_S2x8x8192x8192 (id (constant S_ .f32 0xFF800000#32)))

/-- Every query's greatest score. -/
def mxOf (s : FVec F S2x8x8192x8192 .f32) : FVec F S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)

/-- The exponentials of the scores less the greatest. -/
def exOf (s : FVec F S2x8x8192x8192 .f32) (x : FVec F S2x8x8192 .f32) : FVec F S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 x)))

/-- Every query's sum of exponentials. -/
def snOf (e : FVec F S2x8x8192x8192 .f32) : FVec F S2x8x8192 .f32 :=
  Host.reduceAdd e (constant S_ .f32 0x00000000#32) reducesTo_S2x8x8192x8192_S2x8x8192_d3 h_S_

/-- The exponentials over their sum. -/
def prOf (e : FVec F S2x8x8192x8192 .f32) (z : FVec F S2x8x8192 .f32) : FVec F S2x8x8192x8192 .f32 :=
  Host.divf e (broadcastInDim S2x8x8192x8192 ![0, 1, 2, 3] bcast_S2x8x8192x1_S2x8x8192x8192_0_1_2_3 (broadcastInDim S2x8x8192x1 ![0, 1, 2] bcast_S2x8x8192_S2x8x8192x1_0_1_2 z))

/-- The result of the values and the probabilities. -/
def outOf (v : FVec F S16384x512 .bf16) (p : FVec F S2x8x8192x8192 .f32) : FVec F S16384x512 .bf16 :=
  truncf .bf16 (shapeCast _ (transpose S2x8192x8x64 [0, 3, 1, 2] (Host.dotGeneral dot_S2x8192x8x64_S2x8x8192x8192_S2x8x64x8192_1_3_3_2_02_01 none (shapeCast _ (extf .f32 v bitsLt_bf16_f32) shapeCasts_S16384x512_S2x8192x8x64) p) transposes_S2x8x64x8192_S2x8192x8x64_0_3_1_2) shapeCasts_S2x8192x8x64_S16384x512) bitsLt_bf16_f32

/-- The reference's result of its arguments, as these stages. -/
def resOf (q k : FVec F S2x4x8192x256 .bf16) (v : FVec F S16384x512 .bf16) : FVec F S16384x512 .bf16 :=
  let s := scOf (chOf q) (chOf k) (gtOf q) (gtOf k)
  let e := exOf s (mxOf s)
  outOf v (prOf e (snOf e))

/-- The reference's result is these stages. -/
theorem res_eq (m : (ℓ : Loc nD τ sig) → Buf (Elt F) ℓ) (c : Dev nD) :
    res_main_v70 m c = resOf (m ((c.tc : Thread nD τ).loc main_arg2)) (m ((c.tc : Thread nD τ).loc main_arg3)) (m ((c.tc : Thread nD τ).loc main_arg4)) := rfl

/-- A maximum over the last axis from minus infinity is the greatest of the row. -/
theorem row_max {n0 n1 n2 n : Nat} {u : Shape} (s : FVec Ideal ⟨4, ![n0, n1, n2, n]⟩ .f32) (h : (⟨4, ![n0, n1, n2, n]⟩ : Shape).ReducesTo [3] ⟨3, ![n0, n1, n2]⟩)
    (hu : 0 < u.numel) (x : Fin n0) (y : Fin n1) (z : Fin n2) :
    @Eq EReal ((Host.reduce (@FloatOps.maximumf Ideal _ .f32) s (constant (F := Ideal) u .f32 0xFF800000#32) h hu : FVec Ideal ⟨3, ![n0, n1, n2]⟩ .f32) (ix3 x y z)) (Finset.univ.sup fun k => s (ix4 x y z k)) := by
  pointwise []
  rw [show (Ideal.ofBits FTy.f32 4286578688#32 : EReal) = ⊥ from FoxIdeal.Math.negInf]
  rfl
theorem top_of (w : FVec Ideal S2x8x8192 .f32) (i : S2x8x8192.Idx) :
    @Eq EReal (maximumf (broadcastInDim S2x8x8192 ![] bcast_S_S2x8x8192 (constant (F := Ideal) S_ .f32 0xFF800000#32)) w i) (w i) := by
  pointwise []
  rw [show (Ideal.ofBits FTy.f32 4286578688#32 : EReal) = ⊥ from FoxIdeal.Math.negInf]
  exact max_eq_right bot_le
/-- The greatest score of a query. -/
theorem mx_t (s : FVec Ideal S2x8x8192x8192 .f32) (b : Fin 2) (h : Fin 8) (i : Fin 8192) :
    @Eq EReal (mxOf (F := Ideal) s (ix3 b h i)) (Finset.univ.sup fun k => s (ix4 b h i k)) :=
  (top_of _ _).trans (row_max s reducesTo_S2x8x8192x8192_S2x8x8192_d3 h_S_ b h i)
/-- The normaliser of a query. -/
theorem sn_t (s : FVec Ideal S2x8x8192x8192 .f32) (b : Fin 2) (h : Fin 8) (i : Fin 8192) :
    @Eq EReal (snOf (F := Ideal) s (ix3 b h i)) (∑ x, s (ix4 b h i x)) := by
  pointwise [snOf]
/-- A weight over the normaliser. -/
theorem pr_t (s : FVec Ideal S2x8x8192x8192 .f32) (z : FVec Ideal S2x8x8192 .f32) (b : Fin 2) (h : Fin 8) (i j : Fin 8192) :
    @Eq EReal (prOf (F := Ideal) s z (ix4 b h i j)) (Ideal.div (s (ix4 b h i j)) (z (ix3 b h i))) := by
  pointwise [prOf]
/-- The exponential of a score less the greatest. -/
theorem ex_t (s : FVec Ideal S2x8x8192x8192 .f32) (z : FVec Ideal S2x8x8192 .f32) (b : Fin 2) (h : Fin 8) (i j : Fin 8192) :
    @Eq EReal (exOf (F := Ideal) s z (ix4 b h i j)) (Ideal.exp (s (ix4 b h i j) - (z (ix3 b h i)))) := by
  pointwise [exOf]
/-- A masked score: the channels' product and the gate lanes' product, minus infinity after the query. -/
theorem sc_t (q k : FVec Ideal S2x8x8192x64 .f32) (cq ck : FVec Ideal S2x8x8192x8 .f32) (b : Fin 2) (h : Fin 8) (i j : Fin 8192) :
    @Eq EReal (scOf (F := Ideal) q k cq ck (ix4 b h i j)) (if j.val ≤ i.val then ∑ x, q (ix4 b h i x) * k (ix4 b h j x) + ∑ x, cq (ix4 b h i x) * ck (ix4 b h j x) else ⊥) := by
  pointwise [scOf]
  have e0 : (id (constant (F := Ideal) S_ FTy.f32 4286578688#32) ix0 : EReal) = ⊥ := FoxIdeal.Math.negInf
  rw [e0]
  have e1 : IntOp.cmpi CmpIPredicate.sle (BitVec.ofNat 32 j.val) (BitVec.ofNat 32 i.val) = 1#1 ↔ j.val ≤ i.val := by
    rw [show IntOp.cmpi CmpIPredicate.sle (BitVec.ofNat 32 j.val) (BitVec.ofNat 32 i.val) = BitVec.ofBool ((BitVec.ofNat 32 j.val).sle (BitVec.ofNat 32 i.val)) from rfl]
    have hj : (BitVec.ofNat 32 j.val).toInt = j.val := by rw [BitVec.toInt_eq_toNat_of_lt] <;> simp <;> omega
    have hi : (BitVec.ofNat 32 i.val).toInt = i.val := by rw [BitVec.toInt_eq_toNat_of_lt] <;> simp <;> omega
    rw [BitVec.sle_eq_decide, hj, hi]
    by_cases h : j.val ≤ i.val
    · simp [h]
    · simp [h]
  unfold Scalar.select
  by_cases h : j.val ≤ i.val
  · simp [e1, h]
  · simp [e1, h]
/-- An entry of the result: the values weighted. -/
theorem out_t (v : FVec Ideal S16384x512 .bf16) (p : FVec Ideal S2x8x8192x8192 .f32) (r : Fin 16384) (d : Fin 512) :
    @Eq EReal (outOf (F := Ideal) v p (ix2 r d)) (∑ x : Fin 8192, v (ix2 ⟨r.val / 8192 * 8192 + x.val, by omega⟩ d) * p (ix4 ⟨r.val / 8192, by omega⟩ ⟨d.val / 64, by omega⟩ ⟨r.val % 8192, by omega⟩ x)) := by
  pointwise [outOf]
/-- A channel of a head, in the pair's lanes. -/
theorem ch_t (a : FVec Ideal S2x4x8192x256 .bf16) (b : Fin 2) (p : Fin 4) (h : Fin 2) (q : Fin 8192) (l : Fin 64) :
    @Eq EReal (chOf (F := Ideal) a (ix4 b ⟨2 * p.val + h.val, by omega⟩ q l)) (a (ix4 b p q ⟨64 * h.val + l.val, by omega⟩)) := by
  pointwise [chOf]
  refine congrArg a ((ix4_inj _ _ _ _ _ _ _ _).mpr ⟨rfl, rfl, rfl, Fin.ext ?_⟩)
  show h.val * 64 + l.val = 64 * h.val + l.val; omega
/-- The pairs' gate lanes, chosen by pair. -/
theorem ct_t (x0 x1 x2 x3 : FVec Ideal S2x1x8192x2x8 .f32) (b : Fin 2) (p : Fin 4) (q : Fin 8192) (h : Fin 2) (l : Fin 8) :
    @Eq EReal (ctOf (F := Ideal) x0 x1 x2 x3 (ix5 b p q h l)) (if p.val = 0 then x0 (ix5 b 0 q h l) else if p.val = 1 then x1 (ix5 b 0 q h l) else if p.val = 2 then x2 (ix5 b 0 q h l) else x3 (ix5 b 0 q h l)) := by
  pointwise [ctOf]
  have hp := p.isLt
  rcases (by omega : p.val = 0 ∨ p.val = 1 ∨ p.val = 2 ∨ p.val = 3) with e | e | e | e
  all_goals
    simp only [e]
    rfl
/-- A gate lane of a head, in the lanes. -/
theorem ln_t (a : FVec Ideal S2x4x8192x256 .bf16) (b : Fin 2) (p : Fin 4) (q : Fin 8192) (h : Fin 8) (l : Fin 8) :
    @Eq EReal (lnOf (F := Ideal) a (ix5 b p q h l)) (a (ix4 b p q ⟨128 + (h.val * 8 + l.val), by omega⟩)) := by
  pointwise [lnOf]
theorem pk0_t (g : FVec Ideal S2x4x8192x8x8 .f32) (b : Fin 2) (q : Fin 8192) (h : Fin 2) (l : Fin 8) :
    @Eq EReal (pk0Of (F := Ideal) g (ix5 b 0 q h l)) (g (ix5 b 0 q ⟨0 + h.val, by omega⟩ l)) := by
  pointwise [pk0Of]
theorem pk1_t (g : FVec Ideal S2x4x8192x8x8 .f32) (b : Fin 2) (q : Fin 8192) (h : Fin 2) (l : Fin 8) :
    @Eq EReal (pk1Of (F := Ideal) g (ix5 b 0 q h l)) (g (ix5 b 1 q ⟨2 + h.val, by omega⟩ l)) := by
  pointwise [pk1Of]
theorem pk2_t (g : FVec Ideal S2x4x8192x8x8 .f32) (b : Fin 2) (q : Fin 8192) (h : Fin 2) (l : Fin 8) :
    @Eq EReal (pk2Of (F := Ideal) g (ix5 b 0 q h l)) (g (ix5 b 2 q ⟨4 + h.val, by omega⟩ l)) := by
  pointwise [pk2Of]
theorem pk3_t (g : FVec Ideal S2x4x8192x8x8 .f32) (b : Fin 2) (q : Fin 8192) (h : Fin 2) (l : Fin 8) :
    @Eq EReal (pk3Of (F := Ideal) g (ix5 b 0 q h l)) (g (ix5 b 3 q ⟨6 + h.val, by omega⟩ l)) := by
  pointwise [pk3Of]
/-- A gate lane of a head, by pair and half. -/
theorem hd_t (x : FVec Ideal S2x4x8192x2x8 .f32) (b : Fin 2) (p : Fin 4) (h : Fin 2) (q : Fin 8192) (l : Fin 8) :
    @Eq EReal (hdOf (F := Ideal) x (ix4 b ⟨2 * p.val + h.val, by omega⟩ q l)) (x (ix5 b p q h l)) := by
  pointwise [hdOf]

/-- A gate lane of a head: the eight lanes of head `2p+h`, after the 128 channels. -/
theorem gt_t (a : FVec Ideal S2x4x8192x256 .bf16) (b : Fin 2) (p : Fin 4) (h : Fin 2) (q : Fin 8192) (l : Fin 8) :
    @Eq EReal (gtOf (F := Ideal) a (ix4 b ⟨2 * p.val + h.val, by omega⟩ q l)) (a (ix4 b p q ⟨128 + ((2 * p.val + h.val) * 8 + l.val), by omega⟩)) := by
  unfold gtOf
  refine (hd_t _ b p h q l).trans ((ct_t _ _ _ _ b p q h l).trans ?_)
  match p with
  | 0 => exact (pk0_t _ b q h l).trans (ln_t a b 0 q _ l)
  | 1 => exact (pk1_t _ b q h l).trans (ln_t a b 1 q _ l)
  | 2 => exact (pk2_t _ b q h l).trans (ln_t a b 2 q _ l)
  | 3 => exact (pk3_t _ b q h l).trans (ln_t a b 3 q _ l)

/-- A sum over the lanes of a head of a pair: over its 64 channels and over its 8 gate lanes. -/
theorem lane_sum (p : Fin 4) (h : Fin 2) (Q K : Fin 256 → EReal) :
    (∑ l, (if FoxIdeal.Math.onLane p h l then Q l else 0) * K l)
      = ∑ x : Fin 64, Q ⟨64 * h.val + x.val, by omega⟩ * K ⟨64 * h.val + x.val, by omega⟩
        + ∑ x : Fin 8, Q ⟨128 + ((2 * p.val + h.val) * 8 + x.val), by omega⟩ * K ⟨128 + ((2 * p.val + h.val) * 8 + x.val), by omega⟩ := by
  have e : ∀ l, (if FoxIdeal.Math.onLane p h l then Q l else 0) * K l = if FoxIdeal.Math.onLane p h l then Q l * K l else 0 := fun l => by
    split_ifs
    · rfl
    · exact zero_mul _
  have s : (Finset.univ.filter fun l => FoxIdeal.Math.onLane p h l)
      = (Finset.univ.image fun x : Fin 64 => (⟨64 * h.val + x.val, by omega⟩ : Fin 256))
        ∪ Finset.univ.image fun x : Fin 8 => (⟨128 + ((2 * p.val + h.val) * 8 + x.val), by omega⟩ : Fin 256) := by
    ext l
    simp only [Finset.mem_filter, Finset.mem_univ, true_and, Finset.mem_union, Finset.mem_image]
    constructor
    · rintro (⟨h0, h1⟩ | ⟨h0, h1⟩)
      · exact Or.inl ⟨⟨l.val - 64 * h.val, by omega⟩, Fin.ext (by show 64 * h.val + (l.val - 64 * h.val) = l.val; omega)⟩
      · exact Or.inr ⟨⟨l.val - 128 - (2 * p.val + h.val) * 8, by omega⟩, Fin.ext (by show 128 + ((2 * p.val + h.val) * 8 + (l.val - 128 - (2 * p.val + h.val) * 8)) = l.val; omega)⟩
    · rintro (⟨x, rfl⟩ | ⟨x, rfl⟩)
      · exact Or.inl ⟨by show 64 * h.val + x.val < 128; omega, by show (64 * h.val + x.val) / 64 = h.val; omega⟩
      · exact Or.inr ⟨by show 128 ≤ 128 + ((2 * p.val + h.val) * 8 + x.val); omega, by show (128 + ((2 * p.val + h.val) * 8 + x.val) - 128) / 8 = 2 * p.val + h.val; omega⟩
  rw [Finset.sum_congr rfl fun l _ => e l, ← Finset.sum_filter, s, Finset.sum_union, Finset.sum_image, Finset.sum_image]
  · intro x _ y _ hxy
    have := congrArg Fin.val hxy
    exact Fin.ext (by simp only at this; omega)
  · intro x _ y _ hxy
    have := congrArg Fin.val hxy
    exact Fin.ext (by simp only at this; omega)
  · rw [Finset.disjoint_left]
    intro l h0 h1
    simp only [Finset.mem_image, Finset.mem_univ, true_and] at h0 h1
    obtain ⟨x, rfl⟩ := h0
    obtain ⟨y, hy⟩ := h1
    have := congrArg Fin.val hy
    simp only at this
    omega

/-! ## The layer -/

/-- The score of a query and a key of one head: their product on the head's lanes where the key is not after the query, else minus infinity. -/
def score (Q K : FVec Ideal S2x4x8192x256 .bf16) (b : Fin 2) (p : Fin 4) (h : Fin 2) (q k : Fin 8192) : EReal :=
  if k.val ≤ q.val then ∑ l : Fin 256, (if FoxIdeal.Math.onLane p h l then (Q (ix4 b p q l) : EReal) else 0) * K (ix4 b p k l) else ⊥

/-- An entry of the forgetting attention: the softmax of its row's scores in its column's head, weighting the values of its column. -/
def entry (Q K : FVec Ideal S2x4x8192x256 .bf16) (V : FVec Ideal S16384x512 .bf16) (r : Fin 16384) (d : Fin 512) : EReal :=
  FoxIdeal.Math.attend (score Q K ⟨r.val / 8192, by omega⟩ ⟨d.val / 128, by omega⟩ ⟨d.val % 128 / 64, by omega⟩ ⟨r.val % 8192, by omega⟩)
    fun k => V (ix2 ⟨r.val / 8192 * 8192 + k.val, by omega⟩ d)

/-- The forgetting attention of whole arrays. -/
def G (Q K : FVec Ideal S2x4x8192x256 .bf16) (V : FVec Ideal S16384x512 .bf16) : FVec Ideal S16384x512 .bf16 := fun i => entry Q K V (i 0) (i 1)

/-- The reference's masked score is the layer's. -/
theorem score_t (Q K : FVec Ideal S2x4x8192x256 .bf16) (b : Fin 2) (p : Fin 4) (h : Fin 2) (q k : Fin 8192) :
    @Eq EReal (scOf (F := Ideal) (chOf Q) (chOf K) (gtOf Q) (gtOf K) (ix4 b ⟨2 * p.val + h.val, by omega⟩ q k)) (score Q K b p h q k) := by
  refine (sc_t _ _ _ _ b _ q k).trans (if_congr Iff.rfl ?_ rfl)
  rw [lane_sum]
  exact congrArg₂ (· + ·) (Finset.sum_congr rfl fun x _ => congrArg₂ (· * ·) (ch_t Q b p h q x) (ch_t K b p h k x))
    (Finset.sum_congr rfl fun x _ => congrArg₂ (· * ·) (gt_t Q b p h q x) (gt_t K b p h k x))

/-- The reference's result, at an entry, is the layer's. -/
theorem res_t (Q K : FVec Ideal S2x4x8192x256 .bf16) (V : FVec Ideal S16384x512 .bf16) (r : Fin 16384) (d : Fin 512) :
    @Eq EReal (resOf (F := Ideal) Q K V (ix2 r d)) (entry Q K V r d) := by
  have hd : (⟨d.val / 64, by omega⟩ : Fin 8) = ⟨2 * (d.val / 128) + d.val % 128 / 64, by omega⟩ := Fin.ext (by show d.val / 64 = 2 * (d.val / 128) + d.val % 128 / 64; omega)
  have hs := fun k => score_t Q K ⟨r.val / 8192, by omega⟩ ⟨d.val / 128, by omega⟩ ⟨d.val % 128 / 64, by omega⟩ ⟨r.val % 8192, by omega⟩ k
  unfold resOf
  refine (out_t _ _ r d).trans ?_
  rw [hd]
  generalize hS : scOf (F := Ideal) (chOf Q) (chOf K) (gtOf Q) (gtOf K) = S
  rw [hS] at hs
  unfold entry FoxIdeal.Math.attend
  refine Finset.sum_congr rfl fun k _ => (mul_comm _ _).trans (congrArg₂ (· * ·) ?_ rfl)
  have hm := (mx_t S ⟨r.val / 8192, by omega⟩ ⟨2 * (d.val / 128) + d.val % 128 / 64, by omega⟩ ⟨r.val % 8192, by omega⟩).trans
    (Finset.sup_congr rfl fun k _ => hs k)
  have he := fun k => (ex_t S (mxOf S) ⟨r.val / 8192, by omega⟩ ⟨2 * (d.val / 128) + d.val % 128 / 64, by omega⟩ ⟨r.val % 8192, by omega⟩ k).trans
    (congrArg Ideal.exp (congrArg₂ (· - ·) (hs k) hm))
  exact (pr_t _ _ _ _ _ k).trans (congrArg₂ Ideal.div (he k) ((sn_t _ _ _ _).trans (Finset.sum_congr rfl fun k' _ => he k')))

/-- The reference's result is the layer of its arguments. -/
theorem res_G (Q K : FVec Ideal S2x4x8192x256 .bf16) (V : FVec Ideal S16384x512 .bf16) : resOf (F := Ideal) Q K V = G Q K V := by
  funext i
  idx_vars i
  exact res_t Q K V i0 i1

end Cert.FoxRefIdeal.Math

end
-- ==== Proof.FoxValue.lean ====
/-
The forgetting attention's kernel: its result array after the run, and the run.
-/
module

public import proofs.«01_k».proof.Proof.FoxRef
public import Idealize.ShloMosaic.Lib.Pointwise
public import Idealize.ShloMosaic.Lib.Pipeline.ValueKit

@[expose] public section

set_option maxRecDepth 16384

noncomputable section

namespace Cert.FoxIdeal.Math

open Cert.FoxIdeal Cert.FoxIdeal.Gen Idealize.ShloMosaic Idealize.ShloMosaic.Pipeline Idealize.ShloMosaic.TcCoe Idealize.SL.Sem

variable (m : (ℓ : Loc nD τ sig) → Buf (Elt Ideal) ℓ) (ρ : Dev nD → PrngReg)

/-- The layer at an entry of a point's tile is the attention that the point's run of tiles accumulates. -/
theorem entry_tile (c : Dev nD) (t : Fin (cfgA 0).N) (r : Fin 512) (d : Fin 128) :
    FoxRefIdeal.Math.entry (m ((c : Thread nD τ).loc main_arg2)) (m ((c : Thread nD τ).loc main_arg3)) (m ((c : Thread nD τ).loc main_arg4))
        ⟨(tb t * 16 + tq t) * 512 + r.val, by have := tb_lt t; have := tq_lt t; omega⟩ ⟨tp t * 128 + d.val, by have := tp_lt t; omega⟩
      = attend (scT m c t ⟨d.val / 64, by omega⟩ r) (valT m c t d) := by
  have h0 := tb_lt t
  have h1 := tq_lt t
  have h2 := tp_lt t
  have e0 : ((tb t * 16 + tq t) * 512 + r.val) / 8192 = tb t := by omega
  have e1 : ((tb t * 16 + tq t) * 512 + r.val) % 8192 = 512 * tq t + r.val := by omega
  have e2 : (tp t * 128 + d.val) / 128 = tp t := by omega
  have e3 : (tp t * 128 + d.val) % 128 / 64 = d.val / 64 := by omega
  unfold FoxRefIdeal.Math.entry
  refine congrArg₂ attend ?_ ?_
  · have f0 : (⟨((tb t * 16 + tq t) * 512 + r.val) / 8192, by omega⟩ : Fin 2) = bF t := Fin.ext e0
    have f1 : (⟨((tb t * 16 + tq t) * 512 + r.val) % 8192, by omega⟩ : Fin 8192) = qF t r := Fin.ext e1
    have f2 : (⟨(tp t * 128 + d.val) / 128, by omega⟩ : Fin 4) = pF t := Fin.ext e2
    have f3 : (⟨(tp t * 128 + d.val) % 128 / 64, by omega⟩ : Fin 2) = ⟨d.val / 64, by omega⟩ := Fin.ext e3
    rw [f0, f1, f2, f3]
    rfl
  · funext k
    refine congrArg (m ((c : Thread nD τ).loc main_arg4)) ((ix2_inj _ _ _ _).mpr ⟨Fin.ext ?_, Fin.ext ?_⟩)
    · show ((tb t * 16 + tq t) * 512 + r.val) / 8192 * 8192 + k.val = 8192 * tb t + k.val
      rw [e0]; omega
    · show tp t * 128 + d.val = 128 * tp t + d.val
      omega

/-- Where a point's tile lies in the result array. -/
theorem out_place (t : Fin (cfgA 0).N) (r : Fin 512) (d : Fin 128) : (((cfgA 0).win 3).blk t).view.emb (ix2 r d)
    = ix2 ⟨(tb t * 16 + tq t) * 512 + r.val, by have := tb_lt t; have := tq_lt t; omega⟩ ⟨tp t * 128 + d.val, by have := tp_lt t; omega⟩ := by
  blk_ext []
  · exact congrArg (· * 512 + r.val) (congrFun (index3 t) 0)
  · exact congrArg (· * 128 + d.val) (congrFun (index3 t) 1)

/-- The tiles written back cover the result array. -/
theorem out_covers : ((cfgA 0).win 3).Covers := by decide +kernel

/-- What a point that writes back leaves in its tile is the layer there. -/
theorem tile_value (c : Dev nD) (hf : Finite m c) (t : Fin (cfgA 0).N) (ht : ((cfgA 0).win 3).flush t = true) (y : S512x128.Idx) :
    @Eq EReal ((traj0 0 m ρ c t.val t.isLt).1 y)
      (FoxRefIdeal.Math.G (m ((c : Thread nD τ).loc main_arg2)) (m ((c : Thread nD τ).loc main_arg3)) (m ((c : Thread nD τ).loc main_arg4)) ((((cfgA 0).win 3).blk t).view.emb y)) := by
  idx_vars y
  rw [out_place]
  exact (out_eq ρ c t hf (flush3 t ht) y0 y1 ⟨y1.val / 64, by omega⟩ rfl).trans (entry_tile m c t y0 y1).symm

/-- The kernel's result array after its run: the layer of its arguments. -/
theorem final (c : Dev nD) (hf : Finite m c) : (dats 0 m ρ 0 c).arrAt 3 (cfgA 0).N
    = FoxRefIdeal.Math.G (m ((c : Thread nD τ).loc main_arg2)) (m ((c : Thread nD τ).loc main_arg3)) (m ((c : Thread nD τ).loc main_arg4)) :=
  (dats 0 m ρ 0 c).arrAt_eq_of_covers 3 _ out_covers fun t ht y => tile_value m ρ c hf t ht y

/-- The kernel's run leaves the layer of its arguments in its result array, if the tables are the schedule's and the queries and keys finite. -/
theorem run (hp : Pinned 0 m) (hf : ∀ c : Dev nD, Finite m c) : θ_run defs (onTc (τ := τ) (main (F := Ideal))) ⟨m, fun _ => 0, ρ⟩ fun r => ∀ c : Dev nD,
      r.2.mem ((c.tc : Thread nD τ).loc main_v0) = FoxRefIdeal.Math.G (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 3).trans (final m ρ c (hf c)), h.2 c⟩) (θ_run_and (run_main 0 m ρ hp) (unchanged 0 m ρ hp))

end Cert.FoxIdeal.Math

namespace Cert.FoxRefIdeal.Math

open Cert.FoxRefIdeal Cert.FoxRefIdeal.Gen Idealize.ShloMosaic Idealize.ShloMosaic.TcCoe Idealize.SL.Sem

/-- The reference's run leaves the layer of its arguments in its result array. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c.tc : Thread nD τ).loc main_v70) = G (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (res_eq m c)).trans (res_G _ _ _), (h c).2⟩) (Value.run m ρ)

end Cert.FoxRefIdeal.Math

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Fox
public import proofs.«01_k».proof.Proof.Gen.Fox.Skeleton
public import proofs.«01_k».proof.Proof.Gen.Fox.Launch
public import proofs.«01_k».proof.Proof.Gen.Fox.Flash
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Flash
public import proofs.«01_k».proof.Proof.Gen.FoxRefIdeal
public import proofs.«01_k».proof.Proof.Gen.FoxRefIdeal.Run
public import proofs.«01_k».proof.Proof.Gen.Pre_finite_router
public import proofs.«01_k».proof.Proof.Gen.Pre_causal_finite
public import proofs.«01_k».proof.Proof.Gen.KernelIdeal.Value
public import proofs.«01_k».proof.Proof.Gen.MergeIdeal.Value
public import proofs.«01_k».proof.Proof.Gen.MergeRefIdeal.Run
public import proofs.«01_k».proof.Proof.Gen.InprojIdeal.Value
public import proofs.«01_k».proof.Proof.Gen.InprojRefIdeal.Run
public import proofs.«01_k».proof.Proof.MergeValue
public import proofs.«01_k».proof.Proof.InprojValue
public import proofs.«01_k».proof.Proof.RefRun
public import proofs.«01_k».proof.Proof.MoePre
public import proofs.«01_k».proof.Proof.FoxPre
public import proofs.«01_k».proof.Proof.FoxValue
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Merge.Gen.facts, Cert.MergeIdeal.Gen.facts, Cert.MergeRefIdeal.Gen.facts, Cert.Inproj.Gen.facts, Cert.InprojIdeal.Gen.facts, Cert.InprojRefIdeal.Gen.facts, Cert.Fox.Gen.facts, Cert.FoxIdeal.Gen.facts, Cert.FoxRefIdeal.Gen.facts, Cert.Pre_finite_router.Gen.facts, Cert.Pre_causal_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems rfl _⟩) (Cert.ReferenceIdeal.Moe.run m ρ),
  fun m ρ _ => (θ_run Cert.ReferenceIdeal.defs _ _).mono (fun r h => ⟨fun c => (h c).2, sem_eq_zero_of_no_sems rfl _⟩) (Cert.ReferenceIdeal.Moe.run m ρ),
  fun m ρ _ => Cert.Merge.Gen.frame m ρ,
  fun m ρ _ => Cert.MergeIdeal.Gen.frame m ρ,
  fun m ρ _ => (θ_run Cert.MergeRefIdeal.defs _ _).mono (fun r h => ⟨fun c => (h c).2, sem_eq_zero_of_no_sems rfl _⟩) (Cert.MergeRefIdeal.Math.run m ρ),
  fun m ρ _ => Cert.Inproj.Gen.frame m ρ,
  fun m ρ _ => Cert.InprojIdeal.Gen.frame m ρ,
  fun m ρ _ => (θ_run Cert.InprojRefIdeal.defs _ _).mono (fun r h => ⟨fun c => (h c).2.2.2.2.2, sem_eq_zero_of_no_sems rfl _⟩) (Cert.InprojRefIdeal.Math.run m ρ),
  fun m ρ h => Cert.Fox.Gen.frame 0 m ρ (Cert.Fox.Math.pinned m h),
  fun m ρ h => Cert.FoxIdeal.Gen.frame 0 m ρ (Cert.FoxIdeal.Math.pinned m h),
  fun m ρ _ => (θ_run Cert.FoxRefIdeal.defs _ _).mono (fun r h => ⟨fun c => (h c).2, sem_eq_zero_of_no_sems rfl _⟩) (Cert.FoxRefIdeal.Math.run m ρ),
  fun m ρ _ => (θ_run Cert.FoxRefIdeal.defs _ _).mono (fun r h => ⟨fun c => (h c).2, sem_eq_zero_of_no_sems rfl _⟩) (Cert.FoxRefIdeal.Math.run m ρ),
  IdealRules.named_const.statement Cert.KernelIdeal.κ "mask" .f32 0xF149F2CA#32 ⊥ rfl,
  by
    pair_intro
    · run_from Cert.KernelIdeal.Moe.run m g (fun c => Cert.Pre_finite_router.finite_of_pre _ _ _ _ _ _ _ _ _ (hpre c))
    · run_from Cert.ReferenceIdeal.Moe.run_value m' g' (fun c => by
        obtain ⟨a0, a1, a2, a3, a4, a5, -⟩ := hagree c
        rw [a0, a1, a2, a3, a4, a5]
        exact Cert.Pre_finite_router.finite_of_pre _ _ _ _ _ _ _ _ _ (hpre c)),
  trivial, by
    pair_intro
    · run_from Cert.MergeIdeal.Math.run m g
    · run_from Cert.MergeRefIdeal.Math.run m' g',
  trivial, by
    pair_intro
    · run_from Cert.InprojIdeal.Math.run m g
    · run_from Cert.InprojRefIdeal.Math.run m' g'
      all_goals
        have e : Cert.InprojRefIdeal.Math.args m' c = Cert.InprojIdeal.Math.args m c := by
          obtain ⟨a0, a1, a2, a3, a4, a5, a6, a7⟩ := hagree c
          simp only [Cert.InprojRefIdeal.Math.args, Cert.InprojIdeal.Math.args, Cert.InprojRefIdeal.Math.Args.mk.injEq]
          exact ⟨a0, a1, a2, a3, a4, a5, a6, a7⟩
        rw [e],
  IdealRules.named_const.statement Cert.FoxIdeal.κ "mask" .f32 0xF149F2CA#32 ⊥ rfl,
  by
    pair_intro
    · run_from Cert.FoxIdeal.Math.run m g (Cert.FoxIdeal.Math.pinned m hpre) (fun c => Cert.FoxIdeal.Math.finite m hpre c)
    · run_from Cert.FoxRefIdeal.Math.run m' g'⟩

end Cert.Proof

end
